-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "removed" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)) (v6 : (c : Dev Cert.Kernel2Ideal.nD) → Buf (Elt Ideal) ((c.tc : Thread Cert.Kernel2Ideal.nD Cert.Kernel2Ideal.τ).loc Cert.Kernel2Ideal.main_v3_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_v3_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v48) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v52) = v4 c
          ∧ r.2.mem ((c.tc : Thread Cert.Reference2Ideal.nD Cert.Reference2Ideal.τ).loc Cert.Reference2Ideal.main_v38) = v5 c
          ∧ r.2.mem ((c.tc : Thread Cert.Reference2Ideal.nD Cert.Reference2Ideal.τ).loc Cert.Reference2Ideal.main_v43) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
    ∧ preserves_Kernel4_Kernel4Ideal
    ∧ algebraic_Kernel4Ideal_Reference4Ideal (hKernel4Ideal := hKernel4Ideal) (hReference4Ideal := hReference4Ideal)
-- ==== Pre_finite.lean ====
abbrev S4x8192x512 : Shape := ⟨3, ![4, 8192, 512]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel

variable [Facts]

def fn {F : FTy → Type} [FloatOps F] (main_arg0 : FVec F S4x8192x512 .f32) (main_arg1 : FVec F S4x8192x512 .f32) (main_arg2 : FVec F S4x8192x512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x512 .f32 := Host.absf main_arg1
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S4x8192x512 .f32 := Host.absf main_arg2
  let main_cst_2 : FVec F S_ .f32 := constant S_ .f32 0x7F800000#32
  let main_v10 : FVec F S4x8192x512 .f32 := broadcastInDim S4x8192x512 ![] bcast_S_S4x8192x512 main_cst_2
  let main_v11 : IVec S4x8192x512 1 := cmpf .olt main_v9 main_v10
  let main_c_3 : IVec S_ 1 := constantI S_ 1 1#1
  let main_v12 : IVec S_ 1 := (fun x v => Host.reduce IntOp.andi x v reducesTo_S4x8192x512_S_d0_1_2 h_S_) main_v11 main_c_3
  let main_v13 : IVec S_ 1 := andi main_v8 main_v12
  main_v13
-- ==== Pre_routed.lean ====
abbrev S296 : Shape := ⟨1, ![296]⟩
abbrev S1 : Shape := ⟨1, ![1]⟩
abbrev S1212416x128 : Shape := ⟨2, ![1212416, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S296 : S_.BroadcastsInDim S296 (![] : Fin 0 → Fin S296.rank)
  reducesTo_S296_S_d0 : S296.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S296 32) (main_arg1 : IVec S1 32) (main_arg2 : FVec F S1212416x128 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 32 := constantI S_ 32 32#32
  let main_v2 : IVec S296 32 := broadcastInDim S296 ![] bcast_S_S296 main_c_0
  let main_v3 : IVec S296 1 := cmpi .slt main_arg0 main_v2
  let main_v4 : IVec S296 1 := andi main_v1 main_v3
  let main_c_1 : IVec S_ 1 := constantI S_ 1 1#1
  let main_v5 : IVec S_ 1 := (fun x v => Host.reduce IntOp.andi x v reducesTo_S296_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S4x8192x512 : Shape := ⟨3, ![4, 8192, 512]⟩
abbrev S4x32x256x512 : Shape := ⟨4, ![4, 32, 256, 512]⟩
abbrev S_ : Shape := ⟨0, ![]⟩
abbrev S4x32x512 : Shape := ⟨3, ![4, 32, 512]⟩
abbrev S4x32x1x512 : Shape := ⟨4, ![4, 32, 1, 512]⟩
abbrev S1x8192x128 : Shape := ⟨3, ![1, 8192, 128]⟩
abbrev S1x32x1x128 : Shape := ⟨4, ![1, 32, 1, 128]⟩
abbrev S2x8192x128 : Shape := ⟨3, ![2, 8192, 128]⟩
abbrev S256x1024 : Shape := ⟨2, ![256, 1024]⟩
abbrev S1x128 : Shape := ⟨2, ![1, 128]⟩
abbrev S256x256 : Shape := ⟨2, ![256, 256]⟩
abbrev S32x128 : Shape := ⟨2, ![32, 128]⟩
abbrev S64x128 : Shape := ⟨2, ![64, 128]⟩
abbrev S128x128 : Shape := ⟨2, ![128, 128]⟩
abbrev S96x128 : Shape := ⟨2, ![96, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x1024x128 : Shape := ⟨3, ![1, 1024, 128]⟩
abbrev S1024x128 : Shape := ⟨2, ![1024, 128]⟩

abbrev nBuf : Space → Nat
  | .hbm => 17
  | .vmem => 13
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x32x256x512, .f32⟩
  | .hbm, ⟨4, _⟩ => ⟨S_, .f32⟩
  | .hbm, ⟨5, _⟩ => ⟨S4x32x512, .f32⟩
  | .hbm, ⟨6, _⟩ => ⟨S4x32x1x512, .f32⟩
  | .hbm, ⟨7, _⟩ => ⟨S_, .f32⟩
  | .hbm, ⟨8, _⟩ => ⟨S4x32x1x512, .f32⟩
  | .hbm, ⟨9, _⟩ => ⟨S4x32x1x512, .f32⟩
  | .hbm, ⟨10, _⟩ => ⟨S_, .f32⟩
  | .hbm, ⟨11, _⟩ => ⟨S4x8192x512, .f32⟩
  | .hbm, ⟨12, _⟩ => ⟨S4x8192x512, .f32⟩
  | .hbm, ⟨13, _⟩ => ⟨S4x8192x512, .bf16⟩
  | .hbm, ⟨14, _⟩ => ⟨S4x8192x512, .bf16⟩
  | .hbm, ⟨15, _⟩ => ⟨S4x8192x512, .bf16⟩
  | .hbm, ⟨16, _⟩ => ⟨S4x8192x512, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x32x1x128, .f32⟩
  | .local _ .vmem, ⟨7, _⟩ => ⟨S1x32x1x128, .f32⟩
  | .local _ .vmem, ⟨8, _⟩ => ⟨S1x8192x128, .bf16⟩
  | .local _ .vmem, ⟨9, _⟩ => ⟨S1x8192x128, .bf16⟩
  | .local _ .vmem, ⟨10, _⟩ => ⟨S2x8192x128, .bf16⟩
  | .local _ .vmem, ⟨11, _⟩ => ⟨S2x8192x128, .bf16⟩
  | .local _ .vmem, ⟨12, _⟩ => ⟨S256x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_8 : BitVec 32 := 0#32
  let c32_i32 : BitVec 32 := 32#32
  let v38 : BitVec 32 := Scalar.addi c0_i32_8 c32_i32
  let c1_i32 : BitVec 32 := 1#32
  ⟨c0_i32_8, v38, c1_i32⟩
def k0_mult1 (k0_t1 : Fin k0_t1_loop.trips) : BitVec 32 :=
  let c0_i32_8 : BitVec 32 := 0#32
  let c1_i32 : BitVec 32 := 1#32
  let arg10 : BitVec 32 := Scf.iv c0_i32_8 c1_i32 k0_t1
  let c256_i32 : BitVec 32 := 256#32
  let v40 : BitVec 32 := Scalar.muli arg10 c256_i32
  v40
def k0_off1 (k0_t1 : Fin k0_t1_loop.trips) : Fin 3 → Nat :=
  let c0_14 : Index := 0#32
  let c0_i32_8 : BitVec 32 := 0#32
  let c1_i32 : BitVec 32 := 1#32
  let arg10 : BitVec 32 := Scf.iv c0_i32_8 c1_i32 k0_t1
  let c256_i32 : BitVec 32 := 256#32
  let v40 : BitVec 32 := Scalar.muli arg10 c256_i32
  let v41 : BitVec 32 := v40
  let v42 : Index := Scalar.indexCast v41
  let c0_15 : Index := 0#32
  ![0, v42.toNat, 0]
def k0_off2 (k0_t1 : Fin k0_t1_loop.trips) : Fin 3 → Nat :=
  let c0_21 : Index := 0#32
  let c0_i32_8 : BitVec 32 := 0#32
  let c1_i32 : BitVec 32 := 1#32
  let arg10 : BitVec 32 := Scf.iv c0_i32_8 c1_i32 k0_t1
  let c256_i32 : BitVec 32 := 256#32
  let v40 : BitVec 32 := Scalar.muli arg10 c256_i32
  let v41 : BitVec 32 := v40
  let v60 : Index := Scalar.indexCast v41
  let c0_22 : Index := 0#32
  ![0, v60.toNat, 0]
def k0_off3 (k0_t1 : Fin k0_t1_loop.trips) : Fin 3 → Nat :=
  let c1 : Index := 1#32
  let c0_i32_8 : BitVec 32 := 0#32
  let c1_i32 : BitVec 32 := 1#32
  let arg10 : BitVec 32 := Scf.iv c0_i32_8 c1_i32 k0_t1
  let c256_i32 : BitVec 32 := 256#32
  let v40 : BitVec 32 := Scalar.muli arg10 c256_i32
  let v41 : BitVec 32 := v40
  let v84 : Index := Scalar.indexCast v41
  let c0_29 : Index := 0#32
  ![1, v84.toNat, 0]
@[reducible] def k0_t2_loop : Scf.Loop 32 :=
  let c0_i32_10 : BitVec 32 := 0#32
  let c32_i32_11 : BitVec 32 := 32#32
  let v39 : BitVec 32 := Scalar.addi c0_i32_10 c32_i32_11
  let c1_i32_12 : BitVec 32 := 1#32
  ⟨c0_i32_10, v39, c1_i32_12⟩
def k0_mult2 (k0_t2 : Fin k0_t2_loop.trips) : BitVec 32 :=
  let c0_i32_10 : BitVec 32 := 0#32
  let c1_i32_12 : BitVec 32 := 1#32
  let arg10 : BitVec 32 := Scf.iv c0_i32_10 c1_i32_12 k0_t2
  let c256_i32 : BitVec 32 := 256#32
  let v40 : BitVec 32 := Scalar.muli arg10 c256_i32
  v40
def k0_off4 (k0_t2 : Fin k0_t2_loop.trips) : Fin 3 → Nat :=
  let c0_14 : Index := 0#32
  let c0_i32_10 : BitVec 32 := 0#32
  let c1_i32_12 : BitVec 32 := 1#32
  let arg10 : BitVec 32 := Scf.iv c0_i32_10 c1_i32_12 k0_t2
  let c256_i32 : BitVec 32 := 256#32
  let v40 : BitVec 32 := Scalar.muli arg10 c256_i32
  let v41 : BitVec 32 := v40
  let v42 : Index := Scalar.indexCast v41
  let c0_15 : Index := 0#32
  ![0, v42.toNat, 0]
def k0_mult3 : BitVec 32 :=
  let c0_i32_80 : BitVec 32 := 0#32
  let c7168_i32 : BitVec 32 := 7168#32
  let v267 : BitVec 32 := Scalar.minsi c0_i32_80 c7168_i32
  v267
def k0_off5 : Fin 3 → Nat :=
  let c0_81 : Index := 0#32
  let c0_i32_80 : BitVec 32 := 0#32
  let c7168_i32 : BitVec 32 := 7168#32
  let v267 : BitVec 32 := Scalar.minsi c0_i32_80 c7168_i32
  let v268 : BitVec 32 := v267
  let v269 : Index := Scalar.indexCast v268
  let c0_82 : Index := 0#32
  ![0, v269.toNat, 0]
@[reducible] def k0_t3_loop (k0_t2 : Fin k0_t2_loop.trips) : Scf.Loop 32 :=
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_96 : BitVec 32 := 1#32
  ⟨c0_i32_94, v299, c1_i32_96⟩
def k0_mult4 (k0_t2 : Fin k0_t2_loop.trips) (k0_t3 : Fin (k0_t3_loop k0_t2).trips) : BitVec 32 :=
  let c0_i32_94 : BitVec 32 := 0#32
  let c1_i32_96 : BitVec 32 := 1#32
  let arg11 : BitVec 32 := Scf.iv c0_i32_94 c1_i32_96 k0_t3
  let c1024_i32 : BitVec 32 := 1024#32
  let v314 : BitVec 32 := Scalar.muli arg11 c1024_i32
  let c7168_i32_102 : BitVec 32 := 7168#32
  let v315 : BitVec 32 := Scalar.minsi v314 c7168_i32_102
  v315
def k0_off6 (k0_t2 : Fin k0_t2_loop.trips) (k0_t3 : Fin (k0_t3_loop k0_t2).trips) : Fin 3 → Nat :=
  let c1 : Index := 1#32
  let c0_i32_94 : BitVec 32 := 0#32
  let c1_i32_96 : BitVec 32 := 1#32
  let arg11 : BitVec 32 := Scf.iv c0_i32_94 c1_i32_96 k0_t3
  let c1024_i32 : BitVec 32 := 1024#32
  let v314 : BitVec 32 := Scalar.muli arg11 c1024_i32
  let c7168_i32_102 : BitVec 32 := 7168#32
  let v315 : BitVec 32 := Scalar.minsi v314 c7168_i32_102
  let v316 : BitVec 32 := v315
  let v317 : Index := Scalar.indexCast v316
  let c0_103 : Index := 0#32
  ![1, v317.toNat, 0]
def k0_mult5 (k0_t2 : Fin k0_t2_loop.trips) (k0_t3 : Fin (k0_t3_loop k0_t2).trips) : BitVec 32 :=
  let c0_i32_94 : BitVec 32 := 0#32
  let c1_i32_96 : BitVec 32 := 1#32
  let arg11 : BitVec 32 := Scf.iv c0_i32_94 c1_i32_96 k0_t3
  let c1024_i32_107 : BitVec 32 := 1024#32
  let v322 : BitVec 32 := Scalar.muli arg11 c1024_i32_107
  v322
def k0_off7 (k0_t2 : Fin k0_t2_loop.trips) (k0_t3 : Fin (k0_t3_loop k0_t2).trips) : Fin 3 → Nat :=
  let c0_109 : Index := 0#32
  let c0_i32_94 : BitVec 32 := 0#32
  let c1_i32_96 : BitVec 32 := 1#32
  let arg11 : BitVec 32 := Scf.iv c0_i32_94 c1_i32_96 k0_t3
  let c1024_i32_107 : BitVec 32 := 1024#32
  let v322 : BitVec 32 := Scalar.muli arg11 c1024_i32_107
  let v323 : BitVec 32 := v322
  let v335 : Index := Scalar.indexCast v323
  let c0_110 : Index := 0#32
  ![0, v335.toNat, 0]
def k0_mult6 (k0_t2 : Fin k0_t2_loop.trips) (k0_t3 : Fin (k0_t3_loop k0_t2).trips) : BitVec 32 :=
  let c0_i32_94 : BitVec 32 := 0#32
  let c1_i32_96 : BitVec 32 := 1#32
  let arg11 : BitVec 32 := Scf.iv c0_i32_94 c1_i32_96 k0_t3
  let c1024_i32_112 : BitVec 32 := 1024#32
  let v340 : BitVec 32 := Scalar.muli arg11 c1024_i32_112
  v340
def k0_off8 (k0_t2 : Fin k0_t2_loop.trips) (k0_t3 : Fin (k0_t3_loop k0_t2).trips) : Fin 3 → Nat :=
  let c1_114 : Index := 1#32
  let c0_i32_94 : BitVec 32 := 0#32
  let c1_i32_96 : BitVec 32 := 1#32
  let arg11 : BitVec 32 := Scf.iv c0_i32_94 c1_i32_96 k0_t3
  let c1024_i32_112 : BitVec 32 := 1024#32
  let v340 : BitVec 32 := Scalar.muli arg11 c1024_i32_112
  let v341 : BitVec 32 := v340
  let v353 : Index := Scalar.indexCast v341
  let c0_115 : Index := 0#32
  ![1, v353.toNat, 0]
def k0_mult7 (k0_t2 : Fin k0_t2_loop.trips) (k0_t3 : Fin (k0_t3_loop k0_t2).trips) : BitVec 32 :=
  let c0_i32_94 : BitVec 32 := 0#32
  let c1_i32_96 : BitVec 32 := 1#32
  let arg11 : BitVec 32 := Scf.iv c0_i32_94 c1_i32_96 k0_t3
  let c1_i32_117 : BitVec 32 := 1#32
  let v358 : BitVec 32 := Scalar.addi arg11 c1_i32_117
  let c1024_i32_118 : BitVec 32 := 1024#32
  let v359 : BitVec 32 := Scalar.muli v358 c1024_i32_118
  let c7168_i32_119 : BitVec 32 := 7168#32
  let v360 : BitVec 32 := Scalar.minsi v359 c7168_i32_119
  v360
def k0_off9 (k0_t2 : Fin k0_t2_loop.trips) (k0_t3 : Fin (k0_t3_loop k0_t2).trips) : Fin 3 → Nat :=
  let c0_120 : Index := 0#32
  let c0_i32_94 : BitVec 32 := 0#32
  let c1_i32_96 : BitVec 32 := 1#32
  let arg11 : BitVec 32 := Scf.iv c0_i32_94 c1_i32_96 k0_t3
  let c1_i32_117 : BitVec 32 := 1#32
  let v358 : BitVec 32 := Scalar.addi arg11 c1_i32_117
  let c1024_i32_118 : BitVec 32 := 1024#32
  let v359 : BitVec 32 := Scalar.muli v358 c1024_i32_118
  let c7168_i32_119 : BitVec 32 := 7168#32
  let v360 : BitVec 32 := Scalar.minsi v359 c7168_i32_119
  let v361 : BitVec 32 := v360
  let v362 : Index := Scalar.indexCast v361
  let c0_121 : Index := 0#32
  ![0, v362.toNat, 0]
@[reducible] def k0_t4_loop (k0_t2 : Fin k0_t2_loop.trips) : Scf.Loop 32 :=
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let v296 : BitVec 32 := Scalar.addi c0_i32_94 v295
  let c1_i32_97 : BitVec 32 := 1#32
  ⟨v299, v296, c1_i32_97⟩
def k0_mult8 (k0_t2 : Fin k0_t2_loop.trips) (k0_t4 : Fin (k0_t4_loop k0_t2).trips) : BitVec 32 :=
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1024_i32 : BitVec 32 := 1024#32
  let v314 : BitVec 32 := Scalar.muli arg11 c1024_i32
  let c7168_i32_102 : BitVec 32 := 7168#32
  let v315 : BitVec 32 := Scalar.minsi v314 c7168_i32_102
  v315
def k0_off10 (k0_t2 : Fin k0_t2_loop.trips) (k0_t4 : Fin (k0_t4_loop k0_t2).trips) : Fin 3 → Nat :=
  let c1 : Index := 1#32
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1024_i32 : BitVec 32 := 1024#32
  let v314 : BitVec 32 := Scalar.muli arg11 c1024_i32
  let c7168_i32_102 : BitVec 32 := 7168#32
  let v315 : BitVec 32 := Scalar.minsi v314 c7168_i32_102
  let v316 : BitVec 32 := v315
  let v317 : Index := Scalar.indexCast v316
  let c0_103 : Index := 0#32
  ![1, v317.toNat, 0]
def k0_mult9 (k0_t2 : Fin k0_t2_loop.trips) (k0_t4 : Fin (k0_t4_loop k0_t2).trips) : BitVec 32 :=
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1024_i32_107 : BitVec 32 := 1024#32
  let v322 : BitVec 32 := Scalar.muli arg11 c1024_i32_107
  v322
def k0_off11 (k0_t2 : Fin k0_t2_loop.trips) (k0_t4 : Fin (k0_t4_loop k0_t2).trips) : Fin 3 → Nat :=
  let c0_109 : Index := 0#32
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1024_i32_107 : BitVec 32 := 1024#32
  let v322 : BitVec 32 := Scalar.muli arg11 c1024_i32_107
  let v323 : BitVec 32 := v322
  let v335 : Index := Scalar.indexCast v323
  let c0_110 : Index := 0#32
  ![0, v335.toNat, 0]
def k0_mult10 (k0_t2 : Fin k0_t2_loop.trips) (k0_t4 : Fin (k0_t4_loop k0_t2).trips) : BitVec 32 :=
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1024_i32_112 : BitVec 32 := 1024#32
  let v340 : BitVec 32 := Scalar.muli arg11 c1024_i32_112
  v340
def k0_off12 (k0_t2 : Fin k0_t2_loop.trips) (k0_t4 : Fin (k0_t4_loop k0_t2).trips) : Fin 3 → Nat :=
  let c1_114 : Index := 1#32
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1024_i32_112 : BitVec 32 := 1024#32
  let v340 : BitVec 32 := Scalar.muli arg11 c1024_i32_112
  let v341 : BitVec 32 := v340
  let v353 : Index := Scalar.indexCast v341
  let c0_115 : Index := 0#32
  ![1, v353.toNat, 0]
def k0_mult11 (k0_t2 : Fin k0_t2_loop.trips) (k0_t4 : Fin (k0_t4_loop k0_t2).trips) : BitVec 32 :=
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1_i32_117 : BitVec 32 := 1#32
  let v358 : BitVec 32 := Scalar.addi arg11 c1_i32_117
  let c1024_i32_118 : BitVec 32 := 1024#32
  let v359 : BitVec 32 := Scalar.muli v358 c1024_i32_118
  let c7168_i32_119 : BitVec 32 := 7168#32
  let v360 : BitVec 32 := Scalar.minsi v359 c7168_i32_119
  v360
def k0_off13 (k0_t2 : Fin k0_t2_loop.trips) (k0_t4 : Fin (k0_t4_loop k0_t2).trips) : Fin 3 → Nat :=
  let c0_120 : Index := 0#32
  let c0_i32_94 : BitVec 32 := 0#32
  let c0_i32_10 : BitVec 32 := 0#32
  let c1_i32_12 : BitVec 32 := 1#32
  let arg10 : BitVec 32 := Scf.iv c0_i32_10 c1_i32_12 k0_t2
  let c4_i32 : BitVec 32 := 4#32
  let v276 : BitVec 32 := Scalar.addi arg10 c4_i32
  let c1_i32_86 : BitVec 32 := 1#32
  let v277 : BitVec 32 := Scalar.subi v276 c1_i32_86
  let c0_i32_88 : BitVec 32 := 0#32
  let v279 : BitVec 1 := Scalar.cmpi .sgt v277 c0_i32_88
  let v280 : BitVec 32 := Scalar.extui v279
  let c0_i32_89 : BitVec 32 := 0#32
  let v281 : BitVec 1 := Scalar.cmpi .slt v277 c0_i32_89
  let v282 : BitVec 32 := Scalar.extui v281
  let v283 : BitVec 32 := Scalar.subi v280 v282
  let c4_i32_87 : BitVec 32 := 4#32
  let c0_i32_90 : BitVec 32 := 0#32
  let v284 : BitVec 1 := Scalar.cmpi .sgt c4_i32_87 c0_i32_90
  let v285 : BitVec 32 := Scalar.extui v284
  let c0_i32_91 : BitVec 32 := 0#32
  let v286 : BitVec 1 := Scalar.cmpi .slt c4_i32_87 c0_i32_91
  let v287 : BitVec 32 := Scalar.extui v286
  let v288 : BitVec 32 := Scalar.subi v285 v287
  let v289 : BitVec 1 := Scalar.cmpi .ne v283 v288
  let v290 : BitVec 32 := Scalar.remsi v277 c4_i32_87
  let c0_i32_92 : BitVec 32 := 0#32
  let v291 : BitVec 1 := Scalar.cmpi .ne v290 c0_i32_92
  let v292 : BitVec 1 := Scalar.andi v289 v291
  let v278 : BitVec 32 := Scalar.divsi v277 c4_i32_87
  let c1_i32_93 : BitVec 32 := 1#32
  let v293 : BitVec 32 := Scalar.subi v278 c1_i32_93
  let v294 : BitVec 32 := Scalar.select v292 v293 v278
  let v295 : BitVec 32 := Scalar.subi v294 c0_i32_94
  let c1_i32_95 : BitVec 32 := 1#32
  let v297 : BitVec 32 := Scalar.divsi v295 c1_i32_95
  let v298 : BitVec 32 := Scalar.muli v297 c1_i32_95
  let v299 : BitVec 32 := Scalar.addi c0_i32_94 v298
  let c1_i32_97 : BitVec 32 := 1#32
  let arg11 : BitVec 32 := Scf.iv v299 c1_i32_97 k0_t4
  let c1_i32_117 : BitVec 32 := 1#32
  let v358 : BitVec 32 := Scalar.addi arg11 c1_i32_117
  let c1024_i32_118 : BitVec 32 := 1024#32
  let v359 : BitVec 32 := Scalar.muli v358 c1024_i32_118
  let c7168_i32_119 : BitVec 32 := 7168#32
  let v360 : BitVec 32 := Scalar.minsi v359 c7168_i32_119
  let v361 : BitVec 32 := v360
  let v362 : Index := Scalar.indexCast v361
  let c0_121 : Index := 0#32
  ![0, v362.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | "removed" => some ⊥
  | _ => none
-- ==== ReferenceIdeal.lean ====
abbrev S4x8192x512 : Shape := ⟨3, ![4, 8192, 512]⟩
abbrev S4x8192x8x64 : Shape := ⟨4, ![4, 8192, 8, 64]⟩
abbrev S4x32x256x8x64 : Shape := ⟨5, ![4, 32, 256, 8, 64]⟩
abbrev S_ : Shape := ⟨0, ![]⟩
abbrev S4x32x8x64 : Shape := ⟨4, ![4, 32, 8, 64]⟩
abbrev S32 : Shape := ⟨1, ![32]⟩
abbrev S8192 : Shape := ⟨1, ![8192]⟩
abbrev S1x32 : Shape := ⟨2, ![1, 32]⟩
abbrev S8192x1 : Shape := ⟨2, ![8192, 1]⟩
abbrev S8192x32 : Shape := ⟨2, ![8192, 32]⟩
abbrev S4x8x8192x32 : Shape := ⟨4, ![4, 8, 8192, 32]⟩
abbrev S4x8x8192x3 : Shape := ⟨4, ![4, 8, 8192, 3]⟩
abbrev S4x8x8192x1x3 : Shape := ⟨5, ![4, 8, 8192, 1, 3]⟩
abbrev S32x1 : Shape := ⟨2, ![32, 1]⟩
abbrev S1x1x1x32x1 : Shape := ⟨5, ![1, 1, 1, 32, 1]⟩
abbrev S4x8x8192x32x3 : Shape := ⟨5, ![4, 8, 8192, 32, 3]⟩
abbrev S1x1x8192x32 : Shape := ⟨4, ![1, 1, 8192, 32]⟩
abbrev S1x8192 : Shape := ⟨2, ![1, 8192]⟩
abbrev S8192x8192 : Shape := ⟨2, ![8192, 8192]⟩
abbrev S4x8x8192x32x256 : Shape := ⟨5, ![4, 8, 8192, 32, 256]⟩
abbrev S4x8x8192x8192 : Shape := ⟨4, ![4, 8, 8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩

abbrev nBuf : Space → Nat
  | .hbm => 98
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8x64, .f32⟩
  | .hbm, ⟨4, _⟩ => ⟨S4x8192x8x64, .f32⟩
  | .hbm, ⟨5, _⟩ => ⟨S4x8192x8x64, .f32⟩
  | .hbm, ⟨6, _⟩ => ⟨S4x32x256x8x64, .f32⟩
  | .hbm, ⟨7, _⟩ => ⟨S_, .f32⟩
  | .hbm, ⟨8, _⟩ => ⟨S4x32x8x64, .f32⟩
  | .hbm, ⟨9, _⟩ => ⟨S_, .f32⟩
  | .hbm, ⟨10, _⟩ => ⟨S4x32x8x64, .f32⟩
  | .hbm, ⟨11, _⟩ => ⟨S4x32x8x64, .f32⟩
  | .hbm, ⟨12, _⟩ => ⟨S32, .i32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x32, .i32⟩
  | .hbm, ⟨33, _⟩ => ⟨S8192x1, .i32⟩
  | .hbm, ⟨34, _⟩ => ⟨S8192x32, .i32⟩
  | .hbm, ⟨35, _⟩ => ⟨S8192x32, .i32⟩
  | .hbm, ⟨36, _⟩ => ⟨S8192x32, .i1⟩
  | .hbm, ⟨37, _⟩ => ⟨S4x8x8192x32, .f32⟩
  | .hbm, ⟨38, _⟩ => ⟨S_, .f32⟩
  | .hbm, ⟨39, _⟩ => ⟨S_, .f32⟩
  | .hbm, ⟨40, _⟩ => ⟨S4x8x8192x32, .i1⟩
  | .hbm, ⟨41, _⟩ => ⟨S4x8x8192x32, .f32⟩
  | .hbm, ⟨42, _⟩ => ⟨S4x8x8192x32, .f32⟩
  | .hbm, ⟨43, _⟩ => ⟨S4x8x8192x3, .f32⟩
  | .hbm, ⟨44, _⟩ => ⟨S4x8x8192x3, .i32⟩
  | .hbm, ⟨45, _⟩ => ⟨S4x8x8192x1x3, .i32⟩
  | .hbm, ⟨46, _⟩ => ⟨S32x1, .i32⟩
  | .hbm, ⟨47, _⟩ => ⟨S1x1x1x32x1, .i32⟩
  | .hbm, ⟨48, _⟩ => ⟨S4x8x8192x32x3, .i32⟩
  | .hbm, ⟨49, _⟩ => ⟨S4x8x8192x32x3, .i32⟩
  | .hbm, ⟨50, _⟩ => ⟨S4x8x8192x32x3, .i1⟩
  | .hbm, ⟨51, _⟩ => ⟨S_, .i1⟩
  | .hbm, ⟨52, _⟩ => ⟨S4x8x8192x32, .i1⟩
  | .hbm, ⟨53, _⟩ => ⟨S1x1x8192x32, .i1⟩
  | .hbm, ⟨54, _⟩ => ⟨S4x8x8192x32, .i1⟩
  | .hbm, ⟨55, _⟩ => ⟨S4x8x8192x32, .i1⟩
  | .hbm, ⟨56, _⟩ => ⟨S1x8192, .i32⟩
  | .hbm, ⟨57, _⟩ => ⟨S8192x1, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S1x8192, .i32⟩
  | .hbm, ⟨62, _⟩ => ⟨S8192x1, .i32⟩
  | .hbm, ⟨63, _⟩ => ⟨S8192x8192, .i32⟩
  | .hbm, ⟨64, _⟩ => ⟨S8192x8192, .i32⟩
  | .hbm, ⟨65, _⟩ => ⟨S8192x8192, .i1⟩
  | .hbm, ⟨66, _⟩ => ⟨S8192x8192, .i1⟩
  | .hbm, ⟨67, _⟩ => ⟨S4x8x8192x32x256, .i1⟩
  | .hbm, ⟨68, _⟩ => ⟨S4x8x8192x8192, .i1⟩
  | .hbm, ⟨69, _⟩ => ⟨S1x1x8192x8192, .i1⟩
  | .hbm, ⟨70, _⟩ => ⟨S4x8x8192x8192, .i1⟩
  | .hbm, ⟨71, _⟩ => ⟨S4x8x8192x8192, .i1⟩
  | .hbm, ⟨72, _⟩ => ⟨S_, .f32⟩
  | .hbm, ⟨73, _⟩ => ⟨S4x8192x8x64, .f32⟩
  | .hbm, ⟨74, _⟩ => ⟨S4x8192x8x64, .f32⟩
  | .hbm, ⟨75, _⟩ => ⟨S4x8x8192x8192, .f32⟩
  | .hbm, ⟨76, _⟩ => ⟨S_, .f32⟩
  | .hbm, ⟨77, _⟩ => ⟨S_, .f32⟩
  | .hbm, ⟨78, _⟩ => ⟨S4x8x8192x8192, .f32⟩
  | .hbm, ⟨79, _⟩ => ⟨S4x8x8192x8192, .f32⟩
  | .hbm, ⟨80, _⟩ => ⟨S_, .f32⟩
  | .hbm, ⟨81, _⟩ => ⟨S4x8x8192, .f32⟩
  | .hbm, ⟨82, _⟩ => ⟨S_, .f32⟩
  | .hbm, ⟨83, _⟩ => ⟨S4x8x8192, .f32⟩
  | .hbm, ⟨84, _⟩ => ⟨S4x8x8192, .f32⟩
  | .hbm, ⟨85, _⟩ => ⟨S4x8x8192x1, .f32⟩
  | .hbm, ⟨86, _⟩ => ⟨S4x8x8192x8192, .f32⟩
  | .hbm, ⟨87, _⟩ => ⟨S4x8x8192x8192, .f32⟩
  | .hbm, ⟨88, _⟩ => ⟨S4x8x8192x8192, .f32⟩
  | .hbm, ⟨89, _⟩ => ⟨S_, .f32⟩
  | .hbm, ⟨90, _⟩ => ⟨S4x8x8192, .f32⟩
  | .hbm, ⟨91, _⟩ => ⟨S4x8x8192x1, .f32⟩
  | .hbm, ⟨92, _⟩ => ⟨S4x8x8192x8192, .f32⟩
  | .hbm, ⟨93, _⟩ => ⟨S4x8x8192x8192, .f32⟩
  | .hbm, ⟨94, _⟩ => ⟨S4x8x64x8192, .f32⟩
  | .hbm, ⟨95, _⟩ => ⟨S4x8192x8x64, .f32⟩
  | .hbm, ⟨96, _⟩ => ⟨S4x8192x512, .f32⟩
  | .hbm, ⟨97, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v16 : Ref sig .tc := ⟨.hbm, 42, rfl⟩
abbrev main_values : Ref sig .tc := ⟨.hbm, 43, rfl⟩
abbrev main_indices : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_3 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_call2_v0 : Ref sig .tc := ⟨.hbm, 77, rfl⟩
abbrev main_call2_v1 : Ref sig .tc := ⟨.hbm, 78, rfl⟩
abbrev main_v46 : Ref sig .tc := ⟨.hbm, 79, rfl⟩
abbrev main_cst_5 : Ref sig .tc := ⟨.hbm, 80, rfl⟩
abbrev main_v47 : Ref sig .tc := ⟨.hbm, 81, rfl⟩
abbrev main_cst_6 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_7 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x6144 : Shape := ⟨2, ![4, 6144]⟩
abbrev S1024 : Shape := ⟨1, ![1024]⟩
abbrev S1024x2560 : Shape := ⟨2, ![1024, 2560]⟩
abbrev S4x1x6144 : Shape := ⟨3, ![4, 1, 6144]⟩
abbrev S1x1024 : Shape := ⟨2, ![1, 1024]⟩
abbrev S4x8192x512 : Shape := ⟨3, ![4, 8192, 512]⟩
abbrev S4x64x8x128x64 : Shape := ⟨5, ![4, 64, 8, 128, 64]⟩
abbrev S4x32x1x512 : Shape := ⟨4, ![4, 32, 1, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S1x4x8x128x64 : Shape := ⟨5, ![1, 4, 8, 128, 64]⟩
abbrev S1x2x1x512 : Shape := ⟨4, ![1, 2, 1, 512]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩
abbrev S512x512 : Shape := ⟨2, ![512, 512]⟩
abbrev S128x64 : Shape := ⟨2, ![128, 64]⟩
abbrev S1x1x1x128x64 : Shape := ⟨5, ![1, 1, 1, 128, 64]⟩
abbrev S256x512 : Shape := ⟨2, ![256, 512]⟩
abbrev S1x512 : Shape := ⟨2, ![1, 512]⟩
abbrev S1x1x1x512 : Shape := ⟨4, ![1, 1, 1, 512]⟩

abbrev nBuf : Space → Nat
  | .hbm => 14
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x2560, .f32⟩
  | .hbm, ⟨4, _⟩ => ⟨S4x1x6144, .f32⟩
  | .hbm, ⟨5, _⟩ => ⟨S1x1024, .f32⟩
  | .hbm, ⟨6, _⟩ => ⟨S1024x2560, .bf16⟩
  | .hbm, ⟨7, _⟩ => ⟨S4x8192x512, .bf16⟩
  | .hbm, ⟨8, _⟩ => ⟨S4x8192x512, .bf16⟩
  | .hbm, ⟨9, _⟩ => ⟨S4x8192x512, .bf16⟩
  | .hbm, ⟨10, _⟩ => ⟨S4x64x8x128x64, .f32⟩
  | .hbm, ⟨11, _⟩ => ⟨S4x64x8x128x64, .f32⟩
  | .hbm, ⟨12, _⟩ => ⟨S4x8192x512, .f32⟩
  | .hbm, ⟨13, _⟩ => ⟨S4x32x1x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x4x8x128x64, .f32⟩
  | .local _ .vmem, ⟨15, _⟩ => ⟨S1x4x8x128x64, .f32⟩
  | .local _ .vmem, ⟨16, _⟩ => ⟨S1x4x8x128x64, .f32⟩
  | .local _ .vmem, ⟨17, _⟩ => ⟨S1x4x8x128x64, .f32⟩
  | .local _ .vmem, ⟨18, _⟩ => ⟨S1x512x512, .f32⟩
  | .local _ .vmem, ⟨19, _⟩ => ⟨S1x512x512, .f32⟩
  | .local _ .vmem, ⟨20, _⟩ => ⟨S1x2x1x512, .f32⟩
  | .local _ .vmem, ⟨21, _⟩ => ⟨S1x2x1x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x8x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x8x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x8192x1024 : Shape := ⟨3, ![4, 8192, 1024]⟩
abbrev S4x6144 : Shape := ⟨2, ![4, 6144]⟩
abbrev S1024 : Shape := ⟨1, ![1024]⟩
abbrev S1024x2560 : Shape := ⟨2, ![1024, 2560]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x512 : Shape := ⟨3, ![4, 8192, 512]⟩
abbrev S4x32x256x512 : Shape := ⟨4, ![4, 32, 256, 512]⟩
abbrev S4x32x512 : Shape := ⟨3, ![4, 32, 512]⟩
abbrev S4x32x1x512 : Shape := ⟨4, ![4, 32, 1, 512]⟩
abbrev S4x64x128x8x64 : Shape := ⟨5, ![4, 64, 128, 8, 64]⟩
abbrev S4x64x8x128x64 : Shape := ⟨5, ![4, 64, 8, 128, 64]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x2560, .f32⟩
  | .hbm, ⟨4, _⟩ => ⟨S4x1x6144, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x2560, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x512, .f32⟩
  | .hbm, ⟨42, _⟩ => ⟨S_, .f32⟩
  | .hbm, ⟨43, _⟩ => ⟨S4x8192x512, .f32⟩
  | .hbm, ⟨44, _⟩ => ⟨S4x8192x512, .f32⟩
  | .hbm, ⟨45, _⟩ => ⟨S_, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x32x256x512, .f32⟩
  | .hbm, ⟨50, _⟩ => ⟨S_, .f32⟩
  | .hbm, ⟨51, _⟩ => ⟨S4x32x512, .f32⟩
  | .hbm, ⟨52, _⟩ => ⟨S4x32x1x512, .f32⟩
  | .hbm, ⟨53, _⟩ => ⟨S_, .f32⟩
  | .hbm, ⟨54, _⟩ => ⟨S4x32x1x512, .f32⟩
  | .hbm, ⟨55, _⟩ => ⟨S4x32x1x512, .f32⟩
  | .hbm, ⟨56, _⟩ => ⟨S_, .f32⟩
  | .hbm, ⟨57, _⟩ => ⟨S4x8192x512, .f32⟩
  | .hbm, ⟨58, _⟩ => ⟨S4x8192x512, .f32⟩
  | .hbm, ⟨59, _⟩ => ⟨S4x8192x512, .bf16⟩
  | .hbm, ⟨60, _⟩ => ⟨S4x8192x512, .bf16⟩
  | .hbm, ⟨61, _⟩ => ⟨S4x8192x512, .bf16⟩
  | .hbm, ⟨62, _⟩ => ⟨S4x64x128x8x64, .f32⟩
  | .hbm, ⟨63, _⟩ => ⟨S4x64x8x128x64, .f32⟩
  | .hbm, ⟨64, _⟩ => ⟨S4x64x128x8x64, .f32⟩
  | .hbm, ⟨65, _⟩ => ⟨S4x64x8x128x64, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Kernel3.lean ====
abbrev S296 : Shape := ⟨1, ![296]⟩
abbrev S1 : Shape := ⟨1, ![1]⟩
abbrev S1212416x128 : Shape := ⟨2, ![1212416, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1212416x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1212416x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S296, .i32⟩
  | .local _ .smem, ⟨1, _⟩ => ⟨S1, .i32⟩
  | _, _ => ⟨S1212416x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S296 : Shape := ⟨1, ![296]⟩
abbrev S1 : Shape := ⟨1, ![1]⟩
abbrev S1212416x128 : Shape := ⟨2, ![1212416, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S296x512x1024 : Shape := ⟨3, ![296, 512, 1024]⟩
abbrev S296x1 : Shape := ⟨2, ![296, 1]⟩
abbrev S296x1024x2048 : Shape := ⟨3, ![296, 1024, 2048]⟩
abbrev S296x512x2048 : Shape := ⟨3, ![296, 512, 2048]⟩
abbrev S296x1x2048 : Shape := ⟨3, ![296, 1, 2048]⟩
abbrev S_ : Shape := ⟨0, ![]⟩
abbrev S296x1024x1024 : Shape := ⟨3, ![296, 1024, 1024]⟩
abbrev S296x1x1024 : Shape := ⟨3, ![296, 1, 1024]⟩
abbrev S296x1x1 : Shape := ⟨3, ![296, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S296, .i32⟩
  | .hbm, ⟨1, _⟩ => ⟨S1, .i32⟩
  | .hbm, ⟨2, _⟩ => ⟨S1212416x128, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S296x512x1024, .f32⟩
  | .hbm, ⟨8, _⟩ => ⟨S296x1, .i32⟩
  | .hbm, ⟨9, _⟩ => ⟨S296x1024x2048, .f32⟩
  | .hbm, ⟨10, _⟩ => ⟨S296x512x2048, .f32⟩
  | .hbm, ⟨11, _⟩ => ⟨S296x1, .i32⟩
  | .hbm, ⟨12, _⟩ => ⟨S296x1x2048, .f32⟩
  | .hbm, ⟨13, _⟩ => ⟨S296x512x2048, .f32⟩
  | .hbm, ⟨14, _⟩ => ⟨S296x512x2048, .f32⟩
  | .hbm, ⟨15, _⟩ => ⟨S296x512x1024, .f32⟩
  | .hbm, ⟨16, _⟩ => ⟨S_, .f32⟩
  | .hbm, ⟨17, _⟩ => ⟨S296x512x1024, .f32⟩
  | .hbm, ⟨18, _⟩ => ⟨S296x512x1024, .f32⟩
  | .hbm, ⟨19, _⟩ => ⟨S296x512x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S296x512x1024, .f32⟩
  | .hbm, ⟨24, _⟩ => ⟨S296x512x1024, .f32⟩
  | .hbm, ⟨25, _⟩ => ⟨S_, .f32⟩
  | .hbm, ⟨26, _⟩ => ⟨S296x512x1024, .f32⟩
  | .hbm, ⟨27, _⟩ => ⟨S296x512x1024, .f32⟩
  | .hbm, ⟨28, _⟩ => ⟨S_, .f32⟩
  | .hbm, ⟨29, _⟩ => ⟨S296x512x1024, .f32⟩
  | .hbm, ⟨30, _⟩ => ⟨S296x512x1024, .f32⟩
  | .hbm, ⟨31, _⟩ => ⟨S296x512x1024, .f32⟩
  | .hbm, ⟨32, _⟩ => ⟨S296x512x1024, .f32⟩
  | .hbm, ⟨33, _⟩ => ⟨S_, .f32⟩
  | .hbm, ⟨34, _⟩ => ⟨S296x512x1024, .f32⟩
  | .hbm, ⟨35, _⟩ => ⟨S296x512x1024, .f32⟩
  | .hbm, ⟨36, _⟩ => ⟨S_, .f32⟩
  | .hbm, ⟨37, _⟩ => ⟨S296x512x1024, .f32⟩
  | .hbm, ⟨38, _⟩ => ⟨S296x512x1024, .f32⟩
  | .hbm, ⟨39, _⟩ => ⟨S296x512x1024, .f32⟩
  | .hbm, ⟨40, _⟩ => ⟨S_, .f32⟩
  | .hbm, ⟨41, _⟩ => ⟨S296x512x1024, .f32⟩
  | .hbm, ⟨42, _⟩ => ⟨S296x512x1024, .f32⟩
  | .hbm, ⟨43, _⟩ => ⟨S296x512x1024, .f32⟩
  | .hbm, ⟨44, _⟩ => ⟨S296x1, .i32⟩
  | .hbm, ⟨45, _⟩ => ⟨S296x1024x1024, .f32⟩
  | .hbm, ⟨46, _⟩ => ⟨S296x512x1024, .f32⟩
  | .hbm, ⟨47, _⟩ => ⟨S296x1, .i32⟩
  | .hbm, ⟨48, _⟩ => ⟨S296x1x1024, .f32⟩
  | .hbm, ⟨49, _⟩ => ⟨S296x512x1024, .f32⟩
  | .hbm, ⟨50, _⟩ => ⟨S296x512x1024, .f32⟩
  | .hbm, ⟨51, _⟩ => ⟨S296, .i32⟩
  | .hbm, ⟨52, _⟩ => ⟨S296, .i32⟩
  | .hbm, ⟨53, _⟩ => ⟨S296, .i1⟩
  | .hbm, ⟨54, _⟩ => ⟨S296x1x1, .i1⟩
  | .hbm, ⟨55, _⟩ => ⟨S_, .f32⟩
  | .hbm, ⟨56, _⟩ => ⟨S_, .f32⟩
  | .hbm, ⟨57, _⟩ => ⟨S296x512x1024, .i1⟩
  | .hbm, ⟨58, _⟩ => ⟨S296x512x1024, .f32⟩
  | .hbm, ⟨59, _⟩ => ⟨S296x512x1024, .f32⟩
  | .hbm, ⟨60, _⟩ => ⟨S1212416x128, .f32⟩
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_cst_1 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_call4_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== Kernel4.lean ====
abbrev S128x8x1024 : Shape := ⟨3, ![128, 8, 1024]⟩
abbrev S128x6144 : Shape := ⟨2, ![128, 6144]⟩
abbrev S1024 : Shape := ⟨1, ![1024]⟩
abbrev S1024x2560 : Shape := ⟨2, ![1024, 2560]⟩
abbrev S128x8x6144 : Shape := ⟨3, ![128, 8, 6144]⟩
abbrev S1024x6144 : Shape := ⟨2, ![1024, 6144]⟩
abbrev S1x1024x6144 : Shape := ⟨3, ![1, 1024, 6144]⟩
abbrev S1x1024 : Shape := ⟨2, ![1, 1024]⟩
abbrev S1x1024x1024 : Shape := ⟨3, ![1, 1024, 1024]⟩
abbrev S128x8x8x64 : Shape := ⟨4, ![128, 8, 8, 64]⟩
abbrev S1x1024x512 : Shape := ⟨3, ![1, 1024, 512]⟩
abbrev S1x128x1024 : Shape := ⟨3, ![1, 128, 1024]⟩
abbrev S16x8x8x64 : Shape := ⟨4, ![16, 8, 8, 64]⟩
abbrev S1x128x512 : Shape := ⟨3, ![1, 128, 512]⟩
abbrev S128x1024 : Shape := ⟨2, ![128, 1024]⟩
abbrev S128 : Shape := ⟨1, ![128]⟩
abbrev S128x1 : Shape := ⟨2, ![128, 1]⟩
abbrev S128x2560 : Shape := ⟨2, ![128, 2560]⟩
abbrev S128x512 : Shape := ⟨2, ![128, 512]⟩
abbrev S128x64 : Shape := ⟨2, ![128, 64]⟩
abbrev S16x8x64 : Shape := ⟨3, ![16, 8, 64]⟩
abbrev S16x1x8x64 : Shape := ⟨4, ![16, 1, 8, 64]⟩

abbrev nBuf : Space → Nat
  | .hbm => 14
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1024x2560, .f32⟩
  | .hbm, ⟨4, _⟩ => ⟨S128x8x6144, .f32⟩
  | .hbm, ⟨5, _⟩ => ⟨S1024x6144, .f32⟩
  | .hbm, ⟨6, _⟩ => ⟨S1x1024x6144, .f32⟩
  | .hbm, ⟨7, _⟩ => ⟨S1x1024, .f32⟩
  | .hbm, ⟨8, _⟩ => ⟨S1024x2560, .bf16⟩
  | .hbm, ⟨9, _⟩ => ⟨S1x1024x1024, .f32⟩
  | .hbm, ⟨10, _⟩ => ⟨S128x8x8x64, .f32⟩
  | .hbm, ⟨11, _⟩ => ⟨S128x8x8x64, .f32⟩
  | .hbm, ⟨12, _⟩ => ⟨S128x8x8x64, .f32⟩
  | .hbm, ⟨13, _⟩ => ⟨S1x1024x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x1024, .f32⟩
  | .local _ .vmem, ⟨7, _⟩ => ⟨S1024x2560, .bf16⟩
  | .local _ .vmem, ⟨8, _⟩ => ⟨S16x8x8x64, .f32⟩
  | .local _ .vmem, ⟨9, _⟩ => ⟨S16x8x8x64, .f32⟩
  | .local _ .vmem, ⟨10, _⟩ => ⟨S16x8x8x64, .f32⟩
  | .local _ .vmem, ⟨11, _⟩ => ⟨S16x8x8x64, .f32⟩
  | .local _ .vmem, ⟨12, _⟩ => ⟨S16x8x8x64, .f32⟩
  | .local _ .vmem, ⟨13, _⟩ => ⟨S16x8x8x64, .f32⟩
  | .local _ .vmem, ⟨14, _⟩ => ⟨S1x128x512, .f32⟩
  | .local _ .vmem, ⟨15, _⟩ => ⟨S1x128x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x8x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x8x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]
-- ==== Reference4Ideal.lean ====
abbrev S128x8x1024 : Shape := ⟨3, ![128, 8, 1024]⟩
abbrev S128x6144 : Shape := ⟨2, ![128, 6144]⟩
abbrev S1024 : Shape := ⟨1, ![1024]⟩
abbrev S1024x2560 : Shape := ⟨2, ![1024, 2560]⟩
abbrev S128x1x6144 : Shape := ⟨3, ![128, 1, 6144]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2560 : Shape := ⟨3, ![128, 8, 2560]⟩
abbrev S128x8x512 : Shape := ⟨3, ![128, 8, 512]⟩
abbrev S128x8x8x64 : Shape := ⟨4, ![128, 8, 8, 64]⟩
abbrev S1x1024x512 : Shape := ⟨3, ![1, 1024, 512]⟩

abbrev nBuf : Space → Nat
  | .hbm => 59
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x6144, .f32⟩
  | .hbm, ⟨2, _⟩ => ⟨S1024, .f32⟩
  | .hbm, ⟨3, _⟩ => ⟨S1024x2560, .f32⟩
  | .hbm, ⟨4, _⟩ => ⟨S128x1x6144, .f32⟩
  | .hbm, ⟨5, _⟩ => ⟨S128x1x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x8x1024, .f32⟩
  | .hbm, ⟨12, _⟩ => ⟨S_, .f32⟩
  | .hbm, ⟨13, _⟩ => ⟨S128x8, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S128x8x1, .f32⟩
  | .hbm, ⟨22, _⟩ => ⟨S128x8x1024, .f32⟩
  | .hbm, ⟨23, _⟩ => ⟨S128x8x1024, .f32⟩
  | .hbm, ⟨24, _⟩ => ⟨S1x1x1024, .f32⟩
  | .hbm, ⟨25, _⟩ => ⟨S128x8x1024, .f32⟩
  | .hbm, ⟨26, _⟩ => ⟨S128x8x1024, .f32⟩
  | .hbm, ⟨27, _⟩ => ⟨S_, .f32⟩
  | .hbm, ⟨28, _⟩ => ⟨S128x1x1024, .f32⟩
  | .hbm, ⟨29, _⟩ => ⟨S128x1x1024, .f32⟩
  | .hbm, ⟨30, _⟩ => ⟨S128x8x1024, .f32⟩
  | .hbm, ⟨31, _⟩ => ⟨S128x8x1024, .f32⟩
  | .hbm, ⟨32, _⟩ => ⟨S128x8x1024, .f32⟩
  | .hbm, ⟨33, _⟩ => ⟨S128x8x1024, .f32⟩
  | .hbm, ⟨34, _⟩ => ⟨S128x8x2560, .f32⟩
  | .hbm, ⟨35, _⟩ => ⟨S128x8x512, .f32⟩
  | .hbm, ⟨36, _⟩ => ⟨S128x8x512, .f32⟩
  | .hbm, ⟨37, _⟩ => ⟨S128x8x512, .f32⟩
  | .hbm, ⟨38, _⟩ => ⟨S128x8x512, .f32⟩
  | .hbm, ⟨39, _⟩ => ⟨S128x8x512, .f32⟩
  | .hbm, ⟨40, _⟩ => ⟨S128x8x512, .f32⟩
  | .hbm, ⟨41, _⟩ => ⟨S128x8x512, .f32⟩
  | .hbm, ⟨42, _⟩ => ⟨S_, .f32⟩
  | .hbm, ⟨43, _⟩ => ⟨S128x8x512, .f32⟩
  | .hbm, ⟨44, _⟩ => ⟨S128x8x512, .f32⟩
  | .hbm, ⟨45, _⟩ => ⟨S_, .f32⟩
  | .hbm, ⟨46, _⟩ => ⟨S128x8x512, .f32⟩
  | .hbm, ⟨47, _⟩ => ⟨S128x8x512, .f32⟩
  | .hbm, ⟨48, _⟩ => ⟨S128x8x512, .f32⟩
  | .hbm, ⟨49, _⟩ => ⟨S_, .f32⟩
  | .hbm, ⟨50, _⟩ => ⟨S128x8x512, .f32⟩
  | .hbm, ⟨51, _⟩ => ⟨S128x8x512, .f32⟩
  | .hbm, ⟨52, _⟩ => ⟨S128x8x8x64, .f32⟩
  | .hbm, ⟨53, _⟩ => ⟨S128x8x8x64, .f32⟩
  | .hbm, ⟨54, _⟩ => ⟨S128x8x8x64, .f32⟩
  | .hbm, ⟨55, _⟩ => ⟨S128x8x8x64, .f32⟩
  | .hbm, ⟨56, _⟩ => ⟨S128x8x8x64, .f32⟩
  | .hbm, ⟨57, _⟩ => ⟨S128x8x8x64, .f32⟩
  | .hbm, ⟨58, _⟩ => ⟨S1x1024x512, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Proof.Experts.Math.lean ====
/- The experts of one block of tokens, as a formula: a gated pair of hidden layers, clipped, and a second layer on their product. -/
module

public import Idealize.ShloMosaic.Lib.Claim
public import Idealize.ShloMosaic.Lib.Pointwise

@[expose] public section

noncomputable section

namespace Cert.Proof.Experts

open Idealize.ShloMosaic

/-- One unit of a layer: inputs `x`, weights `w`, bias `b`. -/
def unit (x w : Fin 1024 → EReal) (b : EReal) : EReal := (∑ k, x k * w k) + b

/-- The gate `g`, cut off above, times its own logistic, times the clipped linear part `l` plus one. -/
def gated (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- Hidden unit `j`, the gate in the first half of the first layer and the linear part in the second. -/
def hidden (x : Fin 1024 → EReal) (w1 : Fin 1024 → Fin 2048 → EReal) (b1 : Fin 2048 → EReal) (j : Fin 1024) : EReal :=
  gated (unit x (fun k => w1 k ⟨j.val, by omega⟩) (b1 ⟨j.val, by omega⟩)) (unit x (fun k => w1 k ⟨j.val + 1024, by omega⟩) (b1 ⟨j.val + 1024, by omega⟩))

/-- One output of an expert on one token. -/
def expertRow (x : Fin 1024 → EReal) (w1 : Fin 1024 → Fin 2048 → EReal) (b1 : Fin 2048 → EReal) (w2 : Fin 1024 → EReal) (b2 : EReal) : EReal :=
  unit (hidden x w1 b1) w2 b2

/-- The tokens, stored in rows of 128: column `k` of row `r` of block `n`. -/
def token (x : Vec Ideal ⟨2, ![1212416, 128]⟩ .f32) (n : Fin 296) (r : Fin 512) (k : Fin 1024) : EReal :=
  x (ix2 ⟨((n.val * 512 + r.val) * 1024 + k.val) / 128, by omega⟩ ⟨((n.val * 512 + r.val) * 1024 + k.val) % 128, by omega⟩)

/-- The expert of block `n`. -/
def chosen (T0 : IVec ⟨1, ![296]⟩ 32) (n : Fin 296) : Fin 32 := ⟨min (T0 (ix1 n)).toInt.toNat 31, by omega⟩

variable (T0 : IVec ⟨1, ![296]⟩ 32) (T1 : IVec ⟨1, ![1]⟩ 32) (x : Vec Ideal ⟨2, ![1212416, 128]⟩ .f32) (w1 : Vec Ideal ⟨3, ![32, 1024, 2048]⟩ .f32)
  (b1 : Vec Ideal ⟨3, ![32, 1, 2048]⟩ .f32) (w2 : Vec Ideal ⟨3, ![32, 1024, 1024]⟩ .f32) (b2 : Vec Ideal ⟨3, ![32, 1, 1024]⟩ .f32)

/-- Column `e` of row `r` of block `n`: its expert's output on a busy block, zero on the others. -/
def entry (n : Fin 296) (r : Fin 512) (e : Fin 1024) : EReal :=
  if (BitVec.ofNat 32 n.val).slt (T1 (ix1 0)) = true then
    expertRow (token x n r) (fun k j => w1 (ix3 (chosen T0 n) k j)) (fun j => b1 (ix3 (chosen T0 n) 0 j)) (fun k => w2 (ix3 (chosen T0 n) k e))
      (b2 (ix3 (chosen T0 n) 0 e))
  else Ideal.ofBits .f32 0x00000000#32

/-- The whole result, stored like the tokens. -/
def result : Vec Ideal ⟨2, ![1212416, 128]⟩ .f32 := fun i =>
  entry T0 T1 x w1 b1 w2 b2
    ⟨((i 0).val * 128 + (i 1).val) / 524288, by have h0 : (i 0).val < 1212416 := (i 0).isLt; have h1 : (i 1).val < 128 := (i 1).isLt; omega⟩
    ⟨((i 0).val * 128 + (i 1).val) / 1024 % 512, by omega⟩ ⟨((i 0).val * 128 + (i 1).val) % 1024, by omega⟩

end Cert.Proof.Experts

end
-- ==== Proof.Experts.Reference.lean ====
/- The array the reference of the experts leaves. -/
module

public import proofs.«01_k».proof.Proof.Gen.Reference3Ideal.Read
public import proofs.«01_k».proof.Proof.Experts.Math

@[expose] public section

set_option maxRecDepth 16384

noncomputable section

namespace Cert.Proof.Experts.Reference

open Cert.Reference3Ideal Cert.Reference3Ideal.Gen Cert.Reference3Ideal.Read
open Idealize.ShloMosaic Idealize.ShloMosaic.TcCoe Idealize.ShloMosaic.Tactic

section Gather

variable {α : Type} {A B C n : Nat}

/-- The dimension numbers of a gather of whole planes of a rank-three operand. -/
abbrev planes (wf : GatherDims.WF ⟨3, ![A, B, C]⟩ ⟨2, ![n, 1]⟩ ⟨3, ![n, B, C]⟩ [1, 2] [0] [] [0] [] 1 ![1, B, C]) :
    GatherDims ⟨3, ![A, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- Such a gather reads the plane its index names, cut off to the operand's planes. -/
theorem plane_apply (hA : 0 < A) (wf : GatherDims.WF ⟨3, ![A, B, C]⟩ ⟨2, ![n, 1]⟩ ⟨3, ![n, B, C]⟩ [1, 2] [0] [] [0] [] 1 ![1, B, C])
    (x : (⟨3, ![A, B, C]⟩ : Shape).Idx → α) (idx : IVec ⟨2, ![n, 1]⟩ 32) (p : Fin n) (q : Fin B) (r : Fin C) :
    Host.gather (planes wf) x idx (ix3 p q r) = x (ix3 ⟨min (idx (ix2 p 0)).toInt.toNat (A - 1), by omega⟩ q r) := by
  refine congrArg x (funext fun a => Fin.ext ?_)
  show (planes wf).start (ix3 p q r) idx a + (planes wf).batchCoord (ix3 p q r) a + (planes wf).offCoord (ix3 p q r) a = _
  rw [GatherDims.batchCoord_eq_zero _ _ _ List.not_mem_nil]
  have hs : ∀ i, (planes wf).siIdx (ix3 p q r) i = ix2 p 0 := fun i => by
    funext b
    refine Fin.ext ?_
    match b with
    | ⟨0, _⟩ => rfl
    | ⟨1, _⟩ => exact Nat.lt_one_iff.1 ((planes wf).siIdx (ix3 p q r) i 1).isLt
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (planes wf).startIndexMap from List.mem_singleton.mpr rfl), hs]
    rfl
  | ⟨1, _⟩ =>
    unfold GatherDims.start
    rw [dif_neg (show ¬(⟨1, by decide⟩ : Fin 3) ∈ (planes wf).startIndexMap from by show ¬(1 : Fin 3) ∈ [(0 : Fin 3)]; decide)]
    show 0 + 0 + (planes wf).offCoord (ix3 p q r) 1 = q.val
    rw [Nat.zero_add]
    rfl
  | ⟨2, _⟩ =>
    unfold GatherDims.start
    rw [dif_neg (show ¬(⟨2, by decide⟩ : Fin 3) ∈ (planes wf).startIndexMap from by show ¬(2 : Fin 3) ∈ [(0 : Fin 3)]; decide)]
    show 0 + 0 + (planes wf).offCoord (ix3 p q r) 2 = r.val
    rw [Nat.zero_add]
    rfl

end Gather

variable (x0 : IVec S296 32) (x1 : IVec S1 32) (x2 : Vec Ideal S1212416x128 .f32) (x3 : Vec Ideal S32x1024x2048 .f32)
  (x4 : Vec Ideal S32x1x2048 .f32) (x5 : Vec Ideal S32x1024x1024 .f32) (x6 : Vec Ideal S32x1x1024 .f32)

theorem start0 (n : Fin 296) : val_main_call0_v0 (F := Ideal) x0 (ix2 n 0) = x0 (ix1 n) := by
  rw [val_main_call0_v0_apply]
  refine congrArg x0 (funext fun a => ?_)
  match a with | ⟨0, _⟩ => rfl
theorem start1 (n : Fin 296) : val_main_call1_v0 (F := Ideal) x0 (ix2 n 0) = x0 (ix1 n) := by
  rw [val_main_call1_v0_apply]
  refine congrArg x0 (funext fun a => ?_)
  match a with | ⟨0, _⟩ => rfl
theorem start3 (n : Fin 296) : val_main_call3_v0 (F := Ideal) x0 (ix2 n 0) = x0 (ix1 n) := by
  rw [val_main_call3_v0_apply]
  refine congrArg x0 (funext fun a => ?_)
  match a with | ⟨0, _⟩ => rfl
theorem start4 (n : Fin 296) : val_main_call4_v0 (F := Ideal) x0 (ix2 n 0) = x0 (ix1 n) := by
  rw [val_main_call4_v0_apply]
  refine congrArg x0 (funext fun a => ?_)
  match a with | ⟨0, _⟩ => rfl

theorem v1_at (n : Fin 296) (k : Fin 1024) (j : Fin 2048) : val_main_v1 (F := Ideal) x0 x3 (ix3 n k j) = x3 (ix3 (chosen x0 n) k j) := by
  refine (plane_apply (by omega) _ x3 _ n k j).trans ?_
  simp only [start0]
  rfl
theorem v3_at (n : Fin 296) (j : Fin 2048) : val_main_v3 (F := Ideal) x0 x4 (ix3 n 0 j) = x4 (ix3 (chosen x0 n) 0 j) := by
  refine (plane_apply (by omega) _ x4 _ n 0 j).trans ?_
  simp only [start1]
  rfl
theorem v23_at (n : Fin 296) (k : Fin 1024) (j : Fin 1024) : val_main_v23 (F := Ideal) x0 x5 (ix3 n k j) = x5 (ix3 (chosen x0 n) k j) := by
  refine (plane_apply (by omega) _ x5 _ n k j).trans ?_
  simp only [start3]
  rfl
theorem v25_at (n : Fin 296) (j : Fin 1024) : val_main_v25 (F := Ideal) x0 x6 (ix3 n 0 j) = x6 (ix3 (chosen x0 n) 0 j) := by
  refine (plane_apply (by omega) _ x6 _ n 0 j).trans ?_
  simp only [start4]
  rfl

theorem lidx2 (n : Fin 296) (r : Fin 512) (j : Fin 2048) (k : Fin 1024) : lidx_main_v2 (ix3 n r j) k = ix3 n r k := by
  funext a; match a with | ⟨0, _⟩ => rfl | ⟨1, _⟩ => rfl | ⟨2, _⟩ => rfl
theorem ridx2 (n : Fin 296) (r : Fin 512) (j : Fin 2048) (k : Fin 1024) : ridx_main_v2 (ix3 n r j) k = ix3 n k j := by
  funext a; match a with | ⟨0, _⟩ => rfl | ⟨1, _⟩ => rfl | ⟨2, _⟩ => rfl
theorem lidx24 (n : Fin 296) (r : Fin 512) (j k : Fin 1024) : lidx_main_v24 (ix3 n r j) k = ix3 n r k := by
  funext a; match a with | ⟨0, _⟩ => rfl | ⟨1, _⟩ => rfl | ⟨2, _⟩ => rfl
theorem ridx24 (n : Fin 296) (r : Fin 512) (j k : Fin 1024) : ridx_main_v24 (ix3 n r j) k = ix3 n k j := by
  funext a; match a with | ⟨0, _⟩ => rfl | ⟨1, _⟩ => rfl | ⟨2, _⟩ => rfl
theorem idx4 (n : Fin 296) (r : Fin 512) (j : Fin 2048) : idx_main_v4 (ix3 n r j) = ix3 n 0 j := by
  funext a; match a with | ⟨0, _⟩ => rfl | ⟨1, _⟩ => rfl | ⟨2, _⟩ => rfl
theorem idx26 (n : Fin 296) (r : Fin 512) (j : Fin 1024) : idx_main_v26 (ix3 n r j) = ix3 n 0 j := by
  funext a; match a with | ⟨0, _⟩ => rfl | ⟨1, _⟩ => rfl | ⟨2, _⟩ => rfl
theorem idx6 (n : Fin 296) (r : Fin 512) (j : Fin 1024) : idx_main_v6 (ix3 n r j) = ix3 n r ⟨j.val, by omega⟩ := by
  funext a; match a with | ⟨0, _⟩ => rfl | ⟨1, _⟩ => rfl | ⟨2, _⟩ => rfl
theorem idx9 (n : Fin 296) (r : Fin 512) (j : Fin 1024) : idx_main_v9 (ix3 n r j) = ix3 n r ⟨j.val + 1024, by omega⟩ := by
  funext a; match a with | ⟨0, _⟩ => rfl | ⟨1, _⟩ => rfl | ⟨2, _⟩ => exact Fin.ext (Nat.add_comm _ _)
theorem idx0 (n : Fin 296) (r : Fin 512) (k : Fin 1024) : val_main_v0 (F := Ideal) x2 (ix3 n r k) = token x2 n r k := by
  rw [val_main_v0_apply]
  unfold token
  refine congrArg x2 (funext fun a => ?_)
  match a with | ⟨0, _⟩ => rfl | ⟨1, _⟩ => rfl

theorem v5_at (n : Fin 296) (r : Fin 512) (j : Fin 2048) :
    val_main_v5 (F := Ideal) x0 x2 x3 x4 (ix3 n r j) = unit (token x2 n r) (fun k => x3 (ix3 (chosen x0 n) k j)) (x4 (ix3 (chosen x0 n) 0 j)) := by
  rw [val_main_v5_apply, val_main_v2_apply, val_main_v4_apply, idx4, v3_at]
  simp only [lidx2, ridx2, v1_at, idx0]
  rfl

theorem v22_at (n : Fin 296) (r : Fin 512) (j : Fin 1024) :
    val_main_v22 (F := Ideal) x0 x2 x3 x4 (ix3 n r j)
      = hidden (token x2 n r) (fun k j => x3 (ix3 (chosen x0 n) k j)) (fun j => x4 (ix3 (chosen x0 n) 0 j)) j := by
  rw [val_main_v22_apply, val_main_v19_apply, val_main_v21_apply, val_main_v18_apply, val_main_v17_apply, val_main_v16_apply, val_main_v15_apply, val_main_v14_apply,
    val_main_v13_apply, val_main_v12_apply, val_main_v11_apply, val_main_v20_apply, val_main_v10_apply, val_main_call2_v4_apply, val_main_call2_v3_apply,
    val_main_call2_v2_apply, val_main_call2_v1_apply, val_main_call2_v0_apply, val_main_v8_apply, val_main_v7_apply, val_main_v6_apply, val_main_v9_apply, idx6, idx9,
    v5_at, v5_at]
  simp only [val_main_cst_apply, val_main_cst_0_apply, val_main_cst_1_apply, val_main_cst_2_apply, val_main_cst_3_apply, val_main_cst_4_apply, val_main_cst_5_apply, pointwise]
  rfl

theorem v27_at (n : Fin 296) (r : Fin 512) (e : Fin 1024) :
    val_main_v27 (F := Ideal) x0 x2 x3 x4 x5 x6 (ix3 n r e)
      = expertRow (token x2 n r) (fun k j => x3 (ix3 (chosen x0 n) k j)) (fun j => x4 (ix3 (chosen x0 n) 0 j)) (fun k => x5 (ix3 (chosen x0 n) k e))
          (x6 (ix3 (chosen x0 n) 0 e)) := by
  rw [val_main_v27_apply, val_main_v24_apply, val_main_v26_apply, idx26, v25_at]
  simp only [lidx24, ridx24, v22_at, v23_at]
  rfl

theorem flag_at (n : Fin 296) (r : Fin 512) (e : Fin 1024) :
    val_main_call5_v1 (F := Ideal) x1 (ix3 n r e) = BitVec.ofBool ((BitVec.ofNat 32 n.val).slt (x1 (ix1 0))) := by
  rw [val_main_call5_v1_apply, val_main_v31_apply, val_main_v30_apply, val_main_v28_apply, val_main_v29_apply]
  have hi : idx_main_v29 (idx_main_v31 (idx_main_call5_v1 (ix3 n r e))) = ix1 0 := by
    funext a; match a with | ⟨0, _⟩ => rfl
  rw [hi]
  rfl

theorem v32_at (n : Fin 296) (r : Fin 512) (e : Fin 1024) :
    val_main_v32 (F := Ideal) x0 x1 x2 x3 x4 x5 x6 (ix3 n r e) = entry x0 x1 x2 x3 x4 x5 x6 n r e := by
  rw [val_main_v32_apply, flag_at, v27_at, val_main_call5_v2_apply, val_main_call5_v0_apply, val_main_cst_6_apply]
  unfold entry
  cases (BitVec.ofNat 32 n.val).slt (x1 (ix1 0)) <;> rfl

theorem result_eq : val_main_v33 (F := Ideal) x0 x1 x2 x3 x4 x5 x6 = result x0 x1 x2 x3 x4 x5 x6 := by
  funext i
  rw [val_main_v33_apply]
  have hi : idx_main_v33 i = ix3 (idx_main_v33 i 0) (idx_main_v33 i 1) (idx_main_v33 i 2) := eq_ix3 _
  exact (congrArg (val_main_v32 (F := Ideal) x0 x1 x2 x3 x4 x5 x6) hi).trans (v32_at x0 x1 x2 x3 x4 x5 x6 _ _ _)

end Cert.Proof.Experts.Reference

end
-- ==== Proof.Experts.Point.lean ====
/- One grid point of the experts' call, run in the three ways it can go: loading an expert's weights and using them, using
   the weights loaded before, and clearing its block. -/
module

public import proofs.«01_k».proof.Defs
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables of the blocks' experts and of the number of busy blocks, and the two scratch arrays of weights. -/
abbrev tab0 : Memref sig .tc .smem S296 .i32 := Memref.whole main_arg0
abbrev tab1 : Memref sig .tc .smem S1 .i32 := Memref.whole main_arg1
abbrev scr0 : Memref sig .tc .vmem S1024x2048 .bf16 := Memref.whole cc0_scratch0
abbrev scr1 : Memref sig .tc .vmem S1024x1024 .bf16 := Memref.whole cc0_scratch1

/-- What the body reads of the tables at a grid point: the number of busy blocks, the block's expert, the expert before. -/
abbrev busyAt (T1 : S1.Idx → Elt F .i32) : BitVec 32 :=
  View.readAt (Elt F) tab1.view (Rect.unit (s := S1) ![0] S1.size inb_S1_S1_0).toLoadRect T1 (Shape.Idx.first (numel1_S1.symm ▸ Nat.one_pos))
abbrev thisAt (i : grid0.Coords) (T0 : S296.Idx → Elt F .i32) : BitVec 32 :=
  View.readAt (Elt F) tab0.view (Rect.unit (s := S296) (k0_off1 i) S1.size (k0_off1_inb i)).toLoadRect T0 (Shape.Idx.first (numel1_S1.symm ▸ Nat.one_pos))
abbrev lastAt (i : grid0.Coords) (T0 : S296.Idx → Elt F .i32) : BitVec 32 :=
  View.readAt (Elt F) tab0.view (Rect.unit (s := S296) (k0_off2 i) S1.size (k0_off2_inb i)).toLoadRect T0 (Shape.Idx.first (numel1_S1.symm ▸ Nat.one_pos))

/-- The weights are loaded at the point: it is busy, and the first or of another expert than the point before. -/
abbrev Loads (i : grid0.Coords) (T0 : S296.Idx → Elt F .i32) (T1 : S1.Idx → Elt F .i32) : Prop :=
  (Scalar.cmpi .ne (Scalar.extui (Scalar.andi (Scalar.cmpi .slt (BitVec.ofNat 32 (i 0).val) (busyAt T1)) (Scalar.ori (Scalar.cmpi .eq (BitVec.ofNat 32 (i 0).val) 0#32) (Scalar.cmpi .ne (thisAt i T0) (lastAt i T0))))) 0#32) = 1#1

set_option backward.proofsInPublic true in
set_option maxHeartbeats 8000000 in
/-- The point loads its expert's weights, whatever the scratch arrays held, and stores its block. -/
noncomputable def runLoad (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
     (hc0 : Loads i T0 T1) (h2 : k0_cond2 i (busyAt T1) = 1#1) (h3 : ¬k0_cond3 i (busyAt T1) = 1#1) :
    Σ' (out0 : List (View.Piece (Elt F) S4096x128 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_moe_expert i tab0 (Memref.isWhole_whole _) tab1 (Memref.isWhole_whole _) arg3 harg3 arg4 harg4 arg5 harg5 arg6 harg6 arg7 harg7 arg8 harg8 scr0 (Memref.isWhole_whole _) scr1 (Memref.isWhole_whole _)) K } :=
  ⟨_, _, _, fun xa0 xa1 K => by
    unfold owns
    rw [cc0_moe_expert_eq_skeleton]; unfold cc0_moe_expert_skel
    rw [k0_part1_eq_skeleton]; unfold k0_part1_skel
    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | (guard_target = Scalar.cmpi = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- The point uses the weights the scratch arrays hold, and stores its block. -/
noncomputable def runKeep (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1)) (hc0 : ¬Loads i T0 T1) (h2 : k0_cond2 i (busyAt T1) = 1#1) (h3 : ¬k0_cond3 i (busyAt T1) = 1#1) :
    Σ' (out0 : List (View.Piece (Elt F) S4096x128 .f32)) (out1 : Buf (Elt F) ((c : Thread nD τ).loc cc0_scratch0)), { out2 : Buf (Elt F) ((c : Thread nD τ).loc cc0_scratch1) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_moe_expert i tab0 (Memref.isWhole_whole _) tab1 (Memref.isWhole_whole _) arg3 harg3 arg4 harg4 arg5 harg5 arg6 harg6 arg7 harg7 arg8 harg8 scr0 (Memref.isWhole_whole _) scr1 (Memref.isWhole_whole _)) K } :=
  ⟨_, _, _, fun K => by
    unfold owns
    rw [cc0_moe_expert_eq_skeleton]; unfold cc0_moe_expert_skel
    rw [k0_part1_eq_skeleton]; unfold k0_part1_skel
    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | (guard_target = ¬(Scalar.cmpi = _); exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

set_option backward.proofsInPublic true in
set_option maxHeartbeats 8000000 in
/-- The point is past the busy blocks: it stores zeros, and leaves the scratch arrays. -/
noncomputable def runIdle (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1)) (hc0 : ¬Loads i T0 T1) (h2 : ¬k0_cond2 i (busyAt T1) = 1#1) (h3 : k0_cond3 i (busyAt T1) = 1#1) :
    Σ' (out0 : List (View.Piece (Elt F) S4096x128 .f32)) (out1 : Buf (Elt F) ((c : Thread nD τ).loc cc0_scratch0)), { out2 : Buf (Elt F) ((c : Thread nD τ).loc cc0_scratch1) //
      ∀  (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (scr0.view.loc (c : Thread nD τ) ↦{fullShare} xa0)
          ∗ (scr1.view.loc (c : Thread nD τ) ↦{fullShare} xa1)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
              ∗ (∃ f, arg8.view.loc (c : Thread nD τ) ↦[arg8.view.set]{fullShare} arg8.view.writes (Elt F) f out0)
              ∗ (scr0.view.loc (c : Thread nD τ) ↦{fullShare} out1)
              ∗ (scr1.view.loc (c : Thread nD τ) ↦{fullShare} out2)) -∗ K ⟨⟩))
          ⊢ wp frame (wpE (defs₀ (F := F)) Variants.none c none) Set.univ (cc0_moe_expert i tab0 (Memref.isWhole_whole _) tab1 (Memref.isWhole_whole _) arg3 harg3 arg4 harg4 arg5 harg5 arg6 harg6 arg7 harg7 arg8 harg8 scr0 (Memref.isWhole_whole _) scr1 (Memref.isWhole_whole _)) K } :=
  ⟨_, _, _, fun K => by
    unfold owns
    rw [cc0_moe_expert_eq_skeleton]; unfold cc0_moe_expert_skel

    iintro ⟨H0, H1, H2, H3, H4, HT0, HT1, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | (guard_target = ¬(Scalar.cmpi = _); exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

end Cert.Kernel3Ideal.Own

end
-- ==== Proof.Experts.Block.lean ====
module

public import proofs.«01_k».proof.Defs
public import proofs.«01_k».proof.Proof.Experts.Point
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Row `r` of tile `k` of a block of eight interleaved tiles of 512 rows. -/
abbrev rowsAt (x0 : S4096x128.Idx → Elt F .f32) (k : Nat) (hk : k < 8) : S512x128.Idx → Elt F .f32 := fun y =>
  x0 (ix2 ⟨8 * (y 0).val + k, by have : (y 0).val < 512 := (y 0).isLt; omega⟩ (y 1))

/-- The activations of the block, from its tokens and the first weights. -/
abbrev actOf (x0 : S4096x128.Idx → Elt F .f32) (W0 : S1024x2048.Idx → Elt F .bf16) (x2 : S1x1x2048.Idx → Elt F .f32) : FVec F S512x1024 .bf16 :=
  k0_pay13 (rowsAt x0 0 (by omega)) (rowsAt x0 1 (by omega)) (rowsAt x0 2 (by omega)) (rowsAt x0 3 (by omega)) (rowsAt x0 4 (by omega)) (rowsAt x0 5 (by omega)) (rowsAt x0 6 (by omega)) (rowsAt x0 7 (by omega)) W0 x2

/-- A 512 by 1024 result laid out as eight interleaved tiles of 128 columns. -/
abbrev tiled (z : S512x1024.Idx → Elt F .f32) : S4096x128.Idx → Elt F .f32 := fun y =>
  z (ix2 ⟨(y 0).val / 8, by have : (y 0).val < 4096 := (y 0).isLt; omega⟩ ⟨128 * ((y 0).val % 8) + (y 1).val, by have : (y 1).val < 128 := (y 1).isLt; omega⟩)

/-- The block a busy point stores. -/
def outBlk (x0 : S4096x128.Idx → Elt F .f32) (W0 : S1024x2048.Idx → Elt F .bf16) (x2 : S1x1x2048.Idx → Elt F .f32) (W1 : S1024x1024.Idx → Elt F .bf16) (x4 : S1x1x1024.Idx → Elt F .f32) : S4096x128.Idx → Elt F .f32 :=
  tiled (k0_pay3 (actOf x0 W0 x2) W1 x4)

/-- A load of every eighth row of a held block reads one tile of it. -/
theorem rows_read (v : View sig .tc .vmem S4096x128 .f32) (x0 : S4096x128.Idx → Elt F .f32) (k : Nat) (hk : k < 8) (inb : ∀ a : Fin S4096x128.rank, ![512, 128] a = 0 ∨ ![k, 0] a + ![8, 1] a * (![512, 128] a - 1) < S4096x128.size a) :
    View.readAt (Elt F) v ({ off := ![k, 0], size := ![512, 128], stride := ![8, 1], inb := inb } : LoadRect S4096x128) (v.rep x0) = rowsAt x0 k hk := by
  funext y
  rw [View.readAt_rep]
  refine congrArg x0 (funext fun a => Fin.ext ?_)
  match a with
  | 0 => show k + 8 * (y 0).val = 8 * (y 0).val + k; omega
  | 1 => show 0 + 1 * (y 1).val = (y 1).val; omega

/-- The eight tiles' rectangle. -/
abbrev tileAt (k : Nat) (inb : ∀ a : Fin S4096x128.rank, ![512, 128] a = 0 ∨ ![k, 0] a + ![8, 1] a * (![512, 128] a - 1) < S4096x128.size a) : Rect S4096x128 :=
  { off := ![k, 0], size := ![512, 128], stride := ![8, 1], inb := inb, stride_pos := spos_8_1 }

/-- A tile's rows under its rectangle. -/
theorem tiled_at (z : S512x1024.Idx → Elt F .f32) (k : Nat) (hk : k < 8) (o : Nat) (ho : o = 128 * k) (inb : ∀ a : Fin S4096x128.rank, ![512, 128] a = 0 ∨ ![k, 0] a + ![8, 1] a * (![512, 128] a - 1) < S4096x128.size a) (x : S512x128.Idx) (hs) :
    extractStridedSlice S512x128 ![0, o] z hs x = tiled z ((tileAt k inb).emb x) := by
  subst ho
  have h0 : (x 0).val < 512 := (x 0).isLt
  have h1 : (x 1).val < 128 := (x 1).isLt
  refine congrArg z (funext fun a => Fin.ext ?_)
  match a with
  | 0 => show 0 + (x 0).val = (k + 8 * (x 0).val) / 8; omega
  | 1 => show 128 * k + (x 1).val = 128 * ((k + 8 * (x 0).val) % 8) + (0 + 1 * (x 1).val); omega

/-- The eight tiles, stored, hold the result. -/
theorem tiles_read {κ} {sp} (v : View sig κ sp S4096x128 .f32) (A : FVec F S512x1024 .bf16) (W1 : Vec F S1024x1024 .bf16) (x4 : Vec F S1x1x1024 .f32) (f : v.ty.Contents (Elt F)) :
    v.read (Elt F) (v.writes (Elt F) f [⟨tileAt 7 inb_S4096x128_S512x128_7_0_s_8_1, k0_pay11 A W1 x4⟩, ⟨tileAt 6 inb_S4096x128_S512x128_6_0_s_8_1, k0_pay10 A W1 x4⟩, ⟨tileAt 5 inb_S4096x128_S512x128_5_0_s_8_1, k0_pay9 A W1 x4⟩, ⟨tileAt 4 inb_S4096x128_S512x128_4_0_s_8_1, k0_pay8 A W1 x4⟩, ⟨tileAt 3 inb_S4096x128_S512x128_3_0_s_8_1, k0_pay7 A W1 x4⟩, ⟨tileAt 2 inb_S4096x128_S512x128_2_0_s_8_1, k0_pay6 A W1 x4⟩, ⟨tileAt 1 inb_S4096x128_S512x128_1_0_s_8_1, k0_pay5 A W1 x4⟩, ⟨tileAt 0 inb_S4096x128_S512x128_0_0_s_8_1, k0_pay4 A W1 x4⟩]) = tiled (k0_pay3 A W1 x4) := by
  funext y
  refine View.read_writes_apply_of_pieces v f _ _ (fun p hp x => ?_) y ?_
  · simp only [List.mem_cons, List.mem_nil_iff, or_false] at hp
    rcases hp with rfl | rfl | rfl | rfl | rfl | rfl | rfl | rfl
    · exact tiled_at (k0_pay3 A W1 x4) 7 (by omega) 896 rfl inb_S4096x128_S512x128_7_0_s_8_1 x slices_S512x1024_o0_896_S512x128
    · exact tiled_at (k0_pay3 A W1 x4) 6 (by omega) 768 rfl inb_S4096x128_S512x128_6_0_s_8_1 x slices_S512x1024_o0_768_S512x128
    · exact tiled_at (k0_pay3 A W1 x4) 5 (by omega) 640 rfl inb_S4096x128_S512x128_5_0_s_8_1 x slices_S512x1024_o0_640_S512x128
    · exact tiled_at (k0_pay3 A W1 x4) 4 (by omega) 512 rfl inb_S4096x128_S512x128_4_0_s_8_1 x slices_S512x1024_o0_512_S512x128
    · exact tiled_at (k0_pay3 A W1 x4) 3 (by omega) 384 rfl inb_S4096x128_S512x128_3_0_s_8_1 x slices_S512x1024_o0_384_S512x128
    · exact tiled_at (k0_pay3 A W1 x4) 2 (by omega) 256 rfl inb_S4096x128_S512x128_2_0_s_8_1 x slices_S512x1024_o0_256_S512x128
    · exact tiled_at (k0_pay3 A W1 x4) 1 (by omega) 128 rfl inb_S4096x128_S512x128_1_0_s_8_1 x slices_S512x1024_o0_128_S512x128
    · exact tiled_at (k0_pay3 A W1 x4) 0 (by omega) 0 rfl inb_S4096x128_S512x128_0_0_s_8_1 x slices_S512x1024_o0_0_S512x128
  · have h0 : (y 0).val < 4096 := (y 0).isLt
    have h1 : (y 1).val < 128 := (y 1).isLt
    have key : ∀ k inb, (y 0).val % 8 = k → y ∈ (tileAt k inb).set := fun k inb hk => by
      refine (LoadRect.mem_set _).mpr ?_
      intro a
      match a with
      | 0 => exact ⟨(y 0).val / 8, by show (y 0).val / 8 < 512; omega, by show (y 0).val = k + 8 * ((y 0).val / 8); omega⟩
      | 1 => exact ⟨(y 1).val, h1, by show (y 1).val = 0 + 1 * (y 1).val; omega⟩
    have hc : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
    simp only [List.mem_cons, List.mem_nil_iff, _root_.or_false, exists_eq_or_imp, exists_eq_left]
    rcases hc with h | h | h | h | h | h | h | h
    · exact Or.inl <| key 7 _ h
    · exact Or.inr <| Or.inl <| key 6 _ h
    · exact Or.inr <| Or.inr <| Or.inl <| key 5 _ h
    · exact Or.inr <| Or.inr <| Or.inr <| Or.inl <| key 4 _ h
    · exact Or.inr <| Or.inr <| Or.inr <| Or.inr <| Or.inl <| key 3 _ h
    · exact Or.inr <| Or.inr <| Or.inr <| Or.inr <| Or.inr <| Or.inl <| key 2 _ h
    · exact Or.inr <| Or.inr <| Or.inr <| Or.inr <| Or.inr <| Or.inr <| Or.inl <| key 1 _ h
    · exact Or.inr <| Or.inr <| Or.inr <| Or.inr <| Or.inr <| Or.inr <| Or.inr <| key 0 _ h

variable (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole)
    (T0 : S296.Idx → Elt F .i32) (T1 : S1.Idx → Elt F .i32)
    (x0 : S4096x128.Idx → Elt F .f32) (x1 : S1x1024x2048.Idx → Elt F .f32) (x2 : S1x1x2048.Idx → Elt F .f32) (x3 : S1x1024x1024.Idx → Elt F .f32) (x4 : S1x1x1024.Idx → Elt F .f32)

/-- A load of a held block at its own sizes reads it. -/
theorem load_whole {S : Shape} {e : EltTy} (v : View sig .tc .vmem S e) (x : S.Idx → Elt F e) (off : Fin S.rank → Nat) (inb : ∀ a, off a + S.size a ≤ S.size a) :
    View.readAt (Elt F) v (Rect.unit off S.size inb).toLoadRect (v.rep x) = x := by
  funext y
  rw [View.readAt_rep]
  refine congrArg x (funext fun a => Fin.ext ?_)
  show off a + 1 * (y a).val = (y a).val
  have := inb a
  omega

/-- The offsets of a whole buffer. -/
theorem hz2 : (![0, 0] : Fin 2 → Nat) = fun _ => 0 := by decide

/-- One store of a view's own sizes leaves its payload. -/
theorem store_whole {κ : Kind} {sp : Space} {S : Shape} {e : EltTy} (v : View sig κ sp S e) (f : v.ty.Contents (Elt F)) {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩]
  exact View.canon_unit_zero h _ _

/-- One store of scratch array 0's own sizes leaves its payload there. -/
theorem store_buf0 (f : (View.whole (sig := sig) cc0_scratch0).ty.Contents (Elt F)) (w : S1024x2048.Idx → Elt F .bf16) :
    (View.whole cc0_scratch0).writes (Elt F) f [⟨Rect.unit ![0, 0] S1024x2048.size inb_S1024x2048_S1024x2048_0_0, w⟩] = w := by
  have h := store_whole (View.whole cc0_scratch0) f (S := S1024x2048) hz2 inb_S1024x2048_S1024x2048_0_0 w
  rw [View.read_whole] at h
  exact h

/-- One store of scratch array 1's own sizes leaves its payload there. -/
theorem store_buf1 (f : (View.whole (sig := sig) cc0_scratch1).ty.Contents (Elt F)) (w : S1024x1024.Idx → Elt F .bf16) :
    (View.whole cc0_scratch1).writes (Elt F) f [⟨Rect.unit ![0, 0] S1024x1024.size inb_S1024x1024_S1024x1024_0_0, w⟩] = w := by
  have h := store_whole (View.whole cc0_scratch1) f (S := S1024x1024) hz2 inb_S1024x1024_S1024x1024_0_0 w
  rw [View.read_whole] at h
  exact h

theorem keep_read (xa0 : S1024x2048.Idx → Elt F .bf16) (xa1 : S1024x1024.Idx → Elt F .bf16) (hc0 : ¬Loads i T0 T1) (h2 : k0_cond2 i (busyAt T1) = 1#1) (h3 : ¬k0_cond3 i (busyAt T1) = 1#1) (f : arg8.view.ty.Contents (Elt F)) :
    arg8.view.read (Elt F) (arg8.view.writes (Elt F) f (runKeep c i arg3 harg3 arg4 harg4 arg5 harg5 arg6 harg6 arg7 harg7 arg8 harg8 T0 T1 x0 x1 x2 x3 x4 xa0 xa1 hc0 h2 h3).1) = outBlk x0 xa0 x2 xa1 x4 := by
  have e0 : View.readAt (Elt F) (View.whole cc0_scratch0) (Rect.unit ![0, 0] ![1024, 2048] inb_S1024x2048_S1024x2048_0_0).toLoadRect xa0 = xa0 := by
    rw [View.readAt_eq_ld]; exact View.ld_unit_zero (S := S1024x2048) hz2 _ _
  have e1 : View.readAt (Elt F) (View.whole cc0_scratch1) (Rect.unit ![0, 0] ![1024, 1024] inb_S1024x1024_S1024x1024_0_0).toLoadRect xa1 = xa1 := by
    rw [View.readAt_eq_ld]; exact View.ld_unit_zero (S := S1024x1024) hz2 _ _
  have a2 : View.readAt (Elt F) arg5.view (Rect.unit ![0, 0, 0] ![1, 1, 2048] inb_S1x1x2048_S1x1x2048_0_0_0).toLoadRect (arg5.view.rep x2) = x2 := load_whole _ _ _ _
  have a4 : View.readAt (Elt F) arg7.view (Rect.unit ![0, 0, 0] ![1, 1, 1024] inb_S1x1x1024_S1x1x1024_0_0_0).toLoadRect (arg7.view.rep x4) = x4 := load_whole _ _ _ _
  dsimp only [runKeep]
  refine (tiles_read arg8.view _ _ _ f).trans ?_
  unfold outBlk
  rw [e0, e1, a2, a4, rows_read _ _ 0 (by omega), rows_read _ _ 1 (by omega), rows_read _ _ 2 (by omega), rows_read _ _ 3 (by omega), rows_read _ _ 4 (by omega), rows_read _ _ 5 (by omega), rows_read _ _ 6 (by omega), rows_read _ _ 7 (by omega)]

theorem load_read (hc0 : Loads i T0 T1) (h2 : k0_cond2 i (busyAt T1) = 1#1) (h3 : ¬k0_cond3 i (busyAt T1) = 1#1) (f : arg8.view.ty.Contents (Elt F)) :
    arg8.view.read (Elt F) (arg8.view.writes (Elt F) f (runLoad c i arg3 harg3 arg4 harg4 arg5 harg5 arg6 harg6 arg7 harg7 arg8 harg8 T0 T1 x0 x1 x2 x3 x4 hc0 h2 h3).1) = outBlk x0 (k0_pay1 x1) x2 (k0_pay2 x3) x4 := by
  have e1 : View.readAt (Elt F) arg4.view (Rect.unit ![0, 0, 0] ![1, 1024, 2048] inb_S1x1024x2048_S1x1024x2048_0_0_0).toLoadRect (arg4.view.rep x1) = x1 := load_whole _ _ _ _
  have e3 : View.readAt (Elt F) arg6.view (Rect.unit ![0, 0, 0] ![1, 1024, 1024] inb_S1x1024x1024_S1x1024x1024_0_0_0).toLoadRect (arg6.view.rep x3) = x3 := load_whole _ _ _ _
  have a2 : View.readAt (Elt F) arg5.view (Rect.unit ![0, 0, 0] ![1, 1, 2048] inb_S1x1x2048_S1x1x2048_0_0_0).toLoadRect (arg5.view.rep x2) = x2 := load_whole _ _ _ _
  have a4 : View.readAt (Elt F) arg7.view (Rect.unit ![0, 0, 0] ![1, 1, 1024] inb_S1x1x1024_S1x1x1024_0_0_0).toLoadRect (arg7.view.rep x4) = x4 := load_whole _ _ _ _
  dsimp only [runLoad]
  refine (tiles_read arg8.view _ _ _ f).trans ?_
  unfold outBlk
  rw [a2, a4, rows_read _ _ 0 (by omega), rows_read _ _ 1 (by omega), rows_read _ _ 2 (by omega), rows_read _ _ 3 (by omega), rows_read _ _ 4 (by omega), rows_read _ _ 5 (by omega), rows_read _ _ 6 (by omega), rows_read _ _ 7 (by omega)]
  have c0 : runLoad.sl.v29 arg4 x1 = k0_pay1 x1 := by
    unfold runLoad.sl.v29 View.readCov runLoad.sl.HS0_1
    rw [View.readAt_eq_ld, store_whole _ _ (S := S1024x2048) hz2]
    exact (View.ld_unit_zero (S := S1024x2048) hz2 _ _).trans (congrArg k0_pay1 e1)
  have c1 : runLoad.sl.v51 arg6 x3 = k0_pay2 x3 := by
    unfold runLoad.sl.v51 View.readCov runLoad.sl.HS1_1
    rw [View.readAt_eq_ld, store_whole _ _ (S := S1024x1024) hz2]
    exact (View.ld_unit_zero (S := S1024x1024) hz2 _ _).trans (congrArg k0_pay2 e3)
  rw [c0, c1]

theorem load_scr0 (hc0 : Loads i T0 T1) (h2 : k0_cond2 i (busyAt T1) = 1#1) (h3 : ¬k0_cond3 i (busyAt T1) = 1#1) :
    (runLoad c i arg3 harg3 arg4 harg4 arg5 harg5 arg6 harg6 arg7 harg7 arg8 harg8 T0 T1 x0 x1 x2 x3 x4 hc0 h2 h3).2.1 = k0_pay1 x1 := by
  have e1 : View.readAt (Elt F) arg4.view (Rect.unit ![0, 0, 0] ![1, 1024, 2048] inb_S1x1024x2048_S1x1024x2048_0_0_0).toLoadRect (arg4.view.rep x1) = x1 := load_whole _ _ _ _
  dsimp only [runLoad]
  unfold runLoad.sl.HS0_1
  rw [e1]
  exact store_buf0 _ _

theorem load_scr1 (hc0 : Loads i T0 T1) (h2 : k0_cond2 i (busyAt T1) = 1#1) (h3 : ¬k0_cond3 i (busyAt T1) = 1#1) :
    (runLoad c i arg3 harg3 arg4 harg4 arg5 harg5 arg6 harg6 arg7 harg7 arg8 harg8 T0 T1 x0 x1 x2 x3 x4 hc0 h2 h3).2.2.1 = k0_pay2 x3 := by
  have e1 : View.readAt (Elt F) arg6.view (Rect.unit ![0, 0, 0] ![1, 1024, 1024] inb_S1x1024x1024_S1x1024x1024_0_0_0).toLoadRect (arg6.view.rep x3) = x3 := load_whole _ _ _ _
  dsimp only [runLoad]
  unfold runLoad.sl.HS1_1
  rw [e1]
  exact store_buf1 _ _

theorem idle_read (xa0 : S1024x2048.Idx → Elt F .bf16) (xa1 : S1024x1024.Idx → Elt F .bf16) (hc0 : ¬Loads i T0 T1) (h2 : ¬k0_cond2 i (busyAt T1) = 1#1) (h3 : k0_cond3 i (busyAt T1) = 1#1) (f : arg8.view.ty.Contents (Elt F)) :
    arg8.view.read (Elt F) (arg8.view.writes (Elt F) f (runIdle c i arg3 harg3 arg4 harg4 arg5 harg5 arg6 harg6 arg7 harg7 arg8 harg8 T0 T1 x0 x1 x2 x3 x4 xa0 xa1 hc0 h2 h3).1) = k0_pay12 := by
  dsimp only [runIdle]
  unfold runIdle.sl.HO5_1
  exact store_whole arg8.view f (S := S4096x128) hz2 _ _

theorem keep_scr (xa0 : S1024x2048.Idx → Elt F .bf16) (xa1 : S1024x1024.Idx → Elt F .bf16) (hc0 : ¬Loads i T0 T1) (h2 : k0_cond2 i (busyAt T1) = 1#1) (h3 : ¬k0_cond3 i (busyAt T1) = 1#1) :
    (runKeep c i arg3 harg3 arg4 harg4 arg5 harg5 arg6 harg6 arg7 harg7 arg8 harg8 T0 T1 x0 x1 x2 x3 x4 xa0 xa1 hc0 h2 h3).2.1 = xa0 ∧ (runKeep c i arg3 harg3 arg4 harg4 arg5 harg5 arg6 harg6 arg7 harg7 arg8 harg8 T0 T1 x0 x1 x2 x3 x4 xa0 xa1 hc0 h2 h3).2.2.1 = xa1 := ⟨rfl, rfl⟩

theorem idle_scr (xa0 : S1024x2048.Idx → Elt F .bf16) (xa1 : S1024x1024.Idx → Elt F .bf16) (hc0 : ¬Loads i T0 T1) (h2 : ¬k0_cond2 i (busyAt T1) = 1#1) (h3 : k0_cond3 i (busyAt T1) = 1#1) :
    (runIdle c i arg3 harg3 arg4 harg4 arg5 harg5 arg6 harg6 arg7 harg7 arg8 harg8 T0 T1 x0 x1 x2 x3 x4 xa0 xa1 hc0 h2 h3).2.1 = xa0 ∧ (runIdle c i arg3 harg3 arg4 harg4 arg5 harg5 arg6 harg6 arg7 harg7 arg8 harg8 T0 T1 x0 x1 x2 x3 x4 xa0 xa1 hc0 h2 h3).2.2.1 = xa1 := ⟨rfl, rfl⟩

end Cert.Kernel3Ideal.Own
-- ==== Proof.Experts.Tables.lean ====
module

public import proofs.«01_k».proof.Defs
public import proofs.«01_k».proof.Proof.Experts.Point
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! The words of the two tables at a grid point. -/

/-- A grid coordinate is the number of its block. -/
theorem coord (t : Fin grid0.N) : ((grid0.coords t) 0).val = t.val := (by decide +kernel : ∀ t : Fin grid0.N, ((grid0.coords t) 0).val = t.val) t

theorem coord_lt (i : grid0.Coords) : (i 0).val < 296 := (i 0).isLt

theorem ofNat_toNat (n : Nat) (h : n < 296) : (BitVec.ofNat 32 n).toNat = n := by
  rw [BitVec.toNat_ofNat]; omega

theorem off1_eq : ∀ t : Fin grid0.N, k0_off1 (grid0.coords t) 0 = t.val := by decide +kernel
theorem off2_eq : ∀ t : Fin grid0.N, k0_off2 (grid0.coords t) 0 = t.val - 1 := by decide +kernel

/-- The expert of a block and the number of busy blocks. -/
abbrev expertAt (T0 : S296.Idx → Elt F .i32) (n : Fin 296) : BitVec 32 := T0 (ix1 n)
abbrev busyOf (T1 : S1.Idx → Elt F .i32) : BitVec 32 := T1 (ix1 0)

theorem busyAt_eq (T1 : S1.Idx → Elt F .i32) : busyAt T1 = busyOf T1 :=
  congrArg T1 (funext fun a => Fin.ext (by fin_cases a; rfl))

theorem thisAt_eq (T0 : S296.Idx → Elt F .i32) (t : Fin grid0.N) (n : Fin 296) (hn : n.val = t.val) : thisAt (grid0.coords t) T0 = expertAt T0 n :=
  congrArg T0 (funext fun a => Fin.ext (by
    match a with
    | 0 => show k0_off1 (grid0.coords t) 0 + 1 * 0 = n.val; rw [off1_eq]; omega))

theorem lastAt_eq (T0 : S296.Idx → Elt F .i32) (t : Fin grid0.N) (n : Fin 296) (hn : n.val = t.val - 1) : lastAt (grid0.coords t) T0 = expertAt T0 n :=
  congrArg T0 (funext fun a => Fin.ext (by
    match a with
    | 0 => show k0_off2 (grid0.coords t) 0 + 1 * 0 = n.val; rw [off2_eq]; omega))

/-- Bits of conditions. -/
theorem bit_ne (p : BitVec 1) : (Scalar.cmpi .ne (Scalar.extui p : BitVec 32) 0#32 = 1#1) ↔ p = 1#1 := by
  revert p; decide
theorem bit_xor (p : BitVec 1) : (Scalar.cmpi .ne (Scalar.extui (Scalar.xori p 1#1) : BitVec 32) 0#32 = 1#1) ↔ ¬p = 1#1 := by
  revert p; decide
theorem bit_and (p q : BitVec 1) : Scalar.andi p q = 1#1 ↔ p = 1#1 ∧ q = 1#1 := by
  revert p q; decide
theorem bit_or (p q : BitVec 1) : Scalar.ori p q = 1#1 ↔ p = 1#1 ∨ q = 1#1 := by
  revert p q; decide
theorem bit_of (b : Bool) : BitVec.ofBool b = 1#1 ↔ b = true := by cases b <;> decide

theorem cond2_iff (i : grid0.Coords) (v : BitVec 32) : k0_cond2 i v = 1#1 ↔ (BitVec.ofNat 32 (i 0).val).slt v = true := by
  unfold k0_cond2; dsimp only; rw [bit_ne]; exact bit_of _
theorem cond3_iff (i : grid0.Coords) (v : BitVec 32) : k0_cond3 i v = 1#1 ↔ ¬k0_cond2 i v = 1#1 := by
  unfold k0_cond2 k0_cond3; dsimp only; rw [bit_xor, bit_ne]

theorem loads_busy {i : grid0.Coords} {T0 : S296.Idx → Elt F .i32} {T1 : S1.Idx → Elt F .i32} (h : Loads i T0 T1) : k0_cond2 i (busyAt T1) = 1#1 := by
  unfold k0_cond2; dsimp only
  have h' := (bit_and _ _).1 ((bit_ne _).1 h)
  exact (bit_ne _).2 h'.1

/-- A busy block that does not load follows a block of the same expert. -/
theorem keeps {t : Fin grid0.N} {T0 : S296.Idx → Elt F .i32} {T1 : S1.Idx → Elt F .i32} (h : ¬Loads (grid0.coords t) T0 T1) (hb : k0_cond2 (grid0.coords t) (busyAt T1) = 1#1) :
    t.val ≠ 0 ∧ thisAt (grid0.coords t) T0 = lastAt (grid0.coords t) T0 := by
  unfold k0_cond2 at hb; dsimp only at hb
  have hb' := (bit_ne _).1 hb
  have h' : ¬(Scalar.cmpi .eq (BitVec.ofNat 32 ((grid0.coords t) 0).val) 0#32 = 1#1 ∨ Scalar.cmpi .ne (thisAt (grid0.coords t) T0) (lastAt (grid0.coords t) T0) = 1#1) := fun hq =>
    h ((bit_ne _).2 ((bit_and _ _).2 ⟨hb', (bit_or _ _).2 hq⟩))
  rw [not_or] at h'
  refine ⟨fun h0 => h'.1 ?_, by_contra fun hne => h'.2 ?_⟩
  · rw [coord, h0]; decide
  · exact (bit_of _).2 (by simpa using hne)

/-- A block before a busy one is busy. -/
theorem busy_before {t s : Fin grid0.N} (hs : s.val ≤ t.val) {v : BitVec 32} (hb : k0_cond2 (grid0.coords t) v = 1#1) : k0_cond2 (grid0.coords s) v = 1#1 := by
  rw [cond2_iff, coord] at hb ⊢
  have ht : t.val < 296 := t.isLt
  rw [BitVec.slt_iff_toInt_lt] at hb ⊢
  rw [BitVec.toInt_eq_toNat_of_lt (by rw [ofNat_toNat _ (by omega)]; omega), ofNat_toNat _ (by omega)] at hb ⊢
  omega

/-! What the precondition says of the tables, and the blocks it puts inside their arrays. -/

/-- Every block's expert is one of the thirty-two, and some block is busy. -/
def Routed (T0 : S296.Idx → Elt F .i32) (T1 : S1.Idx → Elt F .i32) : Prop := (∀ n : Fin 296, (expertAt T0 n).toNat < 32) ∧ 1 ≤ (busyOf T1).toInt

theorem at_expert (T0 : S296.Idx → Elt F .i32) (x : S296.Idx) (n : Fin 296) (h : (x 0).val = n.val) : T0 x = expertAt T0 n :=
  congrArg T0 (funext fun a => Fin.ext (by match a with | 0 => exact h))

theorem at_busy (T1 : S1.Idx → Elt F .i32) (x : S1.Idx) : T1 x = busyOf T1 :=
  congrArg T1 (funext fun a => Fin.ext (by
    match a with
    | 0 => have h : (x 0).val < 1 := (x 0).isLt; show (x 0).val = 0; omega))

theorem word0 (pf : pre0.Contents (Elt F)) (i : grid0.Coords) (h1) :
    (pf.at 0 (Rect.unit (s := S296) (k0_off1 i) S1.size (k0_off1_inb i)) h1 : BitVec 32) = expertAt (pf 0) ⟨(i 0).val, coord_lt i⟩ := by
  refine at_expert (pf 0) _ _ ?_
  show (BitVec.ofNat 32 (i 0).val).toNat + 1 * 0 = (i 0).val
  rw [ofNat_toNat _ (coord_lt i)]; omega

theorem word1 (pf : pre0.Contents (Elt F)) (h1) :
    (pf.at 1 (Rect.unit (s := S1) ![0] S1.size inb_S1_S1_0) h1 : BitVec 32) = busyOf (pf 1) :=
  at_busy (pf 1) _

theorem tr0 (pf : pre0.Contents (Elt F)) (i : grid0.Coords) : cc0_transform_0 inb_S1_S1_0 numel1_S1 pf i = ![(IntOp.minsi (BitVec.ofNat 32 (i 0).val) (busyOf (pf 1) - 1#32)).toNat, 0] := by
  rw [← word1 pf numel1_S1]; rfl
theorem tr1 (pf : pre0.Contents (Elt F)) (i : grid0.Coords) : cc0_transform_1 k0_off1_inb numel1_S1 pf i = ![(expertAt (pf 0) ⟨(i 0).val, coord_lt i⟩).toNat, 0, 0] := by
  rw [← word0 pf i numel1_S1]; rfl
theorem tr2 (pf : pre0.Contents (Elt F)) (i : grid0.Coords) : cc0_transform_2 k0_off1_inb numel1_S1 pf i = ![(expertAt (pf 0) ⟨(i 0).val, coord_lt i⟩).toNat, 0, 0] := by
  rw [← word0 pf i numel1_S1]; rfl
theorem tr3 (pf : pre0.Contents (Elt F)) (i : grid0.Coords) : cc0_transform_3 k0_off1_inb numel1_S1 pf i = ![(expertAt (pf 0) ⟨(i 0).val, coord_lt i⟩).toNat, 0, 0] := by
  rw [← word0 pf i numel1_S1]; rfl
theorem tr4 (pf : pre0.Contents (Elt F)) (i : grid0.Coords) : cc0_transform_4 k0_off1_inb numel1_S1 pf i = ![(expertAt (pf 0) ⟨(i 0).val, coord_lt i⟩).toNat, 0, 0] := by
  rw [← word0 pf i numel1_S1]; rfl

/-- The last busy block bounds a block of tokens. -/
theorem min_lt (n : Nat) (hn : n < 296) (v : BitVec 32) (hv : 1 ≤ v.toInt) : (IntOp.minsi (BitVec.ofNat 32 n) (v - 1#32)).toNat ≤ n := by
  have e := BitVec.toInt_eq_toNat_cond v
  have hl := v.isLt
  have h1 : 1 ≤ v.toNat ∧ v.toNat < 2 ^ 31 := by split at e <;> omega
  have e1 : (v - 1#32).toNat = v.toNat - 1 := by
    rw [BitVec.toNat_sub]; simp; omega
  unfold IntOp.minsi
  split
  · rw [ofNat_toNat n hn]
  · rename_i h
    rw [BitVec.slt_iff_toInt_lt, BitVec.toInt_eq_toNat_of_lt (by rw [ofNat_toNat n hn]; omega), ofNat_toNat n hn, BitVec.toInt_eq_toNat_of_lt (by omega), e1] at h
    omega

/-- A busy block's tokens are its own. -/
theorem min_eq (n : Nat) (hn : n < 296) (v : BitVec 32) (hv : 1 ≤ v.toInt) (h : (BitVec.ofNat 32 n).slt v = true) : (IntOp.minsi (BitVec.ofNat 32 n) (v - 1#32)).toNat = n := by
  have e := BitVec.toInt_eq_toNat_cond v
  have hl := v.isLt
  have h1 : 1 ≤ v.toNat ∧ v.toNat < 2 ^ 31 := by split at e <;> omega
  have e1 : (v - 1#32).toNat = v.toNat - 1 := by
    rw [BitVec.toNat_sub]; simp; omega
  rw [BitVec.slt_iff_toInt_lt, BitVec.toInt_eq_toNat_of_lt (by rw [ofNat_toNat n hn]; omega), ofNat_toNat n hn, BitVec.toInt_eq_toNat_of_lt (by omega)] at h
  unfold IntOp.minsi
  split
  · rw [ofNat_toNat n hn]
  · rename_i h
    rw [BitVec.slt_iff_toInt_lt, BitVec.toInt_eq_toNat_of_lt (by rw [ofNat_toNat n hn]; omega), ofNat_toNat n hn, BitVec.toInt_eq_toNat_of_lt (by omega), e1] at h
    omega

/-- Routed tables keep every block inside its array. -/
theorem ok_of_routed (pf : pre0.Contents (Elt F)) (h : Routed (pf 0) (pf 1)) : ok0 pf := by
  have hw : ∀ i : grid0.Coords, (expertAt (pf 0) ⟨(i 0).val, coord_lt i⟩).toNat < 32 := fun i => h.1 _
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  · rw [tr0]
    have := min_lt (i 0).val (coord_lt i) (busyOf (pf 1)) h.2
    have := coord_lt i
    match a with
    | 0 => show ((IntOp.minsi (BitVec.ofNat 32 (i 0).val) (busyOf (pf 1) - 1#32)).toNat + 1) * 4096 ≤ 1212416; omega
    | 1 => show (0 + 1) * 128 ≤ 128; omega
  · rw [tr1]
    have := hw i
    match a with
    | 0 => show ((expertAt (pf 0) ⟨(i 0).val, coord_lt i⟩).toNat + 1) * 1 ≤ 32; omega
    | 1 => show (0 + 1) * 1024 ≤ 1024; omega
    | 2 => show (0 + 1) * 2048 ≤ 2048; omega
  · rw [tr2]
    have := hw i
    match a with
    | 0 => show ((expertAt (pf 0) ⟨(i 0).val, coord_lt i⟩).toNat + 1) * 1 ≤ 32; omega
    | 1 => show (0 + 1) * 1 ≤ 1; omega
    | 2 => show (0 + 1) * 2048 ≤ 2048; omega
  · rw [tr3]
    have := hw i
    match a with
    | 0 => show ((expertAt (pf 0) ⟨(i 0).val, coord_lt i⟩).toNat + 1) * 1 ≤ 32; omega
    | 1 => show (0 + 1) * 1024 ≤ 1024; omega
    | 2 => show (0 + 1) * 1024 ≤ 1024; omega
  · rw [tr4]
    have := hw i
    match a with
    | 0 => show ((expertAt (pf 0) ⟨(i 0).val, coord_lt i⟩).toNat + 1) * 1 ≤ 32; omega
    | 1 => show (0 + 1) * 1 ≤ 1; omega
    | 2 => show (0 + 1) * 1024 ≤ 1024; omega

/-- The table of busy blocks, read by its one index. -/
theorem atD_eq (pf : pre0.Contents (Elt F)) : pf.atD 1 ![0] = busyAt (pf 1) := by
  unfold Pipeline.Prefetch.Contents.atD
  refine (dif_pos (show ∀ a : Fin 1, (![0] : Fin 1 → Nat) a + 1 ≤ S1.size a by decide)).trans ?_
  exact (at_busy (pf 1) _).trans (busyAt_eq (pf 1)).symm

/-- Every point stores its block. -/
theorem never_idle (pf : pre0.Contents (Elt F)) (i : grid0.Coords) : idle0 pf 5 i = false := by
  show (!(k0_cond2 i (pf.atD 1 ![0]) == 1#1) && !(k0_cond3 i (pf.atD 1 ![0]) == 1#1)) = false
  by_cases h : k0_cond2 i (pf.atD 1 ![0]) = 1#1
  · simp [h]
  · have h3 := (cond3_iff i _).2 h
    simp [h3]

end Cert.Kernel3Ideal.Own
-- ==== Proof.Experts.Dats.lean ====
module

public import proofs.«01_k».proof.Defs
public import proofs.«01_k».proof.Proof.Experts.Block
public import proofs.«01_k».proof.Proof.Experts.Tables
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The library's resources, embedded whole. -/
abbrev EP : Emb (UR sig nD τ) 𝕄 := emb₁

variable (a : (pcfg0 (F := F)).Adm) (m : (ℓ : Loc nD τ sig) → Buf (Elt F) ℓ) (ρ : Dev nD → PrngReg)

/-- The pipeline at the tables `a`. -/
abbrev cfgA : Pipeline.Cfg sig Λ₀ := cfg0 a
abbrev pcs : Fin 1 → Pipeline.Cfg sig Λ₀ := Pipeline.pin (pcfgs (F := F)) fun _ => a
abbrev crd (t : Fin (cfgA a).N) : (cfgA a).grid.Coords := (cfgA a).grid.coords t

/-- The windows' staging buffers at a point. -/
abbrev stg0 (t : Fin (cfgA a).N) : Memref sig .tc .vmem S4096x128 .f32 := spec0_0.stage ((cfgA a).slots t (0 : Fin 6))
abbrev stgW0 (t : Fin (cfgA a).N) : (stg0 a t).IsWhole := hstage0_0 (((cfgA a).slots t (0 : Fin 6)).cast nbuf0_0)
abbrev stg1 (t : Fin (cfgA a).N) : Memref sig .tc .vmem S1x1024x2048 .f32 := spec0_1.stage ((cfgA a).slots t (1 : Fin 6))
abbrev stgW1 (t : Fin (cfgA a).N) : (stg1 a t).IsWhole := hstage0_1 (((cfgA a).slots t (1 : Fin 6)).cast nbuf0_1)
abbrev stg2 (t : Fin (cfgA a).N) : Memref sig .tc .vmem S1x1x2048 .f32 := spec0_2.stage ((cfgA a).slots t (2 : Fin 6))
abbrev stgW2 (t : Fin (cfgA a).N) : (stg2 a t).IsWhole := hstage0_2 (((cfgA a).slots t (2 : Fin 6)).cast nbuf0_2)
abbrev stg3 (t : Fin (cfgA a).N) : Memref sig .tc .vmem S1x1024x1024 .f32 := spec0_3.stage ((cfgA a).slots t (3 : Fin 6))
abbrev stgW3 (t : Fin (cfgA a).N) : (stg3 a t).IsWhole := hstage0_3 (((cfgA a).slots t (3 : Fin 6)).cast nbuf0_3)
abbrev stg4 (t : Fin (cfgA a).N) : Memref sig .tc .vmem S1x1x1024 .f32 := spec0_4.stage ((cfgA a).slots t (4 : Fin 6))
abbrev stgW4 (t : Fin (cfgA a).N) : (stg4 a t).IsWhole := hstage0_4 (((cfgA a).slots t (4 : Fin 6)).cast nbuf0_4)
abbrev stg5 (t : Fin (cfgA a).N) : Memref sig .tc .vmem S4096x128 .f32 := spec0_5.stage ((cfgA a).slots t (5 : Fin 6))
abbrev stgW5 (t : Fin (cfgA a).N) : (stg5 a t).IsWhole := hstage0_5 (((cfgA a).slots t (5 : Fin 6)).cast nbuf0_5)

/-- A window's block at a point, as its array holds it at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- The point is busy. -/
abbrev Busy (t : Fin (cfgA a).N) : Prop := k0_cond2 (crd a t) (busyAt (a.1 1)) = 1#1

/-- What the point leaves in its block of the output. -/
def left (c : Dev nD) (t : Fin (cfgA a).N) : S4096x128.Idx → Elt F .f32 :=
  if Busy a t then outBlk (iblk a m ρ c (0 : Fin 6) t) (k0_pay1 (iblk a m ρ c (1 : Fin 6) t)) (iblk a m ρ c (2 : Fin 6) t) (k0_pay2 (iblk a m ρ c (3 : Fin 6) t)) (iblk a m ρ c (4 : Fin 6) t)
  else k0_pay12

/-- Before a point: the scratch arrays hold the weights of the point before, if it was busy; the tables are the given ones. -/
def Phi (c : Dev nD) (t : Fin ((cfgA a).N + 1)) : sProp 𝕄 :=
  iprop(∃ a0 a1, ⌜∀ s : Fin (cfgA a).N, s.val + 1 = t.val → Busy a s → a0 = k0_pay1 (iblk a m ρ c (1 : Fin 6) s) ∧ a1 = k0_pay2 (iblk a m ρ c (3 : Fin 6) s)⌝
    ∗ (scr0.view.loc (c : Thread nD τ) ↦{fullShare} a0) ∗ (scr1.view.loc (c : Thread nD τ) ↦{fullShare} a1)
    ∗ (tab0.view.loc (c : Thread nD τ) ↦{fullShare.right} a.1 0) ∗ (tab1.view.loc (c : Thread nD τ) ↦{fullShare.right} a.1 1))

/-- The proof data of the pipeline. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => left a m ρ c t
  Φ t := Phi a m ρ c t
  q _ := fullShare
  owed _ := 0

theorem after_0 (c : Dev nD) (t : Fin (cfgA a).N) : (dats a m ρ 0 c).after (0 : Fin 6) t = iblk a m ρ c (0 : Fin 6) t := rfl
theorem before_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after_0]; unfold Dat.blockOf iblk; rfl) t d).trans
    (by unfold Dat.fetched Dat.blockOf iblk; rfl)
theorem after_1 (c : Dev nD) (t : Fin (cfgA a).N) : (dats a m ρ 0 c).after (1 : Fin 6) t = iblk a m ρ c (1 : Fin 6) t := rfl
theorem before_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after_1]; unfold Dat.blockOf iblk; rfl) t d).trans
    (by unfold Dat.fetched Dat.blockOf iblk; rfl)
theorem after_2 (c : Dev nD) (t : Fin (cfgA a).N) : (dats a m ρ 0 c).after (2 : Fin 6) t = iblk a m ρ c (2 : Fin 6) t := rfl
theorem before_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after_2]; unfold Dat.blockOf iblk; rfl) t d).trans
    (by unfold Dat.fetched Dat.blockOf iblk; rfl)
theorem after_3 (c : Dev nD) (t : Fin (cfgA a).N) : (dats a m ρ 0 c).after (3 : Fin 6) t = iblk a m ρ c (3 : Fin 6) t := rfl
theorem before_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after_3]; unfold Dat.blockOf iblk; rfl) t d).trans
    (by unfold Dat.fetched Dat.blockOf iblk; rfl)
theorem after_4 (c : Dev nD) (t : Fin (cfgA a).N) : (dats a m ρ 0 c).after (4 : Fin 6) t = iblk a m ρ c (4 : Fin 6) t := rfl
theorem before_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after_4]; unfold Dat.blockOf iblk; rfl) t d).trans
    (by unfold Dat.fetched Dat.blockOf iblk; rfl)
theorem after_5 (c : Dev nD) (t : Fin (cfgA a).N) : (dats a m ρ 0 c).after (5 : Fin 6) t = left a m ρ c t := rfl

/-! The weights' blocks depend on the expert alone. -/

theorem blk_1 (c : Dev nD) (t : Fin (cfgA a).N) (n : Fin 296) (hn : n.val = t.val) (he : (expertAt (a.1 0) n).toNat < 32) :
    iblk a m ρ c (1 : Fin 6) t = fun y : S1x1024x2048.Idx => m ((c : Thread nD τ).loc main_arg3) (ix3 ⟨(expertAt (a.1 0) n).toNat, he⟩ (y 1) (y 2)) := by
  have hx : cc0_transform_1 k0_off1_inb numel1_S1 a.1 (grid0.coords t) = ![(expertAt (a.1 0) n).toNat, 0, 0] := by
    rw [tr1]
    have : (⟨((grid0.coords t) 0).val, coord_lt _⟩ : Fin 296) = n := Fin.ext (by rw [hn]; exact coord t)
    rw [this]
  funext y
  have h0 : (y 0).val < 1 := (y 0).isLt
  refine congrArg (m ((c : Thread nD τ).loc main_arg3)) (funext fun b => Fin.ext ?_)
  match b with
  | 0 =>
    show cc0_transform_1 k0_off1_inb numel1_S1 a.1 (grid0.coords t) 0 * 1 + 1 * (y 0).val = (expertAt (a.1 0) n).toNat
    rw [hx]; show (expertAt (a.1 0) n).toNat * 1 + 1 * (y 0).val = _; omega
  | 1 =>
    show cc0_transform_1 k0_off1_inb numel1_S1 a.1 (grid0.coords t) 1 * 1024 + 1 * (y 1).val = (y 1).val
    rw [hx]; show 0 * 1024 + 1 * (y 1).val = _; omega
  | 2 =>
    show cc0_transform_1 k0_off1_inb numel1_S1 a.1 (grid0.coords t) 2 * 2048 + 1 * (y 2).val = (y 2).val
    rw [hx]; show 0 * 2048 + 1 * (y 2).val = _; omega

theorem blk_3 (c : Dev nD) (t : Fin (cfgA a).N) (n : Fin 296) (hn : n.val = t.val) (he : (expertAt (a.1 0) n).toNat < 32) :
    iblk a m ρ c (3 : Fin 6) t = fun y : S1x1024x1024.Idx => m ((c : Thread nD τ).loc main_arg5) (ix3 ⟨(expertAt (a.1 0) n).toNat, he⟩ (y 1) (y 2)) := by
  have hx : cc0_transform_3 k0_off1_inb numel1_S1 a.1 (grid0.coords t) = ![(expertAt (a.1 0) n).toNat, 0, 0] := by
    rw [tr3]
    have : (⟨((grid0.coords t) 0).val, coord_lt _⟩ : Fin 296) = n := Fin.ext (by rw [hn]; exact coord t)
    rw [this]
  funext y
  have h0 : (y 0).val < 1 := (y 0).isLt
  refine congrArg (m ((c : Thread nD τ).loc main_arg5)) (funext fun b => Fin.ext ?_)
  match b with
  | 0 =>
    show cc0_transform_3 k0_off1_inb numel1_S1 a.1 (grid0.coords t) 0 * 1 + 1 * (y 0).val = (expertAt (a.1 0) n).toNat
    rw [hx]; show (expertAt (a.1 0) n).toNat * 1 + 1 * (y 0).val = _; omega
  | 1 =>
    show cc0_transform_3 k0_off1_inb numel1_S1 a.1 (grid0.coords t) 1 * 1024 + 1 * (y 1).val = (y 1).val
    rw [hx]; show 0 * 1024 + 1 * (y 1).val = _; omega
  | 2 =>
    show cc0_transform_3 k0_off1_inb numel1_S1 a.1 (grid0.coords t) 2 * 1024 + 1 * (y 2).val = (y 2).val
    rw [hx]; show 0 * 1024 + 1 * (y 2).val = _; omega

theorem blk_2 (c : Dev nD) (t : Fin (cfgA a).N) (n : Fin 296) (hn : n.val = t.val) (he : (expertAt (a.1 0) n).toNat < 32) :
    iblk a m ρ c (2 : Fin 6) t = fun y : S1x1x2048.Idx => m ((c : Thread nD τ).loc main_arg4) (ix3 ⟨(expertAt (a.1 0) n).toNat, he⟩ (y 1) (y 2)) := by
  have hx : cc0_transform_2 k0_off1_inb numel1_S1 a.1 (grid0.coords t) = ![(expertAt (a.1 0) n).toNat, 0, 0] := by
    rw [tr2]
    have : (⟨((grid0.coords t) 0).val, coord_lt _⟩ : Fin 296) = n := Fin.ext (by rw [hn]; exact coord t)
    rw [this]
  funext y
  have h0 : (y 0).val < 1 := (y 0).isLt
  refine congrArg (m ((c : Thread nD τ).loc main_arg4)) (funext fun b => Fin.ext ?_)
  match b with
  | 0 =>
    show cc0_transform_2 k0_off1_inb numel1_S1 a.1 (grid0.coords t) 0 * 1 + 1 * (y 0).val = (expertAt (a.1 0) n).toNat
    rw [hx]; show (expertAt (a.1 0) n).toNat * 1 + 1 * (y 0).val = _; omega
  | 1 =>
    show cc0_transform_2 k0_off1_inb numel1_S1 a.1 (grid0.coords t) 1 * 1 + 1 * (y 1).val = (y 1).val
    rw [hx]; show 0 * 1 + 1 * (y 1).val = _; omega
  | 2 =>
    show cc0_transform_2 k0_off1_inb numel1_S1 a.1 (grid0.coords t) 2 * 2048 + 1 * (y 2).val = (y 2).val
    rw [hx]; show 0 * 2048 + 1 * (y 2).val = _; omega

theorem blk_4 (c : Dev nD) (t : Fin (cfgA a).N) (n : Fin 296) (hn : n.val = t.val) (he : (expertAt (a.1 0) n).toNat < 32) :
    iblk a m ρ c (4 : Fin 6) t = fun y : S1x1x1024.Idx => m ((c : Thread nD τ).loc main_arg6) (ix3 ⟨(expertAt (a.1 0) n).toNat, he⟩ (y 1) (y 2)) := by
  have hx : cc0_transform_4 k0_off1_inb numel1_S1 a.1 (grid0.coords t) = ![(expertAt (a.1 0) n).toNat, 0, 0] := by
    rw [tr4]
    have : (⟨((grid0.coords t) 0).val, coord_lt _⟩ : Fin 296) = n := Fin.ext (by rw [hn]; exact coord t)
    rw [this]
  funext y
  have h0 : (y 0).val < 1 := (y 0).isLt
  refine congrArg (m ((c : Thread nD τ).loc main_arg6)) (funext fun b => Fin.ext ?_)
  match b with
  | 0 =>
    show cc0_transform_4 k0_off1_inb numel1_S1 a.1 (grid0.coords t) 0 * 1 + 1 * (y 0).val = (expertAt (a.1 0) n).toNat
    rw [hx]; show (expertAt (a.1 0) n).toNat * 1 + 1 * (y 0).val = _; omega
  | 1 =>
    show cc0_transform_4 k0_off1_inb numel1_S1 a.1 (grid0.coords t) 1 * 1 + 1 * (y 1).val = (y 1).val
    rw [hx]; show 0 * 1 + 1 * (y 1).val = _; omega
  | 2 =>
    show cc0_transform_4 k0_off1_inb numel1_S1 a.1 (grid0.coords t) 2 * 1024 + 1 * (y 2).val = (y 2).val
    rw [hx]; show 0 * 1024 + 1 * (y 2).val = _; omega

end Cert.Kernel3Ideal.Own
-- ==== Proof.Experts.Run.lean ====
module

public import proofs.«01_k».proof.Defs
public import proofs.«01_k».proof.Proof.Experts.Dats
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The body at a point, on its staging buffers. -/
abbrev bodyAt (t : Fin (cfgA a).N) : Prog (TpuEff nD τ sig (Elt F) Λ₀ .tc) PUnit :=
  cc0_moe_expert (crd a t) (Memref.whole main_arg0) (Memref.isWhole_whole _) (Memref.whole main_arg1) (Memref.isWhole_whole _) (stg0 a t) (stgW0 a t) (stg1 a t) (stgW1 a t) (stg2 a t) (stgW2 a t) (stg3 a t) (stgW3 a t) (stg4 a t) (stgW4 a t) (stg5 a t) (stgW5 a t) (Memref.whole cc0_scratch0) (Memref.isWhole_whole _) (Memref.whole cc0_scratch1) (Memref.isWhole_whole _)

/-- A busy point that keeps its weights follows a busy point with the same blocks of weights. -/
theorem kept (hr : Routed (a.1 0) (a.1 1)) (c : Dev nD) (t : Fin (cfgA a).N) (h : ¬Loads (crd a t) (a.1 0) (a.1 1)) (hb : Busy a t) :
    ∃ s : Fin (cfgA a).N, s.val + 1 = t.val ∧ Busy a s ∧ iblk a m ρ c (1 : Fin 6) s = iblk a m ρ c (1 : Fin 6) t ∧ iblk a m ρ c (3 : Fin 6) s = iblk a m ρ c (3 : Fin 6) t := by
  have ht : t.val < 296 := t.isLt
  obtain ⟨h0, he⟩ := keeps h hb
  let n : Fin 296 := ⟨t.val, ht⟩
  let n' : Fin 296 := ⟨t.val - 1, by omega⟩
  let s : Fin (cfgA a).N := ⟨t.val - 1, by have := t.isLt; omega⟩
  have hE : expertAt (a.1 0) n' = expertAt (a.1 0) n := (((thisAt_eq (a.1 0) t n rfl).symm.trans he).trans (lastAt_eq (a.1 0) t n' rfl)).symm
  refine ⟨s, by show t.val - 1 + 1 = t.val; omega, busy_before (s := s) (t := t) (by show t.val - 1 ≤ t.val; omega) hb, ?_, ?_⟩
  · rw [blk_1 a m ρ c s n' rfl (hr.1 _), blk_1 a m ρ c t n rfl (hr.1 _)]
    simp only [hE]
  · rw [blk_3 a m ρ c s n' rfl (hr.1 _), blk_3 a m ρ c t n rfl (hr.1 _)]
    simp only [hE]

set_option maxHeartbeats 4000000 in
/-- The body at a point: it loads its weights, keeps those of the point before, or stores zeros. -/
theorem point (hr : Routed (a.1 0) (a.1 1)) (c : Dev nD) (t : Fin (cfgA a).N) :
    iprop((dats a m ρ 0 c).Φ t.castSucc ∗ (dats a m ρ 0 c).owesAt () t.castSucc
        ∗ (∃ d, owns (c : Thread nD τ) (stg0 a t) fullShare ((dats a m ρ 0 c).before (0 : Fin 6) t d))
        ∗ (∃ d, owns (c : Thread nD τ) (stg1 a t) fullShare ((dats a m ρ 0 c).before (1 : Fin 6) t d))
        ∗ (∃ d, owns (c : Thread nD τ) (stg2 a t) fullShare ((dats a m ρ 0 c).before (2 : Fin 6) t d))
        ∗ (∃ d, owns (c : Thread nD τ) (stg3 a t) fullShare ((dats a m ρ 0 c).before (3 : Fin 6) t d))
        ∗ (∃ d, owns (c : Thread nD τ) (stg4 a t) fullShare ((dats a m ρ 0 c).before (4 : Fin 6) t d))
        ∗ (∃ d, owns (c : Thread nD τ) (stg5 a t) fullShare ((dats a m ρ 0 c).before (5 : Fin 6) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i5 : (cfgA a).idle (5 : Fin 6) ((cfgA a).grid.coords t) = false := never_idle a.1 _
  rewrite [i5]
  simp only [before_0, before_1, before_2, before_3, before_4, after_0, after_1, after_2, after_3, after_4, after_5]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi; simp only [Fin.val_castSucc, Fin.val_succ]
  iintro ⟨⟨%a0, %a1, %hW, HS0, HS1, HT0, HT1⟩, Ho, ⟨%d0, H0⟩, ⟨%d1, H1⟩, ⟨%d2, H2⟩, ⟨%d3, H3⟩, ⟨%d4, H4⟩, ⟨%d5, H5⟩⟩
  by_cases hc0 : Loads (crd a t) (a.1 0) (a.1 1)
  · have h2 : Busy a t := loads_busy hc0
    have h3 : ¬k0_cond3 (crd a t) (busyAt (a.1 1)) = 1#1 := fun h => (cond3_iff _ _).1 h h2
    iapply ((runLoad c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) hc0 h2 h3).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · iexists _, _; isplitr; swap
      · isplitl [HS0]; · iexact HS0
        isplitl [HS1]; · iexact HS1
        isplitl [HT0]; · iexact HT0
        iexact HT1
      · ipureintro
        intro s hs hbs
        have hst : s = t := Fin.ext (by omega)
        rw [hst]
        exact ⟨load_scr0 c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) hc0 h2 h3, load_scr1 c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) hc0 h2 h3⟩
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro
      unfold left; rw [if_pos h2]
      exact load_read c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) hc0 h2 h3 e5
  · by_cases h2 : Busy a t
    · have h3 : ¬k0_cond3 (crd a t) (busyAt (a.1 1)) = 1#1 := fun h => (cond3_iff _ _).1 h h2
      obtain ⟨s', hs', hbs', hk1, hk3⟩ := kept a m ρ hr c t hc0 h2
      have hW' := hW s' hs' hbs'
      rw [hk1, hk3] at hW'
      iapply ((runKeep c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 hc0 h2 h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · iexists _, _; isplitr; swap
        · isplitl [HS0]; · iexact HS0
          isplitl [HS1]; · iexact HS1
          isplitl [HT0]; · iexact HT0
          iexact HT1
        · ipureintro
          intro s hs hbs
          have hst : s = t := Fin.ext (by omega)
          rw [hst]
          exact hW'
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        unfold left; rw [if_pos h2]
        rw [← hW'.1, ← hW'.2]
        exact keep_read c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 hc0 h2 h3 e5
    · have h3 : k0_cond3 (crd a t) (busyAt (a.1 1)) = 1#1 := (cond3_iff _ _).2 h2
      iapply ((runIdle c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 hc0 h2 h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · iexists _, _; isplitr; swap
        · isplitl [HS0]; · iexact HS0
          isplitl [HS1]; · iexact HS1
          isplitl [HT0]; · iexact HT0
          iexact HT1
        · ipureintro
          intro s hs hbs
          have hst : s = t := Fin.ext (by omega)
          rw [hst] at hbs
          exact absurd hbs h2
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        unfold left; rw [if_neg h2]
        exact idle_read c (crd a t) (stg0 a t) (stgW0 a t) (stg1 a t) (stgW1 a t) (stg2 a t) (stgW2 a t) (stg3 a t) (stgW3 a t) (stg4 a t) (stgW4 a t) (stg5 a t) (stgW5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) a0 a1 hc0 h2 h3 e5

theorem obligation (hr : Routed (a.1 0) (a.1 1)) (c : Dev nD) : BodyObligation (dats a m ρ 0 c) (defs₀ (F := F)) Variants.none () Set.univ := fun t => by
  rw [bigSep_W0]
  exact point a m ρ hr c t

/-! The launch. -/

/-- The library's launch element. -/
def u₀ : UR sig nD τ :=
  initOf (Pipeline.cells (pcs a) ((launch0 (F := F)).cellOf_inj fun _ => a))
    (Pipeline.launchToks (pcs a) ((launch0 (F := F)).cellOf_inj fun _ => a))

theorem share_full (c : Dev nD) (w : Fin (cfgA a).W) : (dats a m ρ 0 c).share w = fullShare := by unfold Dat.share; split <;> rfl

theorem held_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_first (c : Dev nD) :
    iprop(BI.emp ∗ Pipeline.prefHeld pre0 c (fun _ => fullShare.right) a.1 ∗ Pipeline.scopedRest spec0 c) ⊢ (dats a m ρ 0 c).Φ 0 := by
  rw [held_eq, scopedRest0_eq, show (dats a m ρ 0 c).Φ 0 = Phi a m ρ c 0 from rfl]
  unfold Phi
  iintro ⟨-, ⟨HT0, HT1⟩, ⟨%a0, HS0⟩, ⟨%a1, HS1⟩⟩
  iexists a0, a1; isplitr; swap
  · isplitl [HS0]; · iexact HS0
    isplitl [HS1]; · iexact HS1
    isplitl [HT0]; · iexact HT0
    iexact HT1
  · ipureintro
    intro s hs
    exact absurd hs (Nat.succ_ne_zero _)

theorem phi_last (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, -, HS0, HS1, -, -⟩
  isplitr; · iempintro
  isplitl [HS0]
  · iexists a0; iexact HS0
  iexists a1; iexact HS1

/-- At the end: every array as the pipeline computes it, the tables as given. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory that holds routed tables, the program runs to its end. -/
theorem run_tables (hr : Routed (a.1 0) (a.1 1)) (hp : ∀ (c : Dev nD) (j : Fin 2), m ((c : Thread nD τ).loc (pre0.ref j)) = a.1 j) :
    θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (obligation a m ρ hr c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m ρ)
    (hout := phi_last a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Kernel3Ideal.Own
-- ==== Proof.Experts.Result.lean ====
/- The run of the experts from any memory with routed tables: the result as the pipeline computes it, the arguments as they were. -/
module

public import proofs.«01_k».proof.Proof.Experts.Run
public import proofs.«01_k».proof.Proof.Experts.Math
public import proofs.«01_k».proof.Proof.Gen.Pre_routed
public import Idealize.ShloMosaic.Lib.Pipeline.ValueKit
public import Idealize.ShloMosaic.Lib.ReduceAll

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.Sem
open Idealize.ShloMosaic.Pipeline (Dat Cfg Window)

/-! The precondition, decoded. -/

instance : Subsingleton Cert.Pre_routed.S_.Idx := ⟨fun a b => funext fun i => i.elim0⟩

/-- A word that is signed at least zero and below thirty-two is below thirty-two. -/
theorem word_lt (v : BitVec 32) (h0 : (0#32).sle v = true) (h1 : v.slt 32#32 = true) : v.toNat < 32 := by
  rw [BitVec.sle_iff_toInt_le] at h0
  rw [BitVec.slt_iff_toInt_lt] at h1
  have e := BitVec.toInt_eq_toNat_cond v
  have e0 : (0#32).toInt = 0 := by decide
  have e1 : (32#32).toInt = 32 := by decide
  rw [e0] at h0
  rw [e1] at h1
  split at e <;> omega

section Pre

variable {F : FTy → Type} [FloatOps F]

theorem routed_of_pre (x0 : IVec Cert.Pre_routed.S296 32) (x1 : IVec Cert.Pre_routed.S1 32) (x2 : FVec F Cert.Pre_routed.S1212416x128 .f32)
    (x3 : FVec F Cert.Pre_routed.S32x1024x2048 .f32) (x4 : FVec F Cert.Pre_routed.S32x1x2048 .f32) (x5 : FVec F Cert.Pre_routed.S32x1024x1024 .f32)
    (x6 : FVec F Cert.Pre_routed.S32x1x1024 .f32) (h : ∀ i, Cert.Pre_routed.fn (F := F) x0 x1 x2 x3 x4 x5 x6 i = 1#1) : Routed (F := F) x0 x1 := by
  have h0 := h (Shape.Idx.first Cert.Pre_routed.Gen.h_S_)
  obtain ⟨hx, hy⟩ := IntOp.andi_eq_one.1 h0
  refine ⟨fun n => ?_, ?_⟩
  · have hn := Host.reduce_andi_all _ _ _ _ _ hx (ix1 n)
    obtain ⟨ha, hb⟩ := IntOp.andi_eq_one.1 hn
    exact word_lt (x0 (ix1 n)) ((bit_of _).1 ha) ((bit_of _).1 hb)
  · have hn := (bit_of _).1 (Host.reduce_andi_all _ _ _ _ _ hy (ix1 0))
    exact BitVec.sle_iff_toInt_le.1 hn

end Pre

variable {F : FTy → Type} [FloatOps F] (m : (ℓ : Loc nD τ sig) → Buf (Elt F) ℓ) (ρ : Dev nD → PrngReg)

/-- The one device. -/
abbrev dev : Dev nD := 0

/-- The tables a memory holds. -/
def tabs (hr : Routed (F := F) (m ((dev : Thread nD τ).loc main_arg0)) (m ((dev : Thread nD τ).loc main_arg1))) : (pcfg0 (F := F)).Adm :=
  ⟨fun j => m ((dev : Thread nD τ).loc (pre0.ref j)), ok_of_routed _ hr⟩

variable (hr : Routed (F := F) (m ((dev : Thread nD τ).loc main_arg0)) (m ((dev : Thread nD τ).loc main_arg1)))

theorem run_main : θ_run (defs (F := F)) (onTc (τ := τ) (main (F := F))) ⟨m, fun _ => 0, ρ⟩ (fun r =>
    (∀ c : Dev nD, r.2.mem ((c : Thread nD τ).loc main_v0) = (dats (tabs m hr) m ρ 0 c).arrAt (5 : Fin 6) (cfgA (tabs m hr)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) := by
  refine (θ_run defs _ _).mono (fun r h => ⟨fun c => ?_, h.2⟩) (run_tables (tabs m hr) m ρ hr fun c j => ?_)
  · obtain rfl : c = dev := Subsingleton.elim _ _
    obtain ⟨hw, ht⟩ := h.1 dev
    exact ⟨hw (5 : Fin 6), ht 0, ht 1, (hw (0 : Fin 6)).trans ((dats (tabs m hr) m ρ 0 dev).arrAt_in (0 : Fin 6) rfl _),
      (hw (1 : Fin 6)).trans ((dats (tabs m hr) m ρ 0 dev).arrAt_in (1 : Fin 6) rfl _),
      (hw (2 : Fin 6)).trans ((dats (tabs m hr) m ρ 0 dev).arrAt_in (2 : Fin 6) rfl _),
      (hw (3 : Fin 6)).trans ((dats (tabs m hr) m ρ 0 dev).arrAt_in (3 : Fin 6) rfl _),
      (hw (4 : Fin 6)).trans ((dats (tabs m hr) m ρ 0 dev).arrAt_in (4 : Fin 6) rfl _)⟩
  · obtain rfl : c = dev := Subsingleton.elim _ _
    rfl

end Cert.Kernel3Ideal.Own

end
-- ==== Proof.Experts.Value.lean ====
/- What a busy block of the experts stores, entry by entry, over the extended reals. -/
module

public import proofs.«01_k».proof.Proof.Experts.Run
public import proofs.«01_k».proof.Proof.Experts.Math
public import proofs.«01_k».proof.Proof.Gen.Pre_routed
public import Idealize.ShloMosaic.Lib.Pipeline.ValueKit

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.Sem
open Idealize.ShloMosaic.Pipeline (Dat Cfg Window)
open Cert.Proof.Experts

/-- The eight tiles of a block. -/
abbrev tiles (x0 : S4096x128.Idx → Elt Ideal .f32) : List ((s : Shape) × (s.Idx → Elt Ideal .f32)) :=
  [⟨S512x128, rowsAt (F := Ideal) x0 0 (by omega)⟩, ⟨S512x128, rowsAt (F := Ideal) x0 1 (by omega)⟩, ⟨S512x128, rowsAt (F := Ideal) x0 2 (by omega)⟩, ⟨S512x128, rowsAt (F := Ideal) x0 3 (by omega)⟩, ⟨S512x128, rowsAt (F := Ideal) x0 4 (by omega)⟩, ⟨S512x128, rowsAt (F := Ideal) x0 5 (by omega)⟩, ⟨S512x128, rowsAt (F := Ideal) x0 6 (by omega)⟩, ⟨S512x128, rowsAt (F := Ideal) x0 7 (by omega)⟩]

/-- The eight tiles of a block side by side: column `128 k + l` of a row is lane `l` of its tile `k`. -/
theorem side_by_side (x0 : S4096x128.Idx → Elt Ideal .f32) (r : Fin 512) (k : Fin 1024) :
    concatenate S512x1024 1 (tiles x0) concatenates_S512x128_S512x128_S512x128_S512x128_S512x128_S512x128_S512x128_S512x128_S512x1024_d1 (ix2 r k)
      = x0 (ix2 ⟨8 * r.val + k.val / 128, by omega⟩ ⟨k.val % 128, by omega⟩) := by
  have hk := k.isLt
  have key : ∀ (q : Nat) (hq : q < 8), k.val / 128 = q → rowsAt (F := Ideal) x0 q hq (ix2 r ⟨k.val % 128, by omega⟩) = x0 (ix2 ⟨8 * r.val + k.val / 128, by omega⟩ ⟨k.val % 128, by omega⟩) := by
    rintro q hq rfl
    rfl
  have off : ∀ b : Fin S512x128.rank, b.cast (rfl : S512x128.rank = S512x1024.rank) ≠ 1 → ((ix2 r ⟨k.val % 128, by omega⟩ : S512x128.Idx) b).val = ((ix2 r k : S512x1024.Idx) (b.cast rfl)).val := fun b hb =>
    match b with
    | ⟨0, _⟩ => rfl
    | ⟨1, _⟩ => absurd rfl hb
  have hq : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases hq with h | h | h | h | h | h | h | h
  · exact (concatenate_apply_piece (t := S512x1024) 1 (tiles x0) concatenates_S512x128_S512x128_S512x128_S512x128_S512x128_S512x128_S512x128_S512x128_S512x1024_d1 (ix2 r k) 0 (show 0 < 8 by decide) S512x128 _ rfl rfl 0 rfl (ix2 r ⟨k.val % 128, by omega⟩) off
      (show 0 + k.val % 128 = k.val by omega)).trans (key 0 (by omega) h)
  · exact (concatenate_apply_piece (t := S512x1024) 1 (tiles x0) concatenates_S512x128_S512x128_S512x128_S512x128_S512x128_S512x128_S512x128_S512x128_S512x1024_d1 (ix2 r k) 1 (show 1 < 8 by decide) S512x128 _ rfl rfl 128 rfl (ix2 r ⟨k.val % 128, by omega⟩) off
      (show 128 + k.val % 128 = k.val by omega)).trans (key 1 (by omega) h)
  · exact (concatenate_apply_piece (t := S512x1024) 1 (tiles x0) concatenates_S512x128_S512x128_S512x128_S512x128_S512x128_S512x128_S512x128_S512x128_S512x1024_d1 (ix2 r k) 2 (show 2 < 8 by decide) S512x128 _ rfl rfl 256 rfl (ix2 r ⟨k.val % 128, by omega⟩) off
      (show 256 + k.val % 128 = k.val by omega)).trans (key 2 (by omega) h)
  · exact (concatenate_apply_piece (t := S512x1024) 1 (tiles x0) concatenates_S512x128_S512x128_S512x128_S512x128_S512x128_S512x128_S512x128_S512x128_S512x1024_d1 (ix2 r k) 3 (show 3 < 8 by decide) S512x128 _ rfl rfl 384 rfl (ix2 r ⟨k.val % 128, by omega⟩) off
      (show 384 + k.val % 128 = k.val by omega)).trans (key 3 (by omega) h)
  · exact (concatenate_apply_piece (t := S512x1024) 1 (tiles x0) concatenates_S512x128_S512x128_S512x128_S512x128_S512x128_S512x128_S512x128_S512x128_S512x1024_d1 (ix2 r k) 4 (show 4 < 8 by decide) S512x128 _ rfl rfl 512 rfl (ix2 r ⟨k.val % 128, by omega⟩) off
      (show 512 + k.val % 128 = k.val by omega)).trans (key 4 (by omega) h)
  · exact (concatenate_apply_piece (t := S512x1024) 1 (tiles x0) concatenates_S512x128_S512x128_S512x128_S512x128_S512x128_S512x128_S512x128_S512x128_S512x1024_d1 (ix2 r k) 5 (show 5 < 8 by decide) S512x128 _ rfl rfl 640 rfl (ix2 r ⟨k.val % 128, by omega⟩) off
      (show 640 + k.val % 128 = k.val by omega)).trans (key 5 (by omega) h)
  · exact (concatenate_apply_piece (t := S512x1024) 1 (tiles x0) concatenates_S512x128_S512x128_S512x128_S512x128_S512x128_S512x128_S512x128_S512x128_S512x1024_d1 (ix2 r k) 6 (show 6 < 8 by decide) S512x128 _ rfl rfl 768 rfl (ix2 r ⟨k.val % 128, by omega⟩) off
      (show 768 + k.val % 128 = k.val by omega)).trans (key 6 (by omega) h)
  · exact (concatenate_apply_piece (t := S512x1024) 1 (tiles x0) concatenates_S512x128_S512x128_S512x128_S512x128_S512x128_S512x128_S512x128_S512x128_S512x1024_d1 (ix2 r k) 7 (show 7 < 8 by decide) S512x128 _ rfl rfl 896 rfl (ix2 r ⟨k.val % 128, by omega⟩) off
      (show 896 + k.val % 128 = k.val by omega)).trans (key 7 (by omega) h)

theorem act_apply (x0 : S4096x128.Idx → Elt Ideal .f32) (W0 : S1024x2048.Idx → Elt Ideal .bf16) (x2 : S1x1x2048.Idx → Elt Ideal .f32) (r : Fin 512) (j : Fin 1024) :
    actOf (F := Ideal) x0 W0 x2 (ix2 r j)
      = hidden (fun k => x0 (ix2 ⟨8 * r.val + k.val / 128, by omega⟩ ⟨k.val % 128, by omega⟩)) (fun k j => W0 (ix2 k j)) (fun j => x2 (ix3 0 0 j)) j := by
  unfold actOf k0_pay13
  generalize hc : concatenate S512x1024 1 (tiles x0) concatenates_S512x128_S512x128_S512x128_S512x128_S512x128_S512x128_S512x128_S512x128_S512x1024_d1 = X
  have hX : ∀ k : Fin 1024, X (ix2 r k) = x0 (ix2 ⟨8 * r.val + k.val / 128, by omega⟩ ⟨k.val % 128, by omega⟩) := fun k => by
    rw [← hc]; exact side_by_side x0 r k
  simp only [pointwise]
  have h1 : ∀ p, (⟨(![0, 0] : Fin 2 → Nat) 0 + r.val, p⟩ : Fin 512) = r := fun _ => Fin.ext (Nat.zero_add _)
  have h2 : ∀ p, (⟨(![0, 0] : Fin 2 → Nat) 1 + j.val, p⟩ : Fin 2048) = ⟨j.val, by omega⟩ := fun _ => Fin.ext (Nat.zero_add _)
  have h3 : ∀ p, (⟨(![0, 1024] : Fin 2 → Nat) 0 + r.val, p⟩ : Fin 512) = r := fun _ => Fin.ext (Nat.zero_add _)
  have h4 : ∀ p, (⟨(![0, 1024] : Fin 2 → Nat) 1 + j.val, p⟩ : Fin 2048) = ⟨j.val + 1024, by omega⟩ := fun _ => Fin.ext (Nat.add_comm _ _)
  simp only [h1, h2, h3, h4, hX, zero_add]
  rfl

theorem pay3_apply (A : FVec Ideal S512x1024 .bf16) (W1 : S1024x1024.Idx → Elt Ideal .bf16) (x4 : S1x1x1024.Idx → Elt Ideal .f32) (r : Fin 512) (e : Fin 1024) :
    k0_pay3 A W1 x4 (ix2 r e) = unit (fun k => A (ix2 r k)) (fun k => W1 (ix2 k e)) (x4 (ix3 0 0 e)) := by
  unfold k0_pay3
  simp only [pointwise]
  rw [zero_add]
  rfl

theorem pay1_apply (W : S1x1024x2048.Idx → Elt Ideal .f32) (k : Fin 1024) (j : Fin 2048) : k0_pay1 (F := Ideal) W (ix2 k j) = W (ix3 0 k j) := by
  unfold k0_pay1
  simp only [pointwise]

theorem pay2_apply (W : S1x1024x1024.Idx → Elt Ideal .f32) (k j : Fin 1024) : k0_pay2 (F := Ideal) W (ix2 k j) = W (ix3 0 k j) := by
  unfold k0_pay2
  simp only [pointwise]

end Cert.Kernel3Ideal.Own

end
-- ==== Proof.Experts.Final.lean ====
/- The experts' result array, entry by entry: every block is its expert's output on its tokens, or zero past the busy blocks. -/
module

public import proofs.«01_k».proof.Proof.Experts.Result
public import proofs.«01_k».proof.Proof.Experts.Value
public import Idealize.ShloMosaic.Lib.Pipeline.Covers

@[expose] public section

set_option maxRecDepth 16384
set_option Elab.async false

noncomputable section

namespace Cert.Kernel3Ideal.Own

open Cert.Kernel3Ideal Cert.Kernel3Ideal.Gen
open Idealize.ShloMosaic
open Idealize.ShloMosaic.TcCoe Idealize.ShloMosaic.Tactic
open Idealize.SL Idealize.SL.Sem
open Idealize.ShloMosaic.Pipeline (Dat Cfg Window)
open Cert.Proof.Experts

variable (a : (pcfg0 (F := Ideal)).Adm) (m : (ℓ : Loc nD τ sig) → Buf (Elt Ideal) ℓ) (ρ : Dev nD → PrngReg)

theorem busy_iff_of (t : Fin grid0.N) (n : Fin 296) (hn : n.val = t.val) (T1 : S1.Idx → Elt Ideal .i32) :
    k0_cond2 (grid0.coords t) (busyAt (F := Ideal) T1) = 1#1 ↔ (BitVec.ofNat 32 n.val).slt (busyOf (F := Ideal) T1) = true := by
  rw [cond2_iff, busyAt_eq, coord, hn]

theorem busy_iff (t : Fin (cfgA a).N) (n : Fin 296) (hn : n.val = t.val) : Busy a t ↔ (BitVec.ofNat 32 n.val).slt (busyOf (F := Ideal) (a.1 1)) = true :=
  busy_iff_of t n hn (a.1 1)

/-- A busy block's tokens are its own. -/
theorem blk_0 (c : Dev nD) (t : Fin (cfgA a).N) (n : Fin 296) (hn : n.val = t.val) (hv : 1 ≤ (busyOf (F := Ideal) (a.1 1)).toInt) (hb : Busy a t) :
    iblk a m ρ c (0 : Fin 6) t = fun y : S4096x128.Idx => m ((c : Thread nD τ).loc main_arg2)
      (ix2 ⟨4096 * n.val + (y 0).val, by have h0 : (y 0).val < 4096 := (y 0).isLt; omega⟩ (y 1)) := by
  have hx : cc0_transform_0 inb_S1_S1_0 numel1_S1 a.1 (grid0.coords t) = ![n.val, 0] := by
    rw [tr0, coord, ← hn, min_eq n.val n.isLt _ hv ((busy_iff a t n hn).1 hb)]
  funext y
  have h0 : (y 0).val < 4096 := (y 0).isLt
  refine congrArg (m ((c : Thread nD τ).loc main_arg2)) (funext fun b => Fin.ext ?_)
  match b with
  | 0 =>
    show cc0_transform_0 inb_S1_S1_0 numel1_S1 a.1 (grid0.coords t) 0 * 4096 + 1 * (y 0).val = 4096 * n.val + (y 0).val
    rw [hx]; show n.val * 4096 + 1 * (y 0).val = _; omega
  | 1 =>
    show cc0_transform_0 inb_S1_S1_0 numel1_S1 a.1 (grid0.coords t) 1 * 128 + 1 * (y 1).val = (y 1).val
    rw [hx]; show 0 * 128 + 1 * (y 1).val = _; omega

theorem chosen_eq (T0 : S296.Idx → Elt Ideal .i32) (n : Fin 296) (h : (expertAt (F := Ideal) T0 n).toNat < 32) : chosen T0 n = ⟨(expertAt (F := Ideal) T0 n).toNat, h⟩ := by
  refine Fin.ext ?_
  show min (expertAt (F := Ideal) T0 n).toInt.toNat 31 = (expertAt (F := Ideal) T0 n).toNat
  rw [BitVec.toInt_eq_toNat_of_lt (by omega)]
  omega

/-- A row of tokens, read in the rows of 128 of its block. -/
theorem token_eq (x : Vec Ideal ⟨2, ![1212416, 128]⟩ .f32) (n : Fin 296) (r : Fin 512) (k : Fin 1024) (p q) :
    x (ix2 ⟨4096 * n.val + (8 * r.val + k.val / 128), p⟩ ⟨k.val % 128, q⟩) = token x n r k := by
  unfold token
  refine congrArg x (funext fun b => Fin.ext ?_)
  match b with
  | 0 => show 4096 * n.val + (8 * r.val + k.val / 128) = ((n.val * 512 + r.val) * 1024 + k.val) / 128; omega
  | 1 => show k.val % 128 = ((n.val * 512 + r.val) * 1024 + k.val) % 128; omega

variable (hr : Routed (F := Ideal) (a.1 0) (a.1 1))
include hr

/-- What a point leaves, entry by entry. -/
theorem left_apply (c : Dev nD) (t : Fin (cfgA a).N) (n : Fin 296) (hn : n.val = t.val) (y : S4096x128.Idx) (r : Fin 512) (e : Fin 1024)
    (h0 : r.val = (y 0).val / 8) (h1 : e.val = 128 * ((y 0).val % 8) + (y 1).val) :
    left a m ρ c t y = entry (a.1 0) (a.1 1) (m ((c : Thread nD τ).loc main_arg2)) (m ((c : Thread nD τ).loc main_arg3)) (m ((c : Thread nD τ).loc main_arg4))
      (m ((c : Thread nD τ).loc main_arg5)) (m ((c : Thread nD τ).loc main_arg6)) n r e := by
  unfold left entry
  have hiff := busy_iff a t n hn
  by_cases hb : Busy a t
  · rw [if_pos hb, if_pos (hiff.1 hb)]
    have he := hr.1 n
    rw [blk_0 a m ρ c t n hn hr.2 hb, blk_1 a m ρ c t n hn he, blk_2 a m ρ c t n hn he, blk_3 a m ρ c t n hn he, blk_4 a m ρ c t n hn he, chosen_eq _ n he]
    unfold outBlk
    have er : (⟨(y 0).val / 8, by have : (y 0).val < 4096 := (y 0).isLt; omega⟩ : Fin 512) = r := Fin.ext h0.symm
    have ee : (⟨128 * ((y 0).val % 8) + (y 1).val, by have : (y 1).val < 128 := (y 1).isLt; omega⟩ : Fin 1024) = e := Fin.ext h1.symm
    show k0_pay3 _ _ _ (ix2 (⟨(y 0).val / 8, _⟩ : Fin 512) (⟨128 * ((y 0).val % 8) + (y 1).val, _⟩ : Fin 1024)) = _
    rw [er, ee, pay3_apply]
    unfold expertRow
    congr 1
    · funext k
      rw [act_apply]
      congr 1
      · funext k'
        exact token_eq _ n r k' _ _
      · funext k' j'
        rw [pay1_apply]
        rfl
    · funext k
      rw [pay2_apply]
      rfl
  · rw [if_neg hb, if_neg (fun h => hb (hiff.2 h))]
    rfl

omit hr in
/-- The index map of the result places block `t` at block row `t`. -/
theorem tr5 (t : Fin grid0.N) : cc0_transform_5 (grid0.coords t) = ![t.val, 0] := by
  show ![(BitVec.ofNat 32 ((grid0.coords t) 0).val).toNat, 0] = _
  rw [coord, ofNat_toNat _ t.isLt]

omit hr in
/-- The result holds 296 blocks, one below the other. -/
theorem nblk_0 : ((cfgA a).win (5 : Fin 6)).nblk (0 : Fin 2) = 296 := by
  show (1212416 + 4096 - 1) / 4096 = 296
  decide
omit hr in
theorem nblk_1 : ((cfgA a).win (5 : Fin 6)).nblk (1 : Fin 2) = 1 := by
  show (128 + 128 - 1) / 128 = 1
  decide

omit hr in
/-- The blocks of the result tile it. -/
theorem covers_5 : ((cfgA a).win (5 : Fin 6)).Covers := by
  refine Window.covers_of_index_surj _ rfl (fun b => ?_) fun β => ?_
  · match b with
    | 0 => show 0 < 4096; omega
    | 1 => show 0 < 128; omega
  · have hb0 : (β (0 : Fin 2)).val < 296 := Nat.lt_of_lt_of_eq (β (0 : Fin 2)).isLt (nblk_0 a)
    have hb1 : (β (1 : Fin 2)).val < 1 := Nat.lt_of_lt_of_eq (β (1 : Fin 2)).isLt (nblk_1 a)
    refine ⟨⟨(β (0 : Fin 2)).val, hb0⟩, fun b => ?_⟩
    match b with
    | 0 => show cc0_transform_5 (grid0.coords ⟨(β (0 : Fin 2)).val, hb0⟩) 0 = _; rw [tr5]; rfl
    | 1 => show cc0_transform_5 (grid0.coords ⟨(β (0 : Fin 2)).val, hb0⟩) 1 = _; rw [tr5]; show 0 = (β (1 : Fin 2)).val; omega

/-- The array the blocks leave. -/
theorem arr_eq (c : Dev nD) : (dats a m ρ 0 c).arrAt (5 : Fin 6) (cfgA a).N = result (a.1 0) (a.1 1) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats a m ρ 0 c).arrAt_eq_of_covers (5 : Fin 6) _ (covers_5 a) (fun t hf y => ?_) (Memref.isWhole_whole _)
  have e0 : ((((cfgA a).win (5 : Fin 6)).blk t).view.emb y (0 : Fin 2)).val = t.val * 4096 + (y (0 : Fin 2)).val := by
    show cc0_transform_5 (grid0.coords t) 0 * 4096 + 1 * (y (0 : Fin 2)).val = _
    rw [tr5]; show t.val * 4096 + 1 * (y (0 : Fin 2)).val = _; omega
  have e1 : ((((cfgA a).win (5 : Fin 6)).blk t).view.emb y (1 : Fin 2)).val = (y (1 : Fin 2)).val := by
    show cc0_transform_5 (grid0.coords t) 1 * 128 + 1 * (y (1 : Fin 2)).val = _
    rw [tr5]; show 0 * 128 + 1 * (y (1 : Fin 2)).val = _; omega
  have y0 : (y (0 : Fin 2)).val < 4096 := (y (0 : Fin 2)).isLt
  have y1 : (y (1 : Fin 2)).val < 128 := (y (1 : Fin 2)).isLt
  have ht : t.val < 296 := t.isLt
  unfold result
  have f0 : (((((cfgA a).win (5 : Fin 6)).blk t).view.emb y (0 : Fin 2)).val * 128 + ((((cfgA a).win (5 : Fin 6)).blk t).view.emb y (1 : Fin 2)).val) / 524288 = t.val := by rw [e0, e1]; omega
  have f1 : (((((cfgA a).win (5 : Fin 6)).blk t).view.emb y (0 : Fin 2)).val * 128 + ((((cfgA a).win (5 : Fin 6)).blk t).view.emb y (1 : Fin 2)).val) / 1024 % 512 = (y (0 : Fin 2)).val / 8 := by rw [e0, e1]; omega
  have f2 : (((((cfgA a).win (5 : Fin 6)).blk t).view.emb y (0 : Fin 2)).val * 128 + ((((cfgA a).win (5 : Fin 6)).blk t).view.emb y (1 : Fin 2)).val) % 1024 = 128 * ((y (0 : Fin 2)).val % 8) + (y (1 : Fin 2)).val := by rw [e0, e1]; omega
  exact left_apply a m ρ hr c t _ f0 y _ _ f1 f2

end Cert.Kernel3Ideal.Own

end
-- ==== Proof.InProj.Math.lean ====
/- The input projection of one row, as a formula: the row is normalised by its root mean square, scaled and shifted,
   and multiplied into a column of the weights. -/
module

public import Idealize.ShloMosaic.Lib.Claim
public import Idealize.ShloMosaic.Lib.Pointwise

@[expose] public section

noncomputable section

namespace Cert.Proof.InProj

open Idealize.ShloMosaic

/-- One entry of the projection: row `x`, weights of the norm `g`, scale `sc`, shift `sh`, column `w`. -/
def rowProj (x g sc sh w : Fin 1024 → EReal) : EReal :=
  ∑ k, (x k * Ideal.rsqrt (Ideal.div (∑ j, x j * x j) (Ideal.ofBits .f32 0x44800000#32) + Ideal.ofBits .f32 0x358637BD#32) * g k * (1 + sc k) + sh k) * w k

/-- Entry `(b, s, e)` of the projection of the whole input. -/
def projAt (x : Vec Ideal ⟨3, ![4, 8192, 1024]⟩ .f32) (ada : Vec Ideal ⟨2, ![4, 6144]⟩ .f32) (g : Vec Ideal ⟨1, ![1024]⟩ .f32)
    (w : Vec Ideal ⟨2, ![1024, 2560]⟩ .f32) (b : Fin 4) (s : Fin 8192) (e : Fin 2560) : EReal :=
  rowProj (fun k => x (ix3 b s k)) (fun k => g (ix1 k)) (fun k => ada (ix2 b ⟨k.val + 1024, by omega⟩)) (fun k => ada (ix2 b ⟨k.val, by omega⟩))
    (fun k => w (ix2 k e))

/-- The part of the projection that begins at column `o`. -/
def part (o : ℕ) (ho : o + 512 ≤ 2560) (x : Vec Ideal ⟨3, ![4, 8192, 1024]⟩ .f32) (ada : Vec Ideal ⟨2, ![4, 6144]⟩ .f32) (g : Vec Ideal ⟨1, ![1024]⟩ .f32)
    (w : Vec Ideal ⟨2, ![1024, 2560]⟩ .f32) : Fin 4 → Fin 8192 → Fin 512 → EReal := fun b s e =>
  projAt x ada g w b s ⟨e.val + o, by omega⟩

/-- The query: its part, scaled by the inverse root of the head width. -/
def qArr (f : Fin 4 → Fin 8192 → Fin 512 → EReal) : Vec Ideal ⟨3, ![4, 8192, 512]⟩ .bf16 := fun i =>
  f (i 0) (i 1) (i 2) * Ideal.ofBits .f32 0x3E000000#32

/-- A part as an array. -/
def rowsArr (f : Fin 4 → Fin 8192 → Fin 512 → EReal) : Vec Ideal ⟨3, ![4, 8192, 512]⟩ .bf16 := fun i => f (i 0) (i 1) (i 2)

/-- A part laid out in pages of 128 rows, head by head. -/
def pageArr (f : Fin 4 → Fin 8192 → Fin 512 → EReal) : Vec Ideal ⟨5, ![4, 64, 8, 128, 64]⟩ .f32 := fun i =>
  f (i 0) ⟨(i 1).val * 128 + (i 3).val, by have := (i 1).isLt; have := (i 3).isLt; simp at *; omega⟩
    ⟨(i 2).val * 64 + (i 4).val, by have := (i 2).isLt; have := (i 4).isLt; simp at *; omega⟩

/-- The gated linear unit: one part times the logistic of another. -/
def gluArr (a g : Fin 4 → Fin 8192 → Fin 512 → EReal) : Vec Ideal ⟨3, ![4, 8192, 512]⟩ .f32 := fun i =>
  a (i 0) (i 1) (i 2) * Ideal.logistic (g (i 0) (i 1) (i 2))

/-- The mean of each block of 256 rows. -/
def meanArr (f : Fin 4 → Fin 8192 → Fin 512 → EReal) : Vec Ideal ⟨4, ![4, 32, 1, 512]⟩ .f32 := fun i =>
  Ideal.div (∑ r : Fin 256, f (i 0) ⟨(i 1).val * 256 + r.val, by have := (i 1).isLt; simp at *; omega⟩ (i 3)) (Ideal.ofBits .f32 0x43800000#32)

end Cert.Proof.InProj
-- ==== Proof.InProj.Reference.lean ====
/- The seven arrays the reference of the input projection leaves. -/
module

public import proofs.«01_k».proof.Proof.Gen.Reference2Ideal.Read
public import proofs.«01_k».proof.Proof.InProj.Math

@[expose] public section

set_option maxRecDepth 16384

noncomputable section

namespace Cert.Proof.InProj.Reference

open Cert.Reference2Ideal Cert.Reference2Ideal.Gen Cert.Reference2Ideal.Read
open Idealize.ShloMosaic Idealize.ShloMosaic.TcCoe Idealize.ShloMosaic.Tactic

variable (x : Vec Ideal S4x8192x1024 .f32) (ada : Vec Ideal S4x6144 .f32) (g : Vec Ideal S1024 .f32) (w : Vec Ideal S1024x2560 .f32)

theorem lidx26 (b : Fin 4) (s : Fin 8192) (e : Fin 2560) (k : Fin 1024) : lidx_main_v26 (ix3 b s e) k = ix3 b s k := by
  funext a; match a with | ⟨0, _⟩ => rfl | ⟨1, _⟩ => rfl | ⟨2, _⟩ => rfl
theorem ridx26 (b : Fin 4) (s : Fin 8192) (e : Fin 2560) (k : Fin 1024) : ridx_main_v26 (ix3 b s e) k = ix2 k e := by
  funext a; match a with | ⟨0, _⟩ => rfl | ⟨1, _⟩ => rfl
theorem idx8 (b : Fin 4) (s : Fin 8192) (k j : Fin 1024) : idx_main_v8 (idx_main_v9 (idx_main_v15 (ix3 b s k))) j = ix3 b s j := by
  funext a; match a with | ⟨0, _⟩ => rfl | ⟨1, _⟩ => rfl | ⟨2, _⟩ => rfl
theorem idx17 (b : Fin 4) (s : Fin 8192) (k : Fin 1024) : idx_main_v17 (idx_main_v18 (ix3 b s k)) = ix1 k := by
  funext a; match a with | ⟨0, _⟩ => rfl
theorem idx2 (b : Fin 4) (s : Fin 8192) (k : Fin 1024) : idx_main_v0 (idx_main_v2 (idx_main_v22 (ix3 b s k))) = ix2 b ⟨k.val + 1024, by omega⟩ := by
  funext a; match a with | ⟨0, _⟩ => rfl | ⟨1, _⟩ => exact Fin.ext (Nat.add_comm _ _)
theorem idx1 (b : Fin 4) (s : Fin 8192) (k : Fin 1024) : idx_main_v0 (idx_main_v1 (idx_main_v24 (ix3 b s k))) = ix2 b ⟨k.val, by omega⟩ := by
  funext a; match a with | ⟨0, _⟩ => rfl | ⟨1, _⟩ => rfl

theorem v26_at (b : Fin 4) (s : Fin 8192) (e : Fin 2560) : val_main_v26 (F := Ideal) x ada g w (ix3 b s e) = projAt x ada g w b s e := by
  rw [val_main_v26_apply]
  unfold projAt rowProj
  refine Finset.sum_congr rfl fun k _ => ?_
  rw [val_main_v25_apply, val_main_v23_apply, val_main_v19_apply, val_main_v16_apply, val_main_v15_apply, val_main_v14_apply, val_main_v13_apply,
    val_main_v11_apply, val_main_v9_apply, val_main_v8_apply, val_main_v10_apply, val_main_v12_apply, val_main_v18_apply, val_main_v17_apply, val_main_v22_apply,
    val_main_v21_apply, val_main_v20_apply, val_main_v2_apply, val_main_v0_apply, val_main_v24_apply, val_main_v1_apply, val_main_v0_apply]
  rw [lidx26, ridx26]
  simp only [val_main_v7_apply, val_main_cst_apply, val_main_cst_0_apply, val_main_cst_1_apply, val_main_cst_2_apply, pointwise]
  rw [idx17, idx2, idx1]
  simp only [idx8]
  rw [zero_add]

theorem v27_at (b : Fin 4) (s : Fin 8192) (e : Fin 512) :
    val_main_v27 (F := Ideal) x ada g w (ix3 b s e) = part 0 (by omega) x ada g w b s e := by
  rw [val_main_v27_apply, show idx_main_v27 (ix3 b s e) = ix3 b s ⟨e.val + 0, by omega⟩ from ?_, v26_at]
  · rfl
  · funext a; match a with | ⟨0, _⟩ => rfl | ⟨1, _⟩ => rfl | ⟨2, _⟩ => rfl

theorem v28_at (b : Fin 4) (s : Fin 8192) (e : Fin 512) :
    val_main_v28 (F := Ideal) x ada g w (ix3 b s e) = part 512 (by omega) x ada g w b s e := by
  rw [val_main_v28_apply, show idx_main_v28 (ix3 b s e) = ix3 b s ⟨e.val + 512, by omega⟩ from ?_, v26_at]
  · rfl
  · funext a; match a with | ⟨0, _⟩ => rfl | ⟨1, _⟩ => rfl | ⟨2, _⟩ => exact Fin.ext (Nat.add_comm _ _)

theorem v29_at (b : Fin 4) (s : Fin 8192) (e : Fin 512) :
    val_main_v29 (F := Ideal) x ada g w (ix3 b s e) = part 1024 (by omega) x ada g w b s e := by
  rw [val_main_v29_apply, show idx_main_v29 (ix3 b s e) = ix3 b s ⟨e.val + 1024, by omega⟩ from ?_, v26_at]
  · rfl
  · funext a; match a with | ⟨0, _⟩ => rfl | ⟨1, _⟩ => rfl | ⟨2, _⟩ => exact Fin.ext (Nat.add_comm _ _)

theorem v30_at (b : Fin 4) (s : Fin 8192) (e : Fin 512) :
    val_main_v30 (F := Ideal) x ada g w (ix3 b s e) = part 1536 (by omega) x ada g w b s e := by
  rw [val_main_v30_apply, show idx_main_v30 (ix3 b s e) = ix3 b s ⟨e.val + 1536, by omega⟩ from ?_, v26_at]
  · rfl
  · funext a; match a with | ⟨0, _⟩ => rfl | ⟨1, _⟩ => rfl | ⟨2, _⟩ => exact Fin.ext (Nat.add_comm _ _)

theorem v31_at (b : Fin 4) (s : Fin 8192) (e : Fin 512) :
    val_main_v31 (F := Ideal) x ada g w (ix3 b s e) = part 2048 (by omega) x ada g w b s e := by
  rw [val_main_v31_apply, show idx_main_v31 (ix3 b s e) = ix3 b s ⟨e.val + 2048, by omega⟩ from ?_, v26_at]
  · rfl
  · funext a; match a with | ⟨0, _⟩ => rfl | ⟨1, _⟩ => rfl | ⟨2, _⟩ => exact Fin.ext (Nat.add_comm _ _)

theorem q_eq : val_main_v46 (F := Ideal) x ada g w = qArr (part 0 (by omega) x ada g w) := by
  funext i
  obtain ⟨b, s, e, rfl⟩ : ∃ (b : Fin 4) (s : Fin 8192) (e : Fin 512), i = ix3 b s e := ⟨i 0, i 1, i 2, eq_ix3 i⟩
  rw [val_main_v46_apply, val_main_v45_apply, v27_at, val_main_v44_apply]
  rfl

theorem k_eq : val_main_v47 (F := Ideal) x ada g w = rowsArr (part 512 (by omega) x ada g w) := by
  funext i
  obtain ⟨b, s, e, rfl⟩ : ∃ (b : Fin 4) (s : Fin 8192) (e : Fin 512), i = ix3 b s e := ⟨i 0, i 1, i 2, eq_ix3 i⟩
  rw [val_main_v47_apply, v28_at]
  rfl

theorem v_eq : val_main_v48 (F := Ideal) x ada g w = rowsArr (part 1024 (by omega) x ada g w) := by
  funext i
  obtain ⟨b, s, e, rfl⟩ : ∃ (b : Fin 4) (s : Fin 8192) (e : Fin 512), i = ix3 b s e := ⟨i 0, i 1, i 2, eq_ix3 i⟩
  rw [val_main_v48_apply, v29_at]
  rfl

theorem u_eq : val_main_v38 (F := Ideal) x ada g w = gluArr (part 1536 (by omega) x ada g w) (part 2048 (by omega) x ada g w) := by
  funext i
  obtain ⟨b, s, e, rfl⟩ : ∃ (b : Fin 4) (s : Fin 8192) (e : Fin 512), i = ix3 b s e := ⟨i 0, i 1, i 2, eq_ix3 i⟩
  rw [val_main_v38_apply, v30_at, val_main_v37_apply, val_main_v36_apply, val_main_v35_apply, val_main_v34_apply, val_main_v33_apply, val_main_v32_apply, v31_at]
  simp only [val_main_cst_3_apply, val_main_cst_4_apply, pointwise]
  rfl

theorem kp_idx (b : Fin 4) (p : Fin 64) (h : Fin 8) (r : Fin 128) (l : Fin 64) :
    idx_main_v49 (idx_main_v50 (ix5 b p h r l)) = ix3 b ⟨p.val * 128 + r.val, by omega⟩ ⟨h.val * 64 + l.val, by omega⟩ := by
  funext a
  match a with
  | ⟨0, _⟩ => exact Fin.ext (show ((((b.val * 64 + p.val) * 128 + r.val) * 8 + h.val) * 64 + l.val) / 4194304 = b.val by omega)
  | ⟨1, _⟩ => exact Fin.ext (show ((((b.val * 64 + p.val) * 128 + r.val) * 8 + h.val) * 64 + l.val) / 512 % 8192 = p.val * 128 + r.val by omega)
  | ⟨2, _⟩ => exact Fin.ext (show ((((b.val * 64 + p.val) * 128 + r.val) * 8 + h.val) * 64 + l.val) % 512 = h.val * 64 + l.val by omega)

theorem kp_eq : val_main_v50 (F := Ideal) x ada g w = pageArr (part 512 (by omega) x ada g w) := by
  funext i
  obtain ⟨b, p, h, r, l, rfl⟩ : ∃ (b : Fin 4) (p : Fin 64) (h : Fin 8) (r : Fin 128) (l : Fin 64), i = ix5 b p h r l := ⟨i 0, i 1, i 2, i 3, i 4, eq_ix5 i⟩
  rw [val_main_v50_apply, val_main_v49_apply, kp_idx, v28_at]
  rfl

theorem vp_idx (b : Fin 4) (p : Fin 64) (h : Fin 8) (r : Fin 128) (l : Fin 64) :
    idx_main_v51 (idx_main_v52 (ix5 b p h r l)) = ix3 b ⟨p.val * 128 + r.val, by omega⟩ ⟨h.val * 64 + l.val, by omega⟩ := by
  funext a
  match a with
  | ⟨0, _⟩ => exact Fin.ext (show ((((b.val * 64 + p.val) * 128 + r.val) * 8 + h.val) * 64 + l.val) / 4194304 = b.val by omega)
  | ⟨1, _⟩ => exact Fin.ext (show ((((b.val * 64 + p.val) * 128 + r.val) * 8 + h.val) * 64 + l.val) / 512 % 8192 = p.val * 128 + r.val by omega)
  | ⟨2, _⟩ => exact Fin.ext (show ((((b.val * 64 + p.val) * 128 + r.val) * 8 + h.val) * 64 + l.val) % 512 = h.val * 64 + l.val by omega)

theorem vp_eq : val_main_v52 (F := Ideal) x ada g w = pageArr (part 1024 (by omega) x ada g w) := by
  funext i
  obtain ⟨b, p, h, r, l, rfl⟩ : ∃ (b : Fin 4) (p : Fin 64) (h : Fin 8) (r : Fin 128) (l : Fin 64), i = ix5 b p h r l := ⟨i 0, i 1, i 2, i 3, i 4, eq_ix5 i⟩
  rw [val_main_v52_apply, val_main_v51_apply, vp_idx, v29_at]
  rfl

theorem km_idx (b : Fin 4) (n : Fin 32) (e : Fin 512) (r : Fin 256) :
    idx_main_v39 (idx_main_v40 (idx_main_v41 (ix4 b n 0 e)) r) = ix3 b ⟨n.val * 256 + r.val, by omega⟩ e := by
  funext a
  match a with
  | ⟨0, _⟩ => exact Fin.ext (show (((b.val * 32 + n.val) * 256 + r.val) * 512 + e.val) / 4194304 = b.val by omega)
  | ⟨1, _⟩ => exact Fin.ext (show (((b.val * 32 + n.val) * 256 + r.val) * 512 + e.val) / 512 % 8192 = n.val * 256 + r.val by omega)
  | ⟨2, _⟩ => exact Fin.ext (show (((b.val * 32 + n.val) * 256 + r.val) * 512 + e.val) % 512 = e.val by omega)

theorem km_eq : val_main_v43 (F := Ideal) x ada g w = meanArr (part 512 (by omega) x ada g w) := by
  funext i
  obtain ⟨b, n, z, e, rfl⟩ : ∃ (b : Fin 4) (n : Fin 32) (z : Fin 1) (e : Fin 512), i = ix4 b n z e := ⟨i 0, i 1, i 2, i 3, eq_ix4 i⟩
  obtain rfl : z = 0 := Subsingleton.elim _ _
  rw [val_main_v43_apply, val_main_v41_apply, val_main_v40_apply, val_main_v42_apply]
  simp only [val_main_v39_apply, val_main_cst_5_apply, val_main_cst_6_apply, pointwise, km_idx, v28_at]
  rw [zero_add]
  rfl

end Cert.Proof.InProj.Reference
-- ==== Proof.InProjSample.Math.lean ====
/- The decoding step's input projection, as formulas over its arrays of 128 sequences of eight rows. -/
module

public import proofs.«01_k».proof.Proof.InProj.Math

@[expose] public section

noncomputable section

namespace Cert.Proof.InProjSample

open Idealize.ShloMosaic
open Cert.Proof.InProj (rowProj)

/-- Entry `(b, s, e)` of the projection of the whole input. -/
def projAt (x : Vec Ideal ⟨3, ![128, 8, 1024]⟩ .f32) (ada : Vec Ideal ⟨2, ![128, 6144]⟩ .f32) (g : Vec Ideal ⟨1, ![1024]⟩ .f32)
    (w : Vec Ideal ⟨2, ![1024, 2560]⟩ .f32) (b : Fin 128) (s : Fin 8) (e : Fin 2560) : EReal :=
  rowProj (fun k => x (ix3 b s k)) (fun k => g (ix1 k)) (fun k => ada (ix2 b ⟨k.val + 1024, by omega⟩)) (fun k => ada (ix2 b ⟨k.val, by omega⟩))
    (fun k => w (ix2 k e))

/-- The part of the projection that begins at column `o`. -/
def part (o : ℕ) (ho : o + 512 ≤ 2560) (x : Vec Ideal ⟨3, ![128, 8, 1024]⟩ .f32) (ada : Vec Ideal ⟨2, ![128, 6144]⟩ .f32) (g : Vec Ideal ⟨1, ![1024]⟩ .f32)
    (w : Vec Ideal ⟨2, ![1024, 2560]⟩ .f32) : Fin 128 → Fin 8 → Fin 512 → EReal := fun b s e =>
  projAt x ada g w b s ⟨e.val + o, by omega⟩

/-- A part laid out head by head. -/
def headArr (f : Fin 128 → Fin 8 → Fin 512 → EReal) : Vec Ideal ⟨4, ![128, 8, 8, 64]⟩ .f32 := fun i =>
  f (i 0) (i 2) ⟨(i 1).val * 64 + (i 3).val, by have := (i 1).isLt; have := (i 3).isLt; simp at *; omega⟩

/-- The query: its part head by head, scaled by the inverse root of the head width. -/
def qArr (f : Fin 128 → Fin 8 → Fin 512 → EReal) : Vec Ideal ⟨4, ![128, 8, 8, 64]⟩ .f32 := fun i =>
  headArr f i * Ideal.ofBits .f32 0x3E000000#32

/-- The gated linear unit, the rows of all sequences one after the other: one part times the logistic of another. -/
def gluArr (a g : Fin 128 → Fin 8 → Fin 512 → EReal) : Vec Ideal ⟨3, ![1, 1024, 512]⟩ .f32 := fun i =>
  a ⟨(i 1).val / 8, by have := (i 1).isLt; simp at *; omega⟩ ⟨(i 1).val % 8, by omega⟩ (i 2)
    * Ideal.logistic (g ⟨(i 1).val / 8, by have := (i 1).isLt; simp at *; omega⟩ ⟨(i 1).val % 8, by omega⟩ (i 2))

end Cert.Proof.InProjSample
-- ==== Proof.InProjSample.Reference.lean ====
/- The four arrays the reference of the decoding step's projection leaves. -/
module

public import proofs.«01_k».proof.Proof.Gen.Reference4Ideal.Read
public import proofs.«01_k».proof.Proof.InProjSample.Math

@[expose] public section

set_option maxRecDepth 16384

noncomputable section

namespace Cert.Proof.InProjSample.Reference

open Cert.Reference4Ideal Cert.Reference4Ideal.Gen Cert.Reference4Ideal.Read
open Idealize.ShloMosaic Idealize.ShloMosaic.TcCoe Idealize.ShloMosaic.Tactic

variable (x : Vec Ideal S128x8x1024 .f32) (ada : Vec Ideal S128x6144 .f32) (g : Vec Ideal S1024 .f32) (w : Vec Ideal S1024x2560 .f32)

theorem lidx26 (b : Fin 128) (s : Fin 8) (e : Fin 2560) (k : Fin 1024) : lidx_main_v26 (ix3 b s e) k = ix3 b s k := by
  funext a; match a with | ⟨0, _⟩ => rfl | ⟨1, _⟩ => rfl | ⟨2, _⟩ => rfl
theorem ridx26 (b : Fin 128) (s : Fin 8) (e : Fin 2560) (k : Fin 1024) : ridx_main_v26 (ix3 b s e) k = ix2 k e := by
  funext a; match a with | ⟨0, _⟩ => rfl | ⟨1, _⟩ => rfl
theorem idx8 (b : Fin 128) (s : Fin 8) (k j : Fin 1024) : idx_main_v8 (idx_main_v9 (idx_main_v15 (ix3 b s k))) j = ix3 b s j := by
  funext a; match a with | ⟨0, _⟩ => rfl | ⟨1, _⟩ => rfl | ⟨2, _⟩ => rfl
theorem idx17 (b : Fin 128) (s : Fin 8) (k : Fin 1024) : idx_main_v17 (idx_main_v18 (ix3 b s k)) = ix1 k := by
  funext a; match a with | ⟨0, _⟩ => rfl
theorem idx2 (b : Fin 128) (s : Fin 8) (k : Fin 1024) : idx_main_v0 (idx_main_v2 (idx_main_v22 (ix3 b s k))) = ix2 b ⟨k.val + 1024, by omega⟩ := by
  funext a; match a with | ⟨0, _⟩ => rfl | ⟨1, _⟩ => exact Fin.ext (Nat.add_comm _ _)
theorem idx1 (b : Fin 128) (s : Fin 8) (k : Fin 1024) : idx_main_v0 (idx_main_v1 (idx_main_v24 (ix3 b s k))) = ix2 b ⟨k.val, by omega⟩ := by
  funext a; match a with | ⟨0, _⟩ => rfl | ⟨1, _⟩ => rfl

theorem v26_at (b : Fin 128) (s : Fin 8) (e : Fin 2560) : val_main_v26 (F := Ideal) x ada g w (ix3 b s e) = projAt x ada g w b s e := by
  rw [val_main_v26_apply]
  unfold projAt InProj.rowProj
  refine Finset.sum_congr rfl fun k _ => ?_
  rw [val_main_v25_apply, val_main_v23_apply, val_main_v19_apply, val_main_v16_apply, val_main_v15_apply, val_main_v14_apply, val_main_v13_apply,
    val_main_v11_apply, val_main_v9_apply, val_main_v8_apply, val_main_v10_apply, val_main_v12_apply, val_main_v18_apply, val_main_v17_apply, val_main_v22_apply,
    val_main_v21_apply, val_main_v20_apply, val_main_v2_apply, val_main_v0_apply, val_main_v24_apply, val_main_v1_apply, val_main_v0_apply]
  rw [lidx26, ridx26]
  simp only [val_main_v7_apply, val_main_cst_apply, val_main_cst_0_apply, val_main_cst_1_apply, val_main_cst_2_apply, pointwise]
  rw [idx17, idx2, idx1]
  simp only [idx8]
  rw [zero_add]

theorem v27_at (b : Fin 128) (s : Fin 8) (e : Fin 512) :
    val_main_v27 (F := Ideal) x ada g w (ix3 b s e) = part 0 (by omega) x ada g w b s e := by
  rw [val_main_v27_apply, show idx_main_v27 (ix3 b s e) = ix3 b s ⟨e.val + 0, by omega⟩ from ?_, v26_at]
  · rfl
  · funext a; match a with | ⟨0, _⟩ => rfl | ⟨1, _⟩ => rfl | ⟨2, _⟩ => rfl

theorem v28_at (b : Fin 128) (s : Fin 8) (e : Fin 512) :
    val_main_v28 (F := Ideal) x ada g w (ix3 b s e) = part 512 (by omega) x ada g w b s e := by
  rw [val_main_v28_apply, show idx_main_v28 (ix3 b s e) = ix3 b s ⟨e.val + 512, by omega⟩ from ?_, v26_at]
  · rfl
  · funext a; match a with | ⟨0, _⟩ => rfl | ⟨1, _⟩ => rfl | ⟨2, _⟩ => exact Fin.ext (Nat.add_comm _ _)

theorem v29_at (b : Fin 128) (s : Fin 8) (e : Fin 512) :
    val_main_v29 (F := Ideal) x ada g w (ix3 b s e) = part 1024 (by omega) x ada g w b s e := by
  rw [val_main_v29_apply, show idx_main_v29 (ix3 b s e) = ix3 b s ⟨e.val + 1024, by omega⟩ from ?_, v26_at]
  · rfl
  · funext a; match a with | ⟨0, _⟩ => rfl | ⟨1, _⟩ => rfl | ⟨2, _⟩ => exact Fin.ext (Nat.add_comm _ _)

theorem v30_at (b : Fin 128) (s : Fin 8) (e : Fin 512) :
    val_main_v30 (F := Ideal) x ada g w (ix3 b s e) = part 1536 (by omega) x ada g w b s e := by
  rw [val_main_v30_apply, show idx_main_v30 (ix3 b s e) = ix3 b s ⟨e.val + 1536, by omega⟩ from ?_, v26_at]
  · rfl
  · funext a; match a with | ⟨0, _⟩ => rfl | ⟨1, _⟩ => rfl | ⟨2, _⟩ => exact Fin.ext (Nat.add_comm _ _)

theorem v31_at (b : Fin 128) (s : Fin 8) (e : Fin 512) :
    val_main_v31 (F := Ideal) x ada g w (ix3 b s e) = part 2048 (by omega) x ada g w b s e := by
  rw [val_main_v31_apply, show idx_main_v31 (ix3 b s e) = ix3 b s ⟨e.val + 2048, by omega⟩ from ?_, v26_at]
  · rfl
  · funext a; match a with | ⟨0, _⟩ => rfl | ⟨1, _⟩ => rfl | ⟨2, _⟩ => exact Fin.ext (Nat.add_comm _ _)

theorem head_idx (b : Fin 128) (h s : Fin 8) (l : Fin 64) : idx_main_v41 (idx_main_v42 (ix4 b h s l)) = ix3 b s ⟨h.val * 64 + l.val, by omega⟩ := by
  funext a
  match a with
  | ⟨0, _⟩ => exact Fin.ext (show (((b.val * 8 + s.val) * 8 + h.val) * 64 + l.val) / 4096 = b.val by omega)
  | ⟨1, _⟩ => exact Fin.ext (show (((b.val * 8 + s.val) * 8 + h.val) * 64 + l.val) / 512 % 8 = s.val by omega)
  | ⟨2, _⟩ => exact Fin.ext (show (((b.val * 8 + s.val) * 8 + h.val) * 64 + l.val) % 512 = h.val * 64 + l.val by omega)

theorem q_eq : val_main_v42 (F := Ideal) x ada g w = qArr (part 0 (by omega) x ada g w) := by
  funext i
  obtain ⟨b, h, s, l, rfl⟩ : ∃ (b : Fin 128) (h s : Fin 8) (l : Fin 64), i = ix4 b h s l := ⟨i 0, i 1, i 2, i 3, eq_ix4 i⟩
  rw [val_main_v42_apply, val_main_v41_apply, head_idx, val_main_v40_apply, v27_at, val_main_v39_apply]
  rfl

theorem k_eq : val_main_v44 (F := Ideal) x ada g w = headArr (part 512 (by omega) x ada g w) := by
  funext i
  obtain ⟨b, h, s, l, rfl⟩ : ∃ (b : Fin 128) (h s : Fin 8) (l : Fin 64), i = ix4 b h s l := ⟨i 0, i 1, i 2, i 3, eq_ix4 i⟩
  rw [val_main_v44_apply, val_main_v43_apply]
  exact (congrArg _ (head_idx b h s l)).trans (v28_at x ada g w b s _)

theorem v_eq : val_main_v46 (F := Ideal) x ada g w = headArr (part 1024 (by omega) x ada g w) := by
  funext i
  obtain ⟨b, h, s, l, rfl⟩ : ∃ (b : Fin 128) (h s : Fin 8) (l : Fin 64), i = ix4 b h s l := ⟨i 0, i 1, i 2, i 3, eq_ix4 i⟩
  rw [val_main_v46_apply, val_main_v45_apply]
  exact (congrArg _ (head_idx b h s l)).trans (v29_at x ada g w b s _)

theorem row_idx (n : Fin 1024) (e : Fin 512) : idx_main_v47 (ix3 0 n e) = ix3 ⟨n.val / 8, by omega⟩ ⟨n.val % 8, by omega⟩ e := by
  funext a
  match a with
  | ⟨0, _⟩ => exact Fin.ext (show ((0 * 1024 + n.val) * 512 + e.val) / 4096 = n.val / 8 by omega)
  | ⟨1, _⟩ => exact Fin.ext (show ((0 * 1024 + n.val) * 512 + e.val) / 512 % 8 = n.val % 8 by omega)
  | ⟨2, _⟩ => exact Fin.ext (show ((0 * 1024 + n.val) * 512 + e.val) % 512 = e.val by omega)

theorem u_eq : val_main_v47 (F := Ideal) x ada g w = gluArr (part 1536 (by omega) x ada g w) (part 2048 (by omega) x ada g w) := by
  funext i
  obtain ⟨z, n, e, rfl⟩ : ∃ (z : Fin 1) (n : Fin 1024) (e : Fin 512), i = ix3 z n e := ⟨i 0, i 1, i 2, eq_ix3 i⟩
  obtain rfl : z = 0 := Subsingleton.elim _ _
  rw [val_main_v47_apply, row_idx, val_main_v38_apply, v30_at, val_main_v37_apply, val_main_v36_apply, val_main_v35_apply, val_main_v34_apply, val_main_v33_apply, val_main_v32_apply, v31_at]
  simp only [val_main_cst_3_apply, val_main_cst_4_apply, pointwise]
  rfl

end Cert.Proof.InProjSample.Reference
-- ==== Proof.InProjSample.Blocks.lean ====
/- What one grid point of `Kernel4Ideal` stores, read at an index: a part of the tile laid out head by head in eight
   pieces, and the gated linear unit in one. -/
module

public import proofs.«01_k».proof.Proof.Gen.Kernel4Ideal.Frame
public import Idealize.ShloMosaic.Lib.Pipeline.Value
public import Idealize.ShloMosaic.Lib.Pipeline.ValueKit

@[expose] public section

set_option maxRecDepth 16384

noncomputable section

namespace Cert.Proof.InProjSample

open Cert.Kernel4Ideal Cert.Kernel4Ideal.Gen
open Idealize.ShloMosaic Idealize.ShloMosaic.TcCoe Idealize.ShloMosaic.Tactic

/-- A part of the tile, 128 rows of 512, as 16 sequences of eight rows, head by head. -/
def laid (T : Vec Ideal S128x512 .f32) : Vec Ideal S16x8x8x64 .f32 := fun y =>
  T (ix2 ⟨(y 0).val * 8 + (y 2).val, by have := (y 0).isLt; have := (y 2).isLt; simp at *; omega⟩
    ⟨(y 1).val * 64 + (y 3).val, by have := (y 1).isLt; have := (y 3).isLt; simp at *; omega⟩)

/-- One head cut out of the part and given its own axis. -/
theorem head_apply (T : Vec Ideal S128x512 .f32) (o : ℕ) (ho : o + 64 ≤ 512) (hs : S128x512.Slices ![0, o] S128x64) (x : S16x1x8x64.Idx) :
    shapeCast S16x1x8x64 (shapeCast S16x8x64 (extractStridedSlice S128x64 ![0, o] T hs) shapeCasts_S128x64_S16x8x64) shapeCasts_S16x8x64_S16x1x8x64 x
      = T (ix2 ⟨(x 0).val * 8 + (x 2).val, by have := (x 0).isLt; have := (x 2).isLt; simp at *; omega⟩ ⟨o + (x 3).val, by have := (x 3).isLt; simp at *; omega⟩) := by
  obtain ⟨a, z, s, l, rfl⟩ : ∃ (a : Fin 16) (z : Fin 1) (s : Fin 8) (l : Fin 64), x = ix4 a z s l := ⟨x 0, x 1, x 2, x 3, eq_ix4 x⟩
  obtain rfl : z = 0 := Subsingleton.elim _ _
  refine (shapeCast_apply _ _ _ (ix3 a s l) ?_).trans ((shapeCast_apply _ _ _ (ix2 ⟨a.val * 8 + s.val, by omega⟩ l) ?_).trans ?_)
  · rw [Shape.rowMajor_val_three, Shape.rowMajor_val_four]
    show (a.val * 8 + s.val) * 64 + l.val = ((a.val * 1 + 0) * 8 + s.val) * 64 + l.val
    omega
  · rw [Shape.rowMajor_val_two, Shape.rowMajor_val_three]
    rfl
  · exact extractStridedSlice_apply _ _ _ _ _ fun b => match b with
      | ⟨0, _⟩ => (Nat.zero_add _).symm
      | ⟨1, _⟩ => rfl

/-- The same, at the index of the block under the piece of head `h`. -/
theorem piece_apply (T : Vec Ideal S128x512 .f32) (h : ℕ) (hh : h < 8) (hs : S128x512.Slices ![0, h * 64] S128x64)
    (hi : ∀ a : Fin 4, (![0, h, 0, 0] : Fin 4 → ℕ) a + S16x1x8x64.size a ≤ S16x8x8x64.size a) (x : S16x1x8x64.Idx) :
    shapeCast S16x1x8x64 (shapeCast S16x8x64 (extractStridedSlice S128x64 ![0, h * 64] T hs) shapeCasts_S128x64_S16x8x64) shapeCasts_S16x8x64_S16x1x8x64 x
      = laid T ((Rect.unit (s := S16x8x8x64) ![0, h, 0, 0] S16x1x8x64.size hi).idx x) := by
  refine (head_apply T (h * 64) (by omega) hs x).trans ?_
  have hx1 : (x 1).val = 0 := by have : (x 1).val < 1 := (x 1).isLt; omega
  unfold laid
  refine congrArg T (congrArg₂ ix2 (Fin.ext ?_) (Fin.ext ?_))
  · show (x 0).val * 8 + (x 2).val = (0 + 1 * (x 0).val) * 8 + (0 + 1 * (x 2).val)
    omega
  · show h * 64 + (x 3).val = (h + 1 * (x 1).val) * 64 + (0 + 1 * (x 3).val)
    omega

variable (x0 x1 x2 : Vec Ideal S1x128x1024 .f32) (x3 : Vec Ideal S1x1024 .f32) (x4 : Vec Ideal S1024x2560 .bf16)

theorem out5_at (y : S16x8x8x64.Idx) : out0_5 x0 x1 x2 x3 x4 y = laid (k0_pay35 x0 x1 x2 x3 x4) y := by
  unfold out0_5
  generalize k0_pay35 x0 x1 x2 x3 x4 = T
  refine View.canon_apply_of_pieces (laid T) _ ?_ y (cover0_5 _ _ _ _ _ _ _ _ y)
  intro pc hpc
  rcases List.mem_cons.mp hpc with rfl | hpc
  · exact fun x => piece_apply T 7 (by decide) slices_S128x512_o0_448_S128x64 inb_S16x8x8x64_S16x1x8x64_0_7_0_0 x
  rcases List.mem_cons.mp hpc with rfl | hpc
  · exact fun x => piece_apply T 6 (by decide) slices_S128x512_o0_384_S128x64 inb_S16x8x8x64_S16x1x8x64_0_6_0_0 x
  rcases List.mem_cons.mp hpc with rfl | hpc
  · exact fun x => piece_apply T 5 (by decide) slices_S128x512_o0_320_S128x64 inb_S16x8x8x64_S16x1x8x64_0_5_0_0 x
  rcases List.mem_cons.mp hpc with rfl | hpc
  · exact fun x => piece_apply T 4 (by decide) slices_S128x512_o0_256_S128x64 inb_S16x8x8x64_S16x1x8x64_0_4_0_0 x
  rcases List.mem_cons.mp hpc with rfl | hpc
  · exact fun x => piece_apply T 3 (by decide) slices_S128x512_o0_192_S128x64 inb_S16x8x8x64_S16x1x8x64_0_3_0_0 x
  rcases List.mem_cons.mp hpc with rfl | hpc
  · exact fun x => piece_apply T 2 (by decide) slices_S128x512_o0_128_S128x64 inb_S16x8x8x64_S16x1x8x64_0_2_0_0 x
  rcases List.mem_cons.mp hpc with rfl | hpc
  · exact fun x => piece_apply T 1 (by decide) slices_S128x512_o0_64_S128x64 inb_S16x8x8x64_S16x1x8x64_0_1_0_0 x
  rcases List.mem_cons.mp hpc with rfl | hpc
  · exact fun x => piece_apply T 0 (by decide) slices_S128x512_o0_0_S128x64 inb_S16x8x8x64_S16x1x8x64_0_0_0_0 x
  nomatch hpc

theorem out6_at (y : S16x8x8x64.Idx) : out0_6 x0 x1 x2 x3 x4 y = laid (k0_pay36 x0 x1 x2 x3 x4) y := by
  unfold out0_6
  generalize k0_pay36 x0 x1 x2 x3 x4 = T
  refine View.canon_apply_of_pieces (laid T) _ ?_ y (cover0_6 _ _ _ _ _ _ _ _ y)
  intro pc hpc
  rcases List.mem_cons.mp hpc with rfl | hpc
  · exact fun x => piece_apply T 7 (by decide) slices_S128x512_o0_448_S128x64 inb_S16x8x8x64_S16x1x8x64_0_7_0_0 x
  rcases List.mem_cons.mp hpc with rfl | hpc
  · exact fun x => piece_apply T 6 (by decide) slices_S128x512_o0_384_S128x64 inb_S16x8x8x64_S16x1x8x64_0_6_0_0 x
  rcases List.mem_cons.mp hpc with rfl | hpc
  · exact fun x => piece_apply T 5 (by decide) slices_S128x512_o0_320_S128x64 inb_S16x8x8x64_S16x1x8x64_0_5_0_0 x
  rcases List.mem_cons.mp hpc with rfl | hpc
  · exact fun x => piece_apply T 4 (by decide) slices_S128x512_o0_256_S128x64 inb_S16x8x8x64_S16x1x8x64_0_4_0_0 x
  rcases List.mem_cons.mp hpc with rfl | hpc
  · exact fun x => piece_apply T 3 (by decide) slices_S128x512_o0_192_S128x64 inb_S16x8x8x64_S16x1x8x64_0_3_0_0 x
  rcases List.mem_cons.mp hpc with rfl | hpc
  · exact fun x => piece_apply T 2 (by decide) slices_S128x512_o0_128_S128x64 inb_S16x8x8x64_S16x1x8x64_0_2_0_0 x
  rcases List.mem_cons.mp hpc with rfl | hpc
  · exact fun x => piece_apply T 1 (by decide) slices_S128x512_o0_64_S128x64 inb_S16x8x8x64_S16x1x8x64_0_1_0_0 x
  rcases List.mem_cons.mp hpc with rfl | hpc
  · exact fun x => piece_apply T 0 (by decide) slices_S128x512_o0_0_S128x64 inb_S16x8x8x64_S16x1x8x64_0_0_0_0 x
  nomatch hpc

theorem out7_at (y : S16x8x8x64.Idx) : out0_7 x0 x1 x2 x3 x4 y = laid (k0_pay37 x0 x1 x2 x3 x4) y := by
  unfold out0_7
  generalize k0_pay37 x0 x1 x2 x3 x4 = T
  refine View.canon_apply_of_pieces (laid T) _ ?_ y (cover0_7 _ _ _ _ _ _ _ _ y)
  intro pc hpc
  rcases List.mem_cons.mp hpc with rfl | hpc
  · exact fun x => piece_apply T 7 (by decide) slices_S128x512_o0_448_S128x64 inb_S16x8x8x64_S16x1x8x64_0_7_0_0 x
  rcases List.mem_cons.mp hpc with rfl | hpc
  · exact fun x => piece_apply T 6 (by decide) slices_S128x512_o0_384_S128x64 inb_S16x8x8x64_S16x1x8x64_0_6_0_0 x
  rcases List.mem_cons.mp hpc with rfl | hpc
  · exact fun x => piece_apply T 5 (by decide) slices_S128x512_o0_320_S128x64 inb_S16x8x8x64_S16x1x8x64_0_5_0_0 x
  rcases List.mem_cons.mp hpc with rfl | hpc
  · exact fun x => piece_apply T 4 (by decide) slices_S128x512_o0_256_S128x64 inb_S16x8x8x64_S16x1x8x64_0_4_0_0 x
  rcases List.mem_cons.mp hpc with rfl | hpc
  · exact fun x => piece_apply T 3 (by decide) slices_S128x512_o0_192_S128x64 inb_S16x8x8x64_S16x1x8x64_0_3_0_0 x
  rcases List.mem_cons.mp hpc with rfl | hpc
  · exact fun x => piece_apply T 2 (by decide) slices_S128x512_o0_128_S128x64 inb_S16x8x8x64_S16x1x8x64_0_2_0_0 x
  rcases List.mem_cons.mp hpc with rfl | hpc
  · exact fun x => piece_apply T 1 (by decide) slices_S128x512_o0_64_S128x64 inb_S16x8x8x64_S16x1x8x64_0_1_0_0 x
  rcases List.mem_cons.mp hpc with rfl | hpc
  · exact fun x => piece_apply T 0 (by decide) slices_S128x512_o0_0_S128x64 inb_S16x8x8x64_S16x1x8x64_0_0_0_0 x
  nomatch hpc

/-- The tile: the projection of the point's 128 rows. -/
def tile : Vec Ideal S128x2560 .f32 :=
  k0_pay2 (View.ld x0 r0_0) (View.ld x3 r0_1) (View.ld x2 r0_0) (View.ld x1 r0_0) (View.ld x4 r0_2)

theorem pay35_at (r : Fin 128) (l : Fin 512) :
    k0_pay35 x0 x1 x2 x3 x4 (ix2 r l) = tile x0 x1 x2 x3 x4 (ix2 r ⟨l.val + 0, by omega⟩) * Ideal.ofBits .f32 0x3E000000#32 := by
  unfold k0_pay35 k0_pay3 tile
  generalize k0_pay2 (F := Ideal) _ _ _ _ _ = T
  exact congrArg (· * _) (extractStridedSlice_apply _ T _ _ (ix2 r ⟨l.val + 0, by omega⟩) fun b => match b with
    | ⟨0, _⟩ => (Nat.zero_add _).symm
    | ⟨1, _⟩ => Nat.add_comm _ _)

theorem pay36_at (r : Fin 128) (l : Fin 512) :
    k0_pay36 x0 x1 x2 x3 x4 (ix2 r l) = tile x0 x1 x2 x3 x4 (ix2 r ⟨l.val + 512, by omega⟩) := by
  unfold k0_pay36 k0_pay4 tile
  generalize k0_pay2 (F := Ideal) _ _ _ _ _ = T
  exact extractStridedSlice_apply _ T _ _ (ix2 r ⟨l.val + 512, by omega⟩) fun b => match b with
    | ⟨0, _⟩ => (Nat.zero_add _).symm
    | ⟨1, _⟩ => Nat.add_comm _ _

theorem pay37_at (r : Fin 128) (l : Fin 512) :
    k0_pay37 x0 x1 x2 x3 x4 (ix2 r l) = tile x0 x1 x2 x3 x4 (ix2 r ⟨l.val + 1024, by omega⟩) := by
  unfold k0_pay37 k0_pay5 tile
  generalize k0_pay2 (F := Ideal) _ _ _ _ _ = T
  exact extractStridedSlice_apply _ T _ _ (ix2 r ⟨l.val + 1024, by omega⟩) fun b => match b with
    | ⟨0, _⟩ => (Nat.zero_add _).symm
    | ⟨1, _⟩ => Nat.add_comm _ _

theorem cut_at (T : Vec Ideal S128x2560 .f32) (o : ℕ) (ho : o + 512 ≤ 2560) (hs : S128x2560.Slices ![0, o] S128x512) (r : Fin 128) (l : Fin 512) :
    extractStridedSlice S128x512 ![0, o] T hs (ix2 r l) = T (ix2 r ⟨l.val + o, by omega⟩) :=
  extractStridedSlice_apply _ T _ _ (ix2 r ⟨l.val + o, by omega⟩) fun b => match b with
    | ⟨0, _⟩ => (Nat.zero_add _).symm
    | ⟨1, _⟩ => Nat.add_comm _ _

theorem congr_glu {a a' g g' : EReal} (h : a = a') (h' : g = g') : a * Ideal.logistic g = a' * Ideal.logistic g' := by rw [h, h']

theorem out8_at (r : Fin 128) (l : Fin 512) :
    out0_8 x0 x1 x2 x3 x4 (ix3 0 r l) = tile x0 x1 x2 x3 x4 (ix2 r ⟨l.val + 1536, by omega⟩) * Ideal.logistic (tile x0 x1 x2 x3 x4 (ix2 r ⟨l.val + 2048, by omega⟩)) := by
  let E : Vec Ideal S1x128x512 .f32 := fun y => tile x0 x1 x2 x3 x4 (ix2 (y 1) ⟨(y 2).val + 1536, by have := (y 2).isLt; simp at *; omega⟩)
    * Ideal.logistic (tile x0 x1 x2 x3 x4 (ix2 (y 1) ⟨(y 2).val + 2048, by have := (y 2).isLt; simp at *; omega⟩))
  unfold out0_8
  refine View.canon_apply_of_pieces E _ ?_ (ix3 0 r l) (cover0_8 _ _)
  intro pc hpc
  rcases List.mem_cons.mp hpc with rfl | hpc
  · intro x
    have hx : r0_3.idx x = x := by
      funext a
      refine Fin.ext ?_
      match a with
      | ⟨0, _⟩ => simp
      | ⟨1, _⟩ => simp
      | ⟨2, _⟩ => simp
    refine Eq.trans ?_ (congrArg E hx.symm)
    obtain ⟨z, r, l, rfl⟩ : ∃ (z : Fin 1) (r : Fin 128) (l : Fin 512), x = ix3 z r l := ⟨x 0, x 1, x 2, eq_ix3 x⟩
    obtain rfl : z = 0 := Subsingleton.elim _ _
    refine (?_ : k0_pay7 (k0_pay6 (View.ld x0 r0_0) (View.ld x3 r0_1) (View.ld x2 r0_0) (View.ld x1 r0_0) (View.ld x4 r0_2)) (ix3 0 r l) = E (ix3 0 r l))
    unfold k0_pay7
    refine (shapeCast_apply _ _ _ (ix2 r l) ?_).trans ?_
    · rw [Shape.rowMajor_val_two, Shape.rowMajor_val_three]
      show r.val * 512 + l.val = (0 * 128 + r.val) * 512 + l.val
      omega
    · exact congr_glu (cut_at _ 1536 (by omega) _ r l) (cut_at _ 2048 (by omega) _ r l)
  nomatch hpc

end Cert.Proof.InProjSample
-- ==== Proof.InProjSample.Rows.lean ====
/- The projection of one block of 128 rows in `Kernel4Ideal`: each entry a sum over the model width. -/
module

public import proofs.«01_k».proof.Proof.InProjSample.Blocks
public import proofs.«01_k».proof.Proof.InProjSample.Math

@[expose] public section

set_option maxRecDepth 16384

noncomputable section

namespace Cert.Proof.InProjSample

open Cert.Kernel4Ideal Cert.Kernel4Ideal.Gen
open Cert.Proof.InProj (rowProj)
open Idealize.ShloMosaic Idealize.ShloMosaic.TcCoe Idealize.ShloMosaic.Tactic
open Idealize.ShloMosaic.Pipeline (Dat Cfg Window)

theorem pay2_apply (P0 : Vec Ideal S1x128x1024 .f32) (P1 : Vec Ideal S1x1024 .f32) (P2 P3 : Vec Ideal S1x128x1024 .f32) (P4 : Vec Ideal S1024x2560 .bf16)
    (r : Fin 128) (e : Fin 2560) :
    k0_pay2 P0 P1 P2 P3 P4 (ix2 r e)
      = rowProj (fun k => P0 (ix3 0 r k)) (fun k => P1 (ix2 0 k)) (fun k => P2 (ix3 0 r k)) (fun k => P3 (ix3 0 r k)) (fun k => P4 (ix2 k e)) := by
  unfold k0_pay2
  dsimp only
  simp only [pointwise]
  rw [zero_add]
  rfl

variable (m : (ℓ : Loc nD τ sig) → Buf (Elt Ideal) ℓ) (c : Dev nD)

theorem idx : ∀ t : Fin cfg0.N, win0_0.index t = ![0, t.val, 0] ∧ win0_1.index t = ![0, t.val, 0]
    ∧ win0_2.index t = ![0, t.val, 1] ∧ win0_3.index t = ![0, 0] ∧ win0_4.index t = ![0, 0] :=
  (by decide +kernel : ∀ t : Fin grid0.N, _)

theorem V_x (n : Fin 1024) (k : Fin 1024) :
    V m c main_v5 (ix3 0 n k) = m ((c : Thread nD τ).loc main_arg0) (ix3 ⟨n.val / 8, by omega⟩ ⟨n.val % 8, by omega⟩ k) := by
  entry_read
  refine shapeCast_apply _ _ _ (ix3 ⟨n.val / 8, by omega⟩ ⟨n.val % 8, by omega⟩ k) ?_
  refine (Shape.rowMajor_val_three _).trans (Eq.trans ?_ (Shape.rowMajor_val_three (d := ![1, 1024, 1024]) (ix3 0 n k)).symm)
  show (n.val / 8 * 8 + n.val % 8) * 1024 + k.val = (0 * 1024 + n.val) * 1024 + k.val
  omega

theorem V_ada (n : Fin 1024) (k : Fin 6144) :
    V m c main_v2 (ix3 0 n k) = m ((c : Thread nD τ).loc main_arg1) (ix2 ⟨n.val / 8, by omega⟩ k) := by
  entry_read
  refine (shapeCast_apply _ _ _ (ix2 n k) ?_).trans ((shapeCast_apply _ _ _ (ix3 ⟨n.val / 8, by omega⟩ ⟨n.val % 8, by omega⟩ k) ?_).trans ?_)
  · refine (Shape.rowMajor_val_two _).trans (Eq.trans ?_ (Shape.rowMajor_val_three (d := ![1, 1024, 6144]) (ix3 0 n k)).symm)
    show n.val * 6144 + k.val = (0 * 1024 + n.val) * 6144 + k.val
    omega
  · refine (Shape.rowMajor_val_three _).trans (Eq.trans ?_ (Shape.rowMajor_val_two (d := ![1024, 6144]) (ix2 n k)).symm)
    show (n.val / 8 * 8 + n.val % 8) * 6144 + k.val = n.val * 6144 + k.val
    omega
  · exact broadcastInDim_apply _ _ _ _ (ix2 ⟨n.val / 8, by omega⟩ k) fun a => match a with | ⟨0, _⟩ => rfl | ⟨1, _⟩ => rfl

theorem V_g (k : Fin 1024) :
    V m c main_v3 (ix2 0 k) = m ((c : Thread nD τ).loc main_arg2) (ix1 k) := by
  entry_read
  simp only [pointwise]

theorem V_w (k : Fin 1024) (e : Fin 2560) :
    V m c main_v4 (ix2 k e) = m ((c : Thread nD τ).loc main_arg3) (ix2 k e) := by
  entry_read
  simp only [pointwise]

theorem tile_apply (t : Fin cfg0.N) (r : Fin 128) (e : Fin 2560) :
    k0_pay2 (iblk m c 0 t) (iblk m c 3 t) (iblk m c 2 t) (iblk m c 1 t) (iblk m c 4 t) (ix2 r e)
      = projAt (m ((c : Thread nD τ).loc main_arg0)) (m ((c : Thread nD τ).loc main_arg1)) (m ((c : Thread nD τ).loc main_arg2))
          (m ((c : Thread nD τ).loc main_arg3)) ⟨(t.val * 128 + r.val) / 8, by have : t.val < 8 := t.isLt; omega⟩ ⟨(t.val * 128 + r.val) % 8, by omega⟩ e := by
  have ht : t.val < 8 := t.isLt
  rw [pay2_apply]
  unfold projAt
  have h0 : ∀ k : Fin 1024, iblk m c 0 t (ix3 0 r k) = m ((c : Thread nD τ).loc main_arg0) (ix3 ⟨(t.val * 128 + r.val) / 8, by omega⟩ ⟨(t.val * 128 + r.val) % 8, by omega⟩ k) := fun k => by
    refine Eq.trans ?_ (V_x m c ⟨t.val * 128 + r.val, by omega⟩ k); blk_ext [iblk, idx t]
  have h1 : ∀ k : Fin 1024, iblk m c 3 t (ix2 0 k) = m ((c : Thread nD τ).loc main_arg2) (ix1 k) := fun k => by
    rw [← V_g m c]; blk_ext [iblk, idx t]
  have h2 : ∀ k : Fin 1024, iblk m c 2 t (ix3 0 r k) = m ((c : Thread nD τ).loc main_arg1) (ix2 ⟨(t.val * 128 + r.val) / 8, by omega⟩ ⟨k.val + 1024, by omega⟩) := fun k => by
    refine Eq.trans ?_ (V_ada m c ⟨t.val * 128 + r.val, by omega⟩ ⟨k.val + 1024, by omega⟩); blk_ext [iblk, idx t]
  have h3 : ∀ k : Fin 1024, iblk m c 1 t (ix3 0 r k) = m ((c : Thread nD τ).loc main_arg1) (ix2 ⟨(t.val * 128 + r.val) / 8, by omega⟩ ⟨k.val, by omega⟩) := fun k => by
    refine Eq.trans ?_ (V_ada m c ⟨t.val * 128 + r.val, by omega⟩ ⟨k.val, by omega⟩); blk_ext [iblk, idx t]
  have h4 : ∀ k : Fin 1024, iblk m c 4 t (ix2 k e) = m ((c : Thread nD τ).loc main_arg3) (ix2 k e) := fun k => by
    rw [← V_w m c]; blk_ext [iblk, idx t]
  simp only [h0, h1, h2, h3, h4]

end Cert.Proof.InProjSample
-- ==== Proof.InProjSample.Result.lean ====
/- The four arrays `Kernel4Ideal` leaves. -/
module

public import proofs.«01_k».proof.Proof.InProjSample.Rows

@[expose] public section

set_option maxRecDepth 16384

noncomputable section

namespace Cert.Proof.InProjSample

open Cert.Kernel4Ideal Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem oidx : ∀ t : Fin cfg0.N, win0_5.index t = ![t.val, 0, 0, 0] ∧ win0_6.index t = ![t.val, 0, 0, 0]
    ∧ win0_7.index t = ![t.val, 0, 0, 0] ∧ win0_8.index t = ![0, t.val, 0] :=
  (by decide +kernel : ∀ t : Fin grid0.N, _)

/-- The projection's part from column `o`, of the arguments in memory. -/
abbrev mpart (o : ℕ) (ho : o + 512 ≤ 2560) : Fin 128 → Fin 8 → Fin 512 → EReal :=
  part o ho (m ((c : Thread nD τ).loc main_arg0)) (m ((c : Thread nD τ).loc main_arg1)) (m ((c : Thread nD τ).loc main_arg2)) (m ((c : Thread nD τ).loc main_arg3))

theorem ld0 (X : Vec Ideal S1x128x1024 .f32) : View.ld X r0_0 = X := by
  funext x
  refine congrArg X (funext fun a => Fin.ext ?_)
  match a with
  | ⟨0, _⟩ => simp
  | ⟨1, _⟩ => simp
  | ⟨2, _⟩ => simp

theorem ld1 (X : Vec Ideal S1x1024 .f32) : View.ld X r0_1 = X := by
  funext x
  refine congrArg X (funext fun a => Fin.ext ?_)
  match a with
  | ⟨0, _⟩ => simp
  | ⟨1, _⟩ => simp

theorem ld2 (X : Vec Ideal S1024x2560 .bf16) : View.ld X r0_2 = X := by
  funext x
  refine congrArg X (funext fun a => Fin.ext ?_)
  match a with
  | ⟨0, _⟩ => simp
  | ⟨1, _⟩ => simp

theorem pay2_ld (P0 : Vec Ideal S1x128x1024 .f32) (P1 : Vec Ideal S1x1024 .f32) (P2 P3 : Vec Ideal S1x128x1024 .f32) (P4 : Vec Ideal S1024x2560 .bf16) :
    k0_pay2 (View.ld P0 r0_0) (View.ld P1 r0_1) (View.ld P2 r0_0) (View.ld P3 r0_0) (View.ld P4 r0_2) = k0_pay2 P0 P1 P2 P3 P4 := by
  rw [ld0, ld1, ld0, ld0, ld2]

/-- An entry of the tile at point `t` is the projection at the row and column it stands for. -/
theorem tile_eq (t : Fin cfg0.N) (y : S128x2560.Idx) (b : Fin 128) (s : Fin 8) (e : Fin 2560) (hn : b.val * 8 + s.val = t.val * 128 + (y 0).val)
    (he : e.val = (y 1).val) :
    tile (iblk m c 0 t) (iblk m c 1 t) (iblk m c 2 t) (iblk m c 3 t) (iblk m c 4 t) y
      = projAt (m ((c : Thread nD τ).loc main_arg0)) (m ((c : Thread nD τ).loc main_arg1)) (m ((c : Thread nD τ).loc main_arg2))
          (m ((c : Thread nD τ).loc main_arg3)) b s e := by
  refine (congrFun (pay2_ld (iblk m c 0 t) (iblk m c 3 t) (iblk m c 2 t) (iblk m c 1 t) (iblk m c 4 t)) y).trans ?_
  obtain ⟨r, l, rfl⟩ : ∃ (r : Fin 128) (l : Fin 2560), y = ix2 r l := ⟨y 0, y 1, eq_ix2 y⟩
  refine (tile_apply m c t r l).trans ?_
  have hn' : b.val * 8 + s.val = t.val * 128 + r.val := hn
  have ht : t.val < 8 := t.isLt
  have hb' : (⟨(t.val * 128 + r.val) / 8, by omega⟩ : Fin 128) = b := Fin.ext (by show (t.val * 128 + r.val) / 8 = b.val; omega)
  have hs' : (⟨(t.val * 128 + r.val) % 8, by omega⟩ : Fin 8) = s := Fin.ext (by show (t.val * 128 + r.val) % 8 = s.val; omega)
  have he' : l = e := Fin.ext he.symm
  rw [hb', hs', he']

theorem emb5 (t : Fin cfg0.N) (a : Fin 16) (h s : Fin 8) (l : Fin 64) :
    ((win0_5.blk t).view.emb (ix4 a h s l) 0).val = t.val * 16 + a.val ∧ ((win0_5.blk t).view.emb (ix4 a h s l) 2).val = s.val := by
  constructor <;> blk_simp [oidx t]

theorem emb6 (t : Fin cfg0.N) (a : Fin 16) (h s : Fin 8) (l : Fin 64) :
    ((win0_6.blk t).view.emb (ix4 a h s l) 0).val = t.val * 16 + a.val ∧ ((win0_6.blk t).view.emb (ix4 a h s l) 2).val = s.val := by
  constructor <;> blk_simp [oidx t]

theorem emb7 (t : Fin cfg0.N) (a : Fin 16) (h s : Fin 8) (l : Fin 64) :
    ((win0_7.blk t).view.emb (ix4 a h s l) 0).val = t.val * 16 + a.val ∧ ((win0_7.blk t).view.emb (ix4 a h s l) 2).val = s.val := by
  constructor <;> blk_simp [oidx t]

theorem final5 : (dats m 0 c).arrAt 5 cfg0.N = qArr (mpart m c 0 (by omega)) := by
  refine (dats m 0 c).arrAt_eq_of_covers 5 _ (by decide +kernel) fun t hf y => ?_
  obtain ⟨a, h, s, l, rfl⟩ : ∃ (a : Fin 16) (h s : Fin 8) (l : Fin 64), y = ix4 a h s l := ⟨y 0, y 1, y 2, y 3, eq_ix4 y⟩
  unfold qArr headArr mpart part
  blk_simp [oidx t]
  rw [after0_5, out5_at]
  unfold laid
  refine (pay35_at _ _ _ _ _ _ _).trans (congrArg (· * Ideal.ofBits .f32 0x3E000000#32) (tile_eq m c t _ _ _ _ ?_ ?_))
  · rw [(emb5 t a h s l).1, (emb5 t a h s l).2]
    show (t.val * 16 + a.val) * 8 + s.val = t.val * 128 + (a.val * 8 + s.val)
    omega
  · rfl

theorem final6 : (dats m 0 c).arrAt 6 cfg0.N = headArr (mpart m c 512 (by omega)) := by
  refine (dats m 0 c).arrAt_eq_of_covers 6 _ (by decide +kernel) fun t hf y => ?_
  obtain ⟨a, h, s, l, rfl⟩ : ∃ (a : Fin 16) (h s : Fin 8) (l : Fin 64), y = ix4 a h s l := ⟨y 0, y 1, y 2, y 3, eq_ix4 y⟩
  unfold headArr mpart part
  blk_simp [oidx t]
  rw [after0_6, out6_at]
  unfold laid
  refine (pay36_at _ _ _ _ _ _ _).trans (tile_eq m c t _ _ _ _ ?_ ?_)
  · rw [(emb6 t a h s l).1, (emb6 t a h s l).2]
    show (t.val * 16 + a.val) * 8 + s.val = t.val * 128 + (a.val * 8 + s.val)
    omega
  · rfl

theorem final7 : (dats m 0 c).arrAt 7 cfg0.N = headArr (mpart m c 1024 (by omega)) := by
  refine (dats m 0 c).arrAt_eq_of_covers 7 _ (by decide +kernel) fun t hf y => ?_
  obtain ⟨a, h, s, l, rfl⟩ : ∃ (a : Fin 16) (h s : Fin 8) (l : Fin 64), y = ix4 a h s l := ⟨y 0, y 1, y 2, y 3, eq_ix4 y⟩
  unfold headArr mpart part
  blk_simp [oidx t]
  rw [after0_7, out7_at]
  unfold laid
  refine (pay37_at _ _ _ _ _ _ _).trans (tile_eq m c t _ _ _ _ ?_ ?_)
  · rw [(emb7 t a h s l).1, (emb7 t a h s l).2]
    show (t.val * 16 + a.val) * 8 + s.val = t.val * 128 + (a.val * 8 + s.val)
    omega
  · rfl

theorem final8 : (dats m 0 c).arrAt 8 cfg0.N = gluArr (mpart m c 1536 (by omega)) (mpart m c 2048 (by omega)) := by
  refine (dats m 0 c).arrAt_eq_of_covers 8 _ (by decide +kernel) fun t hf y => ?_
  obtain ⟨z, r, l, rfl⟩ : ∃ (z : Fin 1) (r : Fin 128) (l : Fin 512), y = ix3 z r l := ⟨y 0, y 1, y 2, eq_ix3 y⟩
  obtain rfl : z = 0 := Subsingleton.elim _ _
  unfold gluArr mpart part
  blk_simp [oidx t]
  rw [after0_8]
  refine (out8_at _ _ _ _ _ r l).trans (congr_glu (tile_eq m c t _ _ _ _ ?_ ?_) (tile_eq m c t _ _ _ _ ?_ ?_))
  · show (t.val * 128 + r.val) / 8 * 8 + (t.val * 128 + r.val) % 8 = t.val * 128 + r.val
    omega
  · rfl
  · show (t.val * 128 + r.val) / 8 * 8 + (t.val * 128 + r.val) % 8 = t.val * 128 + r.val
    omega
  · rfl

/-- The run with each array named and the arguments unchanged. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_v6_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 5, (h c).1 6, (h c).1 7, (h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.InProjSample
-- ==== Proof.InProj.Rows.lean ====
/- The projection of one block of rows in `Kernel2Ideal`: each entry a sum over the model width. -/
module

public import proofs.«01_k».proof.Proof.Gen.Kernel2Ideal.Value
public import Idealize.ShloMosaic.Lib.Pipeline.ValueKit
public import proofs.«01_k».proof.Proof.InProj.Math

@[expose] public section

set_option maxRecDepth 16384

noncomputable section

namespace Cert.Proof.InProj

open Cert.Kernel2Ideal Cert.Kernel2Ideal.Gen
open Idealize.ShloMosaic Idealize.ShloMosaic.TcCoe Idealize.ShloMosaic.Tactic
open Idealize.ShloMosaic.Pipeline (Dat Cfg Window)

theorem pay4_apply (P0 : Vec Ideal S1x512x1024 .f32) (P1 : Vec Ideal S1x1024 .f32) (P2 P3 : Vec Ideal S1x1x1024 .f32) (P4 : Vec Ideal S1024x2560 .bf16)
    (r : Fin 512) (e : Fin 2560) :
    k0_pay4 P0 P1 P2 P3 P4 (ix2 r e)
      = rowProj (fun k => P0 (ix3 0 r k)) (fun k => P1 (ix2 0 k)) (fun k => P2 (ix3 0 0 k)) (fun k => P3 (ix3 0 0 k)) (fun k => P4 (ix2 k e)) := by
  unfold k0_pay4
  dsimp only
  simp only [pointwise]
  rw [zero_add]
  rfl

variable (m : (ℓ : Loc nD τ sig) → Buf (Elt Ideal) ℓ) (c : Dev nD)

theorem idx : ∀ t : Fin cfg0.N, win0_0.index t = ![t.val / 16, t.val % 16, 0] ∧ win0_1.index t = ![t.val / 16, 0, 0]
    ∧ win0_2.index t = ![t.val / 16, 0, 1] ∧ win0_3.index t = ![0, 0] ∧ win0_4.index t = ![0, 0] :=
  (by decide +kernel : ∀ t : Fin grid0.N, _)

theorem V_x (b : Fin 4) (s : Fin 8192) (k : Fin 1024) :
    V m c main_arg0 (ix3 b s k) = m ((c : Thread nD τ).loc main_arg0) (ix3 b s k) := by
  rw [V_main_arg0]

theorem V_ada (b : Fin 4) (k : Fin 6144) :
    V m c main_v0 (ix3 b 0 k) = m ((c : Thread nD τ).loc main_arg1) (ix2 b k) := by
  entry_read
  simp only [pointwise]

theorem V_g (k : Fin 1024) :
    V m c main_v1 (ix2 0 k) = m ((c : Thread nD τ).loc main_arg2) (ix1 k) := by
  entry_read
  simp only [pointwise]

theorem V_w (k : Fin 1024) (e : Fin 2560) :
    V m c main_v2 (ix2 k e) = m ((c : Thread nD τ).loc main_arg3) (ix2 k e) := by
  entry_read
  simp only [pointwise]

theorem tile_apply (t : Fin cfg0.N) (r : Fin 512) (e : Fin 2560) :
    k0_pay4 (iblk m c 0 t) (iblk m c 3 t) (iblk m c 2 t) (iblk m c 1 t) (iblk m c 4 t) (ix2 r e)
      = projAt (m ((c : Thread nD τ).loc main_arg0)) (m ((c : Thread nD τ).loc main_arg1)) (m ((c : Thread nD τ).loc main_arg2))
          (m ((c : Thread nD τ).loc main_arg3)) ⟨t.val / 16, by have : t.val < 64 := t.isLt; omega⟩ ⟨t.val % 16 * 512 + r.val, by omega⟩ e := by
  have ht : t.val < 64 := t.isLt
  rw [pay4_apply]
  unfold projAt
  have h0 : ∀ k : Fin 1024, iblk m c 0 t (ix3 0 r k) = m ((c : Thread nD τ).loc main_arg0) (ix3 ⟨t.val / 16, by omega⟩ ⟨t.val % 16 * 512 + r.val, by omega⟩ k) := fun k => by
    rw [← V_x m c]; blk_ext [iblk, idx t]
  have h1 : ∀ k : Fin 1024, iblk m c 3 t (ix2 0 k) = m ((c : Thread nD τ).loc main_arg2) (ix1 k) := fun k => by
    rw [← V_g m c]; blk_ext [iblk, idx t]
  have h2 : ∀ k : Fin 1024, iblk m c 2 t (ix3 0 0 k) = m ((c : Thread nD τ).loc main_arg1) (ix2 ⟨t.val / 16, by omega⟩ ⟨k.val + 1024, by omega⟩) := fun k => by
    rw [← V_ada m c]; blk_ext [iblk, idx t]
  have h3 : ∀ k : Fin 1024, iblk m c 1 t (ix3 0 0 k) = m ((c : Thread nD τ).loc main_arg1) (ix2 ⟨t.val / 16, by omega⟩ ⟨k.val, by omega⟩) := fun k => by
    rw [← V_ada m c]; blk_ext [iblk, idx t]
  have h4 : ∀ k : Fin 1024, iblk m c 4 t (ix2 k e) = m ((c : Thread nD τ).loc main_arg3) (ix2 k e) := fun k => by
    rw [← V_w m c]; blk_ext [iblk, idx t]
  simp only [h0, h1, h2, h3, h4]

end Cert.Proof.InProj
-- ==== Proof.InProj.Result.lean ====
/- The seven arrays `Kernel2Ideal` leaves. -/
module

public import proofs.«01_k».proof.Proof.InProj.Rows

@[expose] public section

set_option maxRecDepth 16384

noncomputable section

namespace Cert.Proof.InProj

open Cert.Kernel2Ideal Cert.Kernel2Ideal.Gen Cert.Kernel2Ideal.Value
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem oidx : ∀ t : Fin cfg0.N, win0_5.index t = ![t.val / 16, t.val % 16, 0] ∧ win0_6.index t = ![t.val / 16, t.val % 16, 0]
    ∧ win0_7.index t = ![t.val / 16, t.val % 16, 0] ∧ win0_8.index t = ![t.val / 16, t.val % 16, 0, 0, 0] ∧ win0_9.index t = ![t.val / 16, t.val % 16, 0, 0, 0]
    ∧ win0_10.index t = ![t.val / 16, t.val % 16, 0] ∧ win0_11.index t = ![t.val / 16, t.val % 16, 0, 0] :=
  (by decide +kernel : ∀ t : Fin grid0.N, _)

/-- The projection's part from column `o`, of the arguments in memory. -/
abbrev mpart (o : ℕ) (ho : o + 512 ≤ 2560) : Fin 4 → Fin 8192 → Fin 512 → EReal :=
  part o ho (m ((c : Thread nD τ).loc main_arg0)) (m ((c : Thread nD τ).loc main_arg1)) (m ((c : Thread nD τ).loc main_arg2)) (m ((c : Thread nD τ).loc main_arg3))

theorem ld0 (X : Vec Ideal S1x512x1024 .f32) : View.ld X r0_0 = X := by
  funext x
  refine congrArg X (funext fun a => Fin.ext ?_)
  match a with
  | ⟨0, _⟩ => simp
  | ⟨1, _⟩ => simp
  | ⟨2, _⟩ => simp

theorem ld1 (X : Vec Ideal S1x1024 .f32) : View.ld X r0_1 = X := by
  funext x
  refine congrArg X (funext fun a => Fin.ext ?_)
  match a with
  | ⟨0, _⟩ => simp
  | ⟨1, _⟩ => simp

theorem ld2 (X : Vec Ideal S1x1x1024 .f32) : View.ld X r0_2 = X := by
  funext x
  refine congrArg X (funext fun a => Fin.ext ?_)
  match a with
  | ⟨0, _⟩ => simp
  | ⟨1, _⟩ => simp
  | ⟨2, _⟩ => simp

theorem ld3 (X : Vec Ideal S1024x2560 .bf16) : View.ld X r0_3 = X := by
  funext x
  refine congrArg X (funext fun a => Fin.ext ?_)
  match a with
  | ⟨0, _⟩ => simp
  | ⟨1, _⟩ => simp

theorem pay4_ld (P0 : Vec Ideal S1x512x1024 .f32) (P1 : Vec Ideal S1x1024 .f32) (P2 P3 : Vec Ideal S1x1x1024 .f32) (P4 : Vec Ideal S1024x2560 .bf16) :
    k0_pay4 (View.ld P0 r0_0) (View.ld P1 r0_1) (View.ld P2 r0_2) (View.ld P3 r0_2) (View.ld P4 r0_3) = k0_pay4 P0 P1 P2 P3 P4 := by
  rw [ld0, ld1, ld2, ld2, ld3]

/-- An entry of the tile at point `t` is the projection at the row and column it stands for. -/
theorem tile_eq (t : Fin cfg0.N) (y : S512x2560.Idx) (b : Fin 4) (s : Fin 8192) (e : Fin 2560) (hb : b.val = t.val / 16)
    (hs : s.val = t.val % 16 * 512 + (y 0).val) (he : e.val = (y 1).val) :
    k0_pay4 (View.ld (iblk m c 0 t) r0_0) (View.ld (iblk m c 3 t) r0_1) (View.ld (iblk m c 2 t) r0_2) (View.ld (iblk m c 1 t) r0_2) (View.ld (iblk m c 4 t) r0_3) y
      = projAt (m ((c : Thread nD τ).loc main_arg0)) (m ((c : Thread nD τ).loc main_arg1)) (m ((c : Thread nD τ).loc main_arg2))
          (m ((c : Thread nD τ).loc main_arg3)) b s e := by
  refine (congrFun (pay4_ld (iblk m c 0 t) (iblk m c 3 t) (iblk m c 2 t) (iblk m c 1 t) (iblk m c 4 t)) y).trans ?_
  obtain ⟨r, l, rfl⟩ : ∃ (r : Fin 512) (l : Fin 2560), y = ix2 r l := ⟨y 0, y 1, eq_ix2 y⟩
  refine (tile_apply m c t r l).trans ?_
  have hb' : (⟨t.val / 16, by have : t.val < 64 := t.isLt; omega⟩ : Fin 4) = b := Fin.ext hb.symm
  have hs' : (⟨t.val % 16 * 512 + r.val, by omega⟩ : Fin 8192) = s := Fin.ext hs.symm
  have he' : l = e := Fin.ext he.symm
  rw [hb', hs', he']

theorem final5 : (dats m 0 c).arrAt 5 cfg0.N = qArr (mpart m c 0 (by omega)) := by
  refine (dats m 0 c).arrAt_eq_of_covers 5 _ (by decide +kernel) fun t hf y => ?_
  unfold qArr mpart part
  blk_simp [oidx t]
  rw [after0_5]
  unfold out0_5
  rw [canon5_eq]
  refine congrArg (· * Ideal.ofBits .f32 0x3E000000#32) (tile_eq m c t _ _ _ _ ?_ ?_ ?_)
  · blk_simp [oidx t]
  · blk_simp [oidx t]
  · rfl

theorem final6 : (dats m 0 c).arrAt 6 cfg0.N = rowsArr (mpart m c 512 (by omega)) := by
  refine (dats m 0 c).arrAt_eq_of_covers 6 _ (by decide +kernel) fun t hf y => ?_
  unfold rowsArr mpart part
  blk_simp [oidx t]
  rw [after0_6]
  unfold_out out0_6
  rw [canon6_eq]
  refine tile_eq m c t _ _ _ _ ?_ ?_ ?_
  · blk_simp [oidx t]
  · blk_simp [oidx t]
  · rfl

theorem final7 : (dats m 0 c).arrAt 7 cfg0.N = rowsArr (mpart m c 1024 (by omega)) := by
  refine (dats m 0 c).arrAt_eq_of_covers 7 _ (by decide +kernel) fun t hf y => ?_
  unfold rowsArr mpart part
  blk_simp [oidx t]
  rw [after0_7]
  unfold_out out0_7
  rw [canon7_eq]
  refine tile_eq m c t _ _ _ _ ?_ ?_ ?_
  · blk_simp [oidx t]
  · blk_simp [oidx t]
  · rfl

theorem congr_glu {a a' g g' : EReal} (h : a = a') (h' : g = g') : a * Ideal.logistic g = a' * Ideal.logistic g' := by rw [h, h']

theorem final10 : (dats m 0 c).arrAt 10 cfg0.N = gluArr (mpart m c 1536 (by omega)) (mpart m c 2048 (by omega)) := by
  refine (dats m 0 c).arrAt_eq_of_covers 10 _ (by decide +kernel) fun t hf y => ?_
  unfold gluArr mpart part
  blk_simp [oidx t]
  rw [after0_10]
  unfold_out out0_10
  rw [canon10_eq]
  refine congr_glu (tile_eq m c t _ _ _ _ ?_ ?_ ?_) (tile_eq m c t _ _ _ _ ?_ ?_ ?_)
  · blk_simp [oidx t]
  · blk_simp [oidx t]
  · rfl
  · blk_simp [oidx t]
  · blk_simp [oidx t]
  · rfl

theorem row8 (t : Fin cfg0.N) (y : S1x4x8x128x64.Idx) : ((win0_8.blk t).view.emb y 0).val = t.val / 16 := by
  have hy : (y 0).val = 0 := by have : (y 0).val < 1 := (y 0).isLt; omega
  blk_simp [oidx t]
  try omega

theorem final8 : (dats m 0 c).arrAt 8 cfg0.N = pageArr (mpart m c 512 (by omega)) := by
  refine (dats m 0 c).arrAt_eq_of_covers 8 _ (by decide +kernel) fun t hf y => ?_
  unfold pageArr mpart part
  blk_simp [oidx t]
  rw [after0_8]
  unfold_out out0_8
  rw [canon8_eq]
  refine tile_eq m c t _ _ _ _ ?_ ?_ ?_
  · exact row8 t y
  · show (t.val % 16 * 4 + (y 1).val) * 128 + (y 3).val = t.val % 16 * 512 + ((y 1).val * 128 + (y 3).val)
    omega
  · rfl

theorem row9 (t : Fin cfg0.N) (y : S1x4x8x128x64.Idx) : ((win0_9.blk t).view.emb y 0).val = t.val / 16 := by
  have hy : (y 0).val = 0 := by have : (y 0).val < 1 := (y 0).isLt; omega
  blk_simp [oidx t]
  try omega

theorem final9 : (dats m 0 c).arrAt 9 cfg0.N = pageArr (mpart m c 1024 (by omega)) := by
  refine (dats m 0 c).arrAt_eq_of_covers 9 _ (by decide +kernel) fun t hf y => ?_
  unfold pageArr mpart part
  blk_simp [oidx t]
  rw [after0_9]
  unfold_out out0_9
  rw [canon9_eq]
  refine tile_eq m c t _ _ _ _ ?_ ?_ ?_
  · exact row9 t y
  · show (t.val % 16 * 4 + (y 1).val) * 128 + (y 3).val = t.val % 16 * 512 + ((y 1).val * 128 + (y 3).val)
    omega
  · rfl

/-- The column sums of the two halves of the tile's key part. -/
theorem fam_apply (P0 : Vec Ideal S1x512x1024 .f32) (P1 : Vec Ideal S1x1024 .f32) (P2 P3 : Vec Ideal S1x1x1024 .f32) (P4 : Vec Ideal S1024x2560 .bf16)
    (j : Fin 2) (l : Fin 512) :
    Fam11_0 P0 P1 P2 P3 P4 j (ix1 l) = ∑ r : Fin 256, k0_pay4 P0 P1 P2 P3 P4 (ix2 ⟨j.val * 256 + r.val, by omega⟩ ⟨l.val + 512, by omega⟩) := by
  generalize hg : k0_pay4 P0 P1 P2 P3 P4 = T
  match j with
  | ⟨0, _⟩ =>
    dsimp only [Fam11_0]
    rw [hg]
    simp only [pointwise]
    refine Finset.sum_congr rfl fun r _ => congrArg T ?_
    exact congrArg₂ ix2 (Fin.ext (show 0 + (0 + r.val) = 0 * 256 + r.val by omega)) (Fin.ext (show 512 + (0 + l.val) = l.val + 512 by omega))
  | ⟨1, _⟩ =>
    dsimp only [Fam11_0]
    rw [hg]
    simp only [pointwise]
    refine Finset.sum_congr rfl fun r _ => congrArg T ?_
    exact congrArg₂ ix2 (Fin.ext (show 0 + (256 + r.val) = 1 * 256 + r.val by omega)) (Fin.ext (show 512 + (0 + l.val) = l.val + 512 by omega))

theorem final11 : (dats m 0 c).arrAt 11 cfg0.N = meanArr (mpart m c 512 (by omega)) := by
  refine (dats m 0 c).arrAt_eq_of_covers 11 _ (by decide +kernel) fun t hf y => ?_
  unfold meanArr mpart part
  blk_simp [oidx t]
  rw [after0_11]
  unfold_out out0_11
  rw [canon11_eq]
  have hx : ix11_0 y = (ix1 (y 3) : S512.Idx) := by
    funext a; match a with | ⟨0, _⟩ => rfl
  refine congrArg (Ideal.div · (Ideal.ofBits .f32 0x43800000#32)) ((congrArg _ hx).trans ((fam_apply _ _ _ _ _ (sel11 y) (y 3)).trans ?_))
  refine Finset.sum_congr rfl fun r _ => tile_eq m c t _ _ _ _ ?_ ?_ ?_
  · blk_simp [oidx t]
  · show (t.val % 16 * 2 + (y 1).val) * 256 + r.val = t.val % 16 * 512 + ((y 1).val * 256 + r.val)
    omega
  · rfl

end Cert.Proof.InProj
-- ==== Proof.KernelIdeal.Keys.lean ====
/- What one tile of queries of `KernelIdeal` computes, as functions of what it loads, and the two loops over the key blocks, each
   by an invariant that names the carried values and the score buffer. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 4000000

/-- What a trip's carried values and score buffer become, from the keys and values it loads. -/
def keyStep (v144 v252 : FVec F S256x128 .bf16) (kh1 vh0 vh1 khn : Vec F S1x1024x128 .bf16) (p : (FVec F S256x1 .f32 × FVec F S256x128 .f32 × FVec F S256x1 .f32 × FVec F S256x128 .f32) × Vec F S256x1024 .f32) :
    (FVec F S256x1 .f32 × FVec F S256x128 .f32 × FVec F S256x1 .f32 × FVec F S256x128 .f32) × Vec F S256x1024 .f32 :=
  ((k0_pay9 p.1.1 p.2, k0_pay10 p.1.1 p.1.2.1 p.2 vh0, k0_pay11 v252 p.1.2.2.1 kh1,
    k0_pay60 (k0_pay12 v252 p.1.2.2.1 kh1) (k0_pay13 v252 p.1.2.2.1 p.1.2.2.2 kh1) (k0_pay14 vh1) (constant S256x128 .f32 0x00000000#32)), k0_pay61 v144 khn)

/-- The carried values and the score buffer before trip `j`, from the arranged keys `R7` and values `R8`. -/
def keysAt (R7 R8 : Vec F S2x8192x128 .bf16) (k : Fin k0_t2_loop.trips) (v144 v252 : FVec F S256x128 .bf16) (p₀ : (FVec F S256x1 .f32 × FVec F S256x128 .f32 × FVec F S256x1 .f32 × FVec F S256x128 .f32) × Vec F S256x1024 .f32) :
    ℕ → (FVec F S256x1 .f32 × FVec F S256x128 .f32 × FVec F S256x1 .f32 × FVec F S256x128 .f32) × Vec F S256x1024 .f32
  | 0 => p₀
  | j + 1 =>
    if h : j < (k0_t3_loop k).trips then
      keyStep v144 v252 (VecWindow.window R7 (k0_off6 k ⟨j, h⟩) S1x1024x128.size (k0_off6_inb k ⟨j, h⟩)) (VecWindow.window R8 (k0_off7 k ⟨j, h⟩) S1x1024x128.size (k0_off7_inb k ⟨j, h⟩))
        (VecWindow.window R8 (k0_off8 k ⟨j, h⟩) S1x1024x128.size (k0_off8_inb k ⟨j, h⟩)) (VecWindow.window R7 (k0_off9 k ⟨j, h⟩) S1x1024x128.size (k0_off9_inb k ⟨j, h⟩)) (keysAt R7 R8 k v144 v252 p₀ j)
    else keysAt R7 R8 k v144 v252 p₀ j

theorem keysAt_succ (R7 R8 : Vec F S2x8192x128 .bf16) (k : Fin k0_t2_loop.trips) (v144 v252 : FVec F S256x128 .bf16) (p₀ : (FVec F S256x1 .f32 × FVec F S256x128 .f32 × FVec F S256x1 .f32 × FVec F S256x128 .f32) × Vec F S256x1024 .f32)
    (j : Fin (k0_t3_loop k).trips) :
    keysAt R7 R8 k v144 v252 p₀ (j.val + 1)
      = keyStep v144 v252 (VecWindow.window R7 (k0_off6 k j) S1x1024x128.size (k0_off6_inb k j)) (VecWindow.window R8 (k0_off7 k j) S1x1024x128.size (k0_off7_inb k j))
        (VecWindow.window R8 (k0_off8 k j) S1x1024x128.size (k0_off8_inb k j)) (VecWindow.window R7 (k0_off9 k j) S1x1024x128.size (k0_off9_inb k j)) (keysAt R7 R8 k v144 v252 p₀ j.val) := by
  rw [keysAt.eq_2]; exact dif_pos j.isLt

/-- The first head's queries beside the biases of the key blocks. -/
def aug0 (v0 : IVec S1x128 32) (v1 : FVec F S1x128 .f32) (v11 : IVec S1x128 1) (v19 v22 : FVec F S128x128 .bf16) (c0 : BitVec 32) (k : Fin k0_t2_loop.trips) (v43 : Vec F S1x256x128 .bf16) : FVec F S256x128 .bf16 :=
  k0_pay38 v11 (k0_pay22 v43) (k0_pay27 v0)
    (k0_pay35 v1 (k0_pay28 v0 c0 1#32 k) (k0_pay29 v0 v11 v19 v22 c0 1#32 k v43) (k0_pay30 (F := F)) (k0_pay31 v0 v1 v11 v19 v22 c0 1#32 k v43))
    (k0_pay36 v1 (k0_pay29 v0 v11 v19 v22 c0 1#32 k v43) (k0_pay31 v0 v1 v11 v19 v22 c0 1#32 k v43)) (k0_pay37 (k0_pay28 v0 c0 1#32 k))

/-- The second head's queries beside the biases of the key blocks. -/
def aug1 (v0 : IVec S1x128 32) (v1 : FVec F S1x128 .f32) (v27 : IVec S1x128 1) (v34 v37 : FVec F S128x128 .bf16) (c0 : BitVec 32) (k : Fin k0_t2_loop.trips) (v43 : Vec F S1x256x128 .bf16) : FVec F S256x128 .bf16 :=
  k0_pay55 v1 v27 (k0_pay22 v43) (k0_pay44 v0) (k0_pay45 v0 (Scf.iv c0 1#32 k)) (k0_pay48 (F := F))
    (k0_pay51 v1 (k0_pay45 v0 (Scf.iv c0 1#32 k)) (k0_pay46 v27 v34 v37 (k0_pay22 v43))) (k0_pay52 v1 (k0_pay45 v0 (Scf.iv c0 1#32 k)) (k0_pay46 v27 v34 v37 (k0_pay22 v43)))
    (k0_pay53 v1) (k0_pay54 v1 (k0_pay45 v0 (Scf.iv c0 1#32 k)) (k0_pay46 v27 v34 v37 (k0_pay22 v43)))

/-- Each head's running maximum and accumulator after the queries' own key block. -/
def diag (v4 : IVec S256x256 1) (v11 v27 : IVec S1x128 1) (v43 v46 v49 : Vec F S1x256x128 .bf16) : FVec F S256x1 .f32 × FVec F S256x128 .f32 × FVec F S256x1 .f32 × FVec F S256x128 .f32 :=
  (k0_pay40 v4 (k0_pay23 v46) (k0_pay25 v11 v43), k0_pay41 v4 v11 (k0_pay23 v46) (k0_pay24 v49) (k0_pay25 v11 v43),
    k0_pay57 v4 (k0_pay23 v46) (k0_pay42 v27 (k0_pay22 v43)), k0_pay58 v4 v27 (k0_pay23 v46) (k0_pay24 v49) (k0_pay42 v27 (k0_pay22 v43)))

/-- What both heads hold, and the score buffer, after the last key block. -/
def tileEnd (R7 R8 : Vec F S2x8192x128 .bf16) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0 : BitVec 32) (k : Fin k0_t2_loop.trips) (v43 v46 v49 : Vec F S1x256x128 .bf16) : (FVec F S256x1 .f32 × FVec F S256x128 .f32 × FVec F S256x1 .f32 × FVec F S256x128 .f32) × Vec F S256x1024 .f32 :=
  keysAt R7 R8 k (aug0 v0 v1 v11 v19 v22 c0 k v43) (aug1 v0 v1 v27 v34 v37 c0 k v43)
    (diag v4 v11 v27 v43 v46 v49, k0_pay59 (aug0 v0 v1 v11 v19 v22 c0 k v43) (VecWindow.window R7 k0_off5 S1x1024x128.size k0_off5_inb)) (k0_t3_loop k).trips

/-- What one tile writes. -/
def tileVal (R7 R8 : Vec F S2x8192x128 .bf16) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0 : BitVec 32) (k : Fin k0_t2_loop.trips) (v43 v46 v49 : Vec F S1x256x128 .bf16) : FVec F S1x256x128 .bf16 :=
  k0_pay1 (k0_pay64 v11 (tileEnd R7 R8 v0 v1 v4 v11 v19 v22 v27 v34 v37 c0 k v43 v46 v49).1.2.1 (tileEnd R7 R8 v0 v1 v4 v11 v19 v22 v27 v34 v37 c0 k v43 v46 v49).1.2.2.2)

set_option warn.classDefReducibility false in
/-- The first loop over the key blocks. Its region does not read `v11`, `arg10`, the values the loop starts from, or
    `v268`, so these are taken at fixed values. -/
@[sl_loop] def keyLoop3 (𝒱 : Variants) (c : Dev nD) (bd : Option 𝒱.V) (E : Set ℕ) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x32x1x128 .f32) (harg5 : arg5.IsWhole) (arg6 : Memref sig .tc .vmem S1x8192x128 .bf16) (harg6 : arg6.IsWhole) (arg7 : Memref sig .tc .vmem S2x8192x128 .bf16) (harg7 : arg7.IsWhole) (arg8 : Memref sig .tc .vmem S2x8192x128 .bf16) (harg8 : arg8.IsWhole) (arg9 : Memref sig .tc .vmem S256x1024 .f32) (harg9 : arg9.IsWhole) (k : Fin k0_t2_loop.trips) (v144 : FVec F S256x128 .bf16) (v252 : FVec F S256x128 .bf16) (X7 : BufTy.Contents (Elt F) arg7.view.ty) (X8 : BufTy.Contents (Elt F) arg8.view.ty) (G9 : BufTy.Contents (Elt F) arg9.view.ty) (init : FVec F S256x1 .f32 × FVec F S256x128 .f32 × FVec F S256x1 .f32 × FVec F S256x128 .f32) :
    LoopInvTy_k0_t3 (F := F) Unit ℕ (UR sig nD τ) ℕ 𝒱 c bd E i arg2 harg2 arg3 harg3 arg4 harg4 arg5 harg5 arg6 harg6 arg7 harg7 arg8 harg8 arg9 harg9 (fun _ => 0#1) k 0#32 v144 (fun _ => Scalar.ofBits .f32 0x00000000#32) (fun _ => Scalar.ofBits .f32 0x00000000#32) v252 (fun _ => Scalar.ofBits .f32 0x00000000#32) (fun _ => Scalar.ofBits .f32 0x00000000#32) 0#32 init where
  inv j st := iprop((arg7.view.loc (c : Thread nD τ) ↦[arg7.view.set]{fullShare} X7) ∗ (arg8.view.loc (c : Thread nD τ) ↦[arg8.view.set]{fullShare} X8) ∗ (∃ f9, (arg9.view.loc (c : Thread nD τ) ↦[arg9.view.set]{fullShare} f9) ∗ ⌜(st, arg9.view.read (Elt F) f9) = keysAt (arg7.view.read (Elt F) X7) (arg8.view.read (Elt F) X8) k v144 v252 (init, arg9.view.read (Elt F) G9) j⌝))
  step j st := by
    iintro ⟨H7, H8, ⟨%f9, H9, %h9⟩⟩
    unfold k0_t3_body
    sl_exec
    sl_step
    isplitl [H7]; · iexact H7
    isplitl [H8]; · iexact H8
    iexists _; isplitl [H9]; · iexact H9
    ipureintro
    rw [keysAt_succ (j := j), ← h9, keyStep]
    refine Prod.ext ?_ (View.read_writes_full arg9.view f9 _ _ [])
    dsimp only
    sl_unfold_words
    rw [View.readAt_full arg9.view f9 inb_S256x1024_S256x1024_0_0]
    rfl

theorem no_trips4 (k : Fin k0_t2_loop.trips) : (k0_t4_loop k).trips = 0 := by
  revert k; decide +kernel

set_option warn.classDefReducibility false in
/-- The second loop over the key blocks makes no trip. -/
@[sl_loop] def keyLoop4 (𝒱 : Variants) (c : Dev nD) (bd : Option 𝒱.V) (E : Set ℕ) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x32x1x128 .f32) (harg5 : arg5.IsWhole) (arg6 : Memref sig .tc .vmem S1x8192x128 .bf16) (harg6 : arg6.IsWhole) (arg7 : Memref sig .tc .vmem S2x8192x128 .bf16) (harg7 : arg7.IsWhole) (arg8 : Memref sig .tc .vmem S2x8192x128 .bf16) (harg8 : arg8.IsWhole) (arg9 : Memref sig .tc .vmem S256x1024 .f32) (harg9 : arg9.IsWhole) (k : Fin k0_t2_loop.trips) (v144 : FVec F S256x128 .bf16) (v252 : FVec F S256x128 .bf16) (v299 : BitVec 32) (init : FVec F S256x1 .f32 × FVec F S256x128 .f32 × FVec F S256x1 .f32 × FVec F S256x128 .f32) :
    LoopInvTy_k0_t4 (F := F) Unit ℕ (UR sig nD τ) ℕ 𝒱 c bd E i arg2 harg2 arg3 harg3 arg4 harg4 arg5 harg5 arg6 harg6 arg7 harg7 arg8 harg8 arg9 harg9 (fun _ => 0#1) k 0#32 v144 (fun _ => Scalar.ofBits .f32 0x00000000#32) (fun _ => Scalar.ofBits .f32 0x00000000#32) v252 (fun _ => Scalar.ofBits .f32 0x00000000#32) (fun _ => Scalar.ofBits .f32 0x00000000#32) 0#32 v299 init where
  inv _ st := iprop(⌜st = init⌝)
  step j st := absurd (lt_of_lt_of_eq j.isLt (no_trips4 k)) (Nat.not_lt_zero _)

end Cert.Proof.KernelIdeal

end
-- ==== Proof.KernelIdeal.Tile.lean ====
/- The loop over the query tiles of `KernelIdeal`: one trip, and the loop's invariant. A trip reads the query, key and value
   blocks and the two arranged copies of the keys and values, overwrites the score buffer, and stores its tile of the
   result. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import proofs.«01_k».proof.Proof.KernelIdeal.Keys

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 4000000

/-- What one trip holds: the buffers it reads at their contents, the result's and the score buffer's at `f6` and `f9`. -/
abbrev TileRes (c : Dev nD) (arg2 : Memref sig .tc .vmem S1x8192x128 .bf16) (arg3 : Memref sig .tc .vmem S1x8192x128 .bf16) (arg4 : Memref sig .tc .vmem S1x8192x128 .bf16) (arg7 : Memref sig .tc .vmem S2x8192x128 .bf16) (arg8 : Memref sig .tc .vmem S2x8192x128 .bf16) (arg6 : Memref sig .tc .vmem S1x8192x128 .bf16) (arg9 : Memref sig .tc .vmem S256x1024 .f32) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) (f6 : BufTy.Contents (Elt F) arg6.view.ty) (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg6.view.loc (c : Thread nD τ) ↦[arg6.view.set]{fullShare} f6) ∗ (arg9.view.loc (c : Thread nD τ) ↦[arg9.view.set]{fullShare} f9))

/-- The window of a block that one trip loads. -/
abbrev qWin (x : Vec F S1x8192x128 .bf16) (k : Fin k0_t2_loop.trips) : Vec F S1x256x128 .bf16 :=
  VecWindow.window x (k0_off4 k) S1x256x128.size (k0_off4_inb k)

/-- The one piece tile `k` writes, from the blocks and the arranged keys and values. -/
def tilePiece (Q K W : Vec F S1x8192x128 .bf16) (R7 R8 : Vec F S2x8192x128 .bf16) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0_i32_10 : BitVec 32) (k : Fin k0_t2_loop.trips) : View.Piece (Elt F) S1x8192x128 .bf16 :=
  ⟨Rect.unit (k0_off4 k) S1x256x128.size (k0_off4_inb k), tileVal R7 R8 v0 v1 v4 v11 v19 v22 v27 v34 v37 c0_i32_10 k (qWin Q k) (qWin K k) (qWin W k)⟩

/-- One trip at a symbolic tile. The score buffer is written whole before it is read, so what the trip writes does not
    depend on what it held. -/
theorem tile (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x32x1x128 .f32) (harg5 : arg5.IsWhole) (arg6 : Memref sig .tc .vmem S1x8192x128 .bf16) (harg6 : arg6.IsWhole) (arg7 : Memref sig .tc .vmem S2x8192x128 .bf16) (harg7 : arg7.IsWhole) (arg8 : Memref sig .tc .vmem S2x8192x128 .bf16) (harg8 : arg8.IsWhole) (arg9 : Memref sig .tc .vmem S256x1024 .f32) (harg9 : arg9.IsWhole) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0_i32_10 : BitVec 32) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) (k : Fin k0_t2_loop.trips) (E : Set ℕ) (acc : Unit) (f6 : BufTy.Contents (Elt F) arg6.view.ty) (f9 : BufTy.Contents (Elt F) arg9.view.ty) :
    TileRes (F := F) c arg2 arg3 arg4 arg7 arg8 arg6 arg9 X2 X3 X4 X7 X8 f6 f9
    ⊢ wp frame (wpE (defs₀ (F := F)) 𝒱 (c : Thread nD τ) bd) E (k0_t2_body (F := F) i arg2 harg2 arg3 harg3 arg4 harg4 arg5 harg5 arg6 harg6 arg7 harg7 arg8 harg8 arg9 harg9 v0 v1 v4 v11 v19 v22 v27 v34 v37 c0_i32_10 k acc)
      (fun _ => iprop(∃ f9, TileRes (F := F) c arg2 arg3 arg4 arg7 arg8 arg6 arg9 X2 X3 X4 X7 X8 (arg6.view.writes (Elt F) f6 [tilePiece (arg2.view.read (Elt F) X2) (arg3.view.read (Elt F) X3) (arg4.view.read (Elt F) X4) (arg7.view.read (Elt F) X7) (arg8.view.read (Elt F) X8) v0 v1 v4 v11 v19 v22 v27 v34 v37 c0_i32_10 k]) f9)) := by
  unfold k0_t2_body
  iintro ⟨H2, H3, H4, H7, H8, H6, H9⟩
  sl_exec
  rename_i st
  have e : tilePiece (arg2.view.read (Elt F) X2) (arg3.view.read (Elt F) X3) (arg4.view.read (Elt F) X4) (arg7.view.read (Elt F) X7) (arg8.view.read (Elt F) X8) v0 v1 v4 v11 v19 v22 v27 v34 v37 c0_i32_10 k
      = ⟨Rect.unit (k0_off4 k) S1x256x128.size (k0_off4_inb k), k0_pay1 (k0_pay64 v11 st.2.1 st.2.2.2)⟩ := by
    have h1 : st = (tileEnd (arg7.view.read (Elt F) X7) (arg8.view.read (Elt F) X8) v0 v1 v4 v11 v19 v22 v27 v34 v37 c0_i32_10 k (qWin (arg2.view.read (Elt F) X2) k) (qWin (arg3.view.read (Elt F) X3) k) (qWin (arg4.view.read (Elt F) X4) k)).1 := by
      have h := congrArg Prod.fst hL3
      revert h
      sl_unfold_words
      rw [View.read_writes_full]
      exact id
    rw [h1]; rfl
  rw [e]
  sl_step
  iexists _
  isplitl [H2]; · iexact H2
  isplitl [H3]; · iexact H3
  isplitl [H4]; · iexact H4
  isplitl [H7]; · iexact H7
  isplitl [H8]; · iexact H8
  isplitl [H6]; · iexact H6
  iexact H9

/-- The pieces written into the result's block before tile `k`, last first. -/
def pieces (Q K W : Vec F S1x8192x128 .bf16) (R7 R8 : Vec F S2x8192x128 .bf16) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0_i32_10 : BitVec 32) : ℕ → List (View.Piece (Elt F) S1x8192x128 .bf16)
  | 0 => []
  | k + 1 =>
    if h : k < k0_t2_loop.trips then tilePiece Q K W R7 R8 v0 v1 v4 v11 v19 v22 v27 v34 v37 c0_i32_10 ⟨k, h⟩ :: pieces Q K W R7 R8 v0 v1 v4 v11 v19 v22 v27 v34 v37 c0_i32_10 k
    else pieces Q K W R7 R8 v0 v1 v4 v11 v19 v22 v27 v34 v37 c0_i32_10 k

theorem pieces_succ (Q K W : Vec F S1x8192x128 .bf16) (R7 R8 : Vec F S2x8192x128 .bf16) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0_i32_10 : BitVec 32) (k : Fin k0_t2_loop.trips) :
    pieces Q K W R7 R8 v0 v1 v4 v11 v19 v22 v27 v34 v37 c0_i32_10 (k.val + 1) = tilePiece Q K W R7 R8 v0 v1 v4 v11 v19 v22 v27 v34 v37 c0_i32_10 k :: pieces Q K W R7 R8 v0 v1 v4 v11 v19 v22 v27 v34 v37 c0_i32_10 k.val := by
  rw [pieces.eq_2]; exact dif_pos k.isLt

/-- Before tile `k`: what is only read at its contents, the result's block at the pieces written so far over what it held
    at the loop's entry, the score buffer at any contents. -/
abbrev tileInv (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x32x1x128 .f32) (harg5 : arg5.IsWhole) (arg6 : Memref sig .tc .vmem S1x8192x128 .bf16) (harg6 : arg6.IsWhole) (arg7 : Memref sig .tc .vmem S2x8192x128 .bf16) (harg7 : arg7.IsWhole) (arg8 : Memref sig .tc .vmem S2x8192x128 .bf16) (harg8 : arg8.IsWhole) (arg9 : Memref sig .tc .vmem S256x1024 .f32) (harg9 : arg9.IsWhole) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0_i32_10 : BitVec 32) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) (G6 : BufTy.Contents (Elt F) arg6.view.ty) (k : ℕ) (_u : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8)
    ∗ (∃ f, (arg6.view.loc (c : Thread nD τ) ↦[arg6.view.set]{fullShare} f) ∗ ⌜f = arg6.view.writes (Elt F) G6 (pieces (arg2.view.read (Elt F) X2) (arg3.view.read (Elt F) X3) (arg4.view.read (Elt F) X4) (arg7.view.read (Elt F) X7) (arg8.view.read (Elt F) X8) v0 v1 v4 v11 v19 v22 v27 v34 v37 c0_i32_10 k)⌝)
    ∗ (∃ f, (arg9.view.loc (c : Thread nD τ) ↦[arg9.view.set]{fullShare} f)))

set_option warn.classDefReducibility false in
/-- The loop over the tiles by that invariant. -/
@[sl_loop] def tileLoop (𝒱 : Variants) (c : Dev nD) (bd : Option 𝒱.V) (E : Set ℕ) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x32x1x128 .f32) (harg5 : arg5.IsWhole) (arg6 : Memref sig .tc .vmem S1x8192x128 .bf16) (harg6 : arg6.IsWhole) (arg7 : Memref sig .tc .vmem S2x8192x128 .bf16) (harg7 : arg7.IsWhole) (arg8 : Memref sig .tc .vmem S2x8192x128 .bf16) (harg8 : arg8.IsWhole) (arg9 : Memref sig .tc .vmem S256x1024 .f32) (harg9 : arg9.IsWhole) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0_i32_10 : BitVec 32) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) (G6 : BufTy.Contents (Elt F) arg6.view.ty) :
    LoopInvTy_k0_t2 (F := F) Unit ℕ (UR sig nD τ) ℕ 𝒱 c bd E i arg2 harg2 arg3 harg3 arg4 harg4 arg5 harg5 arg6 harg6 arg7 harg7 arg8 harg8 arg9 harg9 v0 v1 v4 v11 v19 v22 v27 v34 v37 c0_i32_10 where
  inv := tileInv (F := F) 𝒱 c bd i arg2 harg2 arg3 harg3 arg4 harg4 arg5 harg5 arg6 harg6 arg7 harg7 arg8 harg8 arg9 harg9 v0 v1 v4 v11 v19 v22 v27 v34 v37 c0_i32_10 X2 X3 X4 X7 X8 G6
  step k acc := by
    iintro ⟨H2, H3, H4, H7, H8, ⟨%f6, H6, %h6⟩, ⟨%f9, H9⟩⟩
    iapply (wp_wand_r Idealize.ShloMosaic.frame (wpE (defs₀ (F := F)) 𝒱 (c : Thread nD τ) bd) E)
    isplitl [H2 H3 H4 H7 H8 H6 H9]
    · iapply (tile (F := F) 𝒱 c bd i arg2 harg2 arg3 harg3 arg4 harg4 arg5 harg5 arg6 harg6 arg7 harg7 arg8 harg8 arg9 harg9 v0 v1 v4 v11 v19 v22 v27 v34 v37 c0_i32_10 X2 X3 X4 X7 X8 k E acc f6 f9)
      isplitl [H2]; · iexact H2
      isplitl [H3]; · iexact H3
      isplitl [H4]; · iexact H4
      isplitl [H7]; · iexact H7
      isplitl [H8]; · iexact H8
      isplitl [H6]; · iexact H6
      iexact H9
    · iintro %yld ⟨%g9, H2, H3, H4, H7, H8, H6, H9⟩
      isplitl [H2]; · iexact H2
      isplitl [H3]; · iexact H3
      isplitl [H4]; · iexact H4
      isplitl [H7]; · iexact H7
      isplitl [H8]; · iexact H8
      simp only [pieces_succ]
      isplitl [H6]
      · iexists _; isplitl [H6]; · iexact H6
        ipureintro; rw [h6, ← View.writes_append]; rfl
      iexists _; iexact H9

end Cert.Proof.KernelIdeal

end
-- ==== Proof.KernelIdeal.Arrange.lean ====
/- The first loop of `KernelIdeal`: it arranges the keys beside one-hot lanes and the values beside ones, block by block, for each
   head; its invariant is the list of pieces written. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 4000000

/-- The pieces of trip `k` in the arranged keys, last first. -/
def keyPieces (v0 : IVec S1x128 32) (K : Vec F S1x8192x128 .bf16) (k : Fin k0_t1_loop.trips) : List (View.Piece (Elt F) S2x8192x128 .bf16) :=
  [⟨Rect.unit (k0_off3 k) S1x256x128.size (k0_off3_inb k), k0_pay76 (k0_pay2 (VecWindow.window K (k0_off1 k) S1x256x128.size (k0_off1_inb k))) (k0_pay6 (F := F) v0 0#32 1#32 k) (k0_pay7 k0_pay72)⟩,
   ⟨Rect.unit (k0_off2 k) S1x256x128.size (k0_off2_inb k), k0_pay4 v0 k0_pay68 0#32 1#32 k (VecWindow.window K (k0_off1 k) S1x256x128.size (k0_off1_inb k))⟩]

/-- The pieces of trip `k` in the arranged values, last first. -/
def valPieces (W : Vec F S1x8192x128 .bf16) (k : Fin k0_t1_loop.trips) : List (View.Piece (Elt F) S2x8192x128 .bf16) :=
  [⟨Rect.unit (k0_off3 k) S1x256x128.size (k0_off3_inb k), k0_pay77 (k0_pay3 (VecWindow.window W (k0_off1 k) S1x256x128.size (k0_off1_inb k)))⟩, ⟨Rect.unit (k0_off2 k) S1x256x128.size (k0_off2_inb k), k0_pay5 k0_pay68 (VecWindow.window W (k0_off1 k) S1x256x128.size (k0_off1_inb k))⟩]

/-- The pieces of the trips before `k`, last first. -/
def before (P : Fin k0_t1_loop.trips → List (View.Piece (Elt F) S2x8192x128 .bf16)) : ℕ → List (View.Piece (Elt F) S2x8192x128 .bf16)
  | 0 => []
  | k + 1 => if h : k < k0_t1_loop.trips then P ⟨k, h⟩ ++ before P k else before P k

theorem before_succ (P : Fin k0_t1_loop.trips → List (View.Piece (Elt F) S2x8192x128 .bf16)) (k : Fin k0_t1_loop.trips) : before P (k.val + 1) = P k ++ before P k.val := by
  rw [before.eq_2]; exact dif_pos k.isLt

set_option warn.classDefReducibility false in
/-- The loop that arranges the keys and values. -/
@[sl_loop] def arrLoop (𝒱 : Variants) (c : Dev nD) (bd : Option 𝒱.V) (E : Set ℕ) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x32x1x128 .f32) (harg5 : arg5.IsWhole) (arg6 : Memref sig .tc .vmem S1x8192x128 .bf16) (harg6 : arg6.IsWhole) (arg7 : Memref sig .tc .vmem S2x8192x128 .bf16) (harg7 : arg7.IsWhole) (arg8 : Memref sig .tc .vmem S2x8192x128 .bf16) (harg8 : arg8.IsWhole) (arg9 : Memref sig .tc .vmem S256x1024 .f32) (harg9 : arg9.IsWhole) (v0 : IVec S1x128 32) (X3 : BufTy.Contents (Elt F) arg3.view.ty) (X4 : BufTy.Contents (Elt F) arg4.view.ty) (G7 : BufTy.Contents (Elt F) arg7.view.ty) (G8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 arg9 harg9 v0 where
  inv k _ := iprop((arg3.view.loc (c : Thread nD τ) ↦[arg3.view.set]{fullShare} X3) ∗ (arg4.view.loc (c : Thread nD τ) ↦[arg4.view.set]{fullShare} X4)
    ∗ (∃ f, (arg7.view.loc (c : Thread nD τ) ↦[arg7.view.set]{fullShare} f) ∗ ⌜f = arg7.view.writes (Elt F) G7 (before (keyPieces v0 (arg3.view.read (Elt F) X3)) k)⌝)
    ∗ (∃ f, (arg8.view.loc (c : Thread nD τ) ↦[arg8.view.set]{fullShare} f) ∗ ⌜f = arg8.view.writes (Elt F) G8 (before (valPieces (arg4.view.read (Elt F) X4)) k)⌝))
  step k acc := by
    have hk : k.val < 32 := Nat.lt_of_lt_of_le k.isLt k0_t1_abs.2.1
    iintro ⟨H3, H4, ⟨%f7, H7, %h7⟩, ⟨%f8, H8, %h8⟩⟩
    unfold k0_t1_body
    sl_exec
    sl_step
    isplitl [H3]; · iexact H3
    isplitl [H4]; · iexact H4
    isplitl [H7]
    · iexists _; isplitl [H7]; · iexact H7
      ipureintro
      rw [before_succ (k := k), View.writes_append, ← h7]
      sl_unfold_words
      rfl
    iexists _; isplitl [H8]; · iexact H8
    ipureintro
    rw [before_succ (k := k), View.writes_append, ← h8]
    sl_unfold_words
    rfl

end Cert.Proof.KernelIdeal

end
-- ==== Proof.KernelIdeal.Body.lean ====
/- `KernelIdeal`'s body on any staging and scratch buffers: it runs, leaves its four inputs as they were, and what it leaves in
   the result's block is a function of the inputs and of what the scratch buffers held. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import proofs.«01_k».proof.Proof.KernelIdeal.Tile
public import proofs.«01_k».proof.Proof.KernelIdeal.Arrange

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 4000000

abbrev 𝒱₀ : Variants := Variants.none

/-- The lanes' numbers. -/
abbrev lanes : IVec S1x128 32 := iota .tc S1x128 32 [1] iota_S1x128_d1_w32

/-- The pieces of the result's block, from the blocks, the block means and the arranged keys and values. -/
def outPieces (Q K W : Vec F S1x8192x128 .bf16) (x5 : Vec F S1x32x1x128 .f32) (R7 R8 : Vec F S2x8192x128 .bf16) : List (View.Piece (Elt F) S1x8192x128 .bf16) :=
  pieces Q K W R7 R8 lanes (k0_pay65 (F := F)) k0_pay66 k0_pay68 (k0_pay70 x5) (k0_pay71 x5) k0_pay72 (k0_pay74 x5) (k0_pay75 x5) 0#32 k0_t2_loop.trips

/-- The arranged keys. -/
def keysArr (M7 : Memref sig .tc .vmem S2x8192x128 .bf16) (K : Vec F S1x8192x128 .bf16) : Vec F S2x8192x128 .bf16 :=
  M7.view.read (Elt F) (M7.view.writes (Elt F) M7.view.junk (before (keyPieces lanes K) k0_t1_loop.trips))

/-- The arranged values. -/
def valsArr (M8 : Memref sig .tc .vmem S2x8192x128 .bf16) (W : Vec F S1x8192x128 .bf16) : Vec F S2x8192x128 .bf16 :=
  M8.view.read (Elt F) (M8.view.writes (Elt F) M8.view.junk (before (valPieces W) k0_t1_loop.trips))

/-- The body's run. -/
theorem bodyRun (c : Dev nD) (i : grid0.Coords) (M2 : Memref sig .tc .vmem S1x8192x128 .bf16) (h2 : M2.IsWhole) (M3 : Memref sig .tc .vmem S1x8192x128 .bf16) (h3 : M3.IsWhole) (M4 : Memref sig .tc .vmem S1x8192x128 .bf16) (h4 : M4.IsWhole) (M5 : Memref sig .tc .vmem S1x32x1x128 .f32) (h5 : M5.IsWhole) (M6 : Memref sig .tc .vmem S1x8192x128 .bf16) (h6 : M6.IsWhole) (M7 : Memref sig .tc .vmem S2x8192x128 .bf16) (h7 : M7.IsWhole) (M8 : Memref sig .tc .vmem S2x8192x128 .bf16) (h8 : M8.IsWhole) (M9 : Memref sig .tc .vmem S256x1024 .f32) (h9 : M9.IsWhole) (x2 : Vec F S1x8192x128 .bf16) (x3 : Vec F S1x8192x128 .bf16) (x4 : Vec F S1x8192x128 .bf16) (x5 : Vec F S1x32x1x128 .f32) (f6 : BufTy.Contents (Elt F) M6.view.ty) (f7 : BufTy.Contents (Elt F) M7.view.ty) (f8 : BufTy.Contents (Elt F) M8.view.ty) (f9 : BufTy.Contents (Elt F) M9.view.ty) (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ (M6.view.loc (c : Thread nD τ) ↦[M6.view.set]{fullShare} f6) ∗ (M7.view.loc (c : Thread nD τ) ↦[M7.view.set]{fullShare} f7) ∗ (M8.view.loc (c : Thread nD τ) ↦[M8.view.set]{fullShare} f8) ∗ (M9.view.loc (c : Thread nD τ) ↦[M9.view.set]{fullShare} f9)
        ∗ (iprop(owns (c : Thread nD τ) M2 fullShare x2 ∗ owns (c : Thread nD τ) M3 fullShare x3 ∗ owns (c : Thread nD τ) M4 fullShare x4 ∗ owns (c : Thread nD τ) M5 fullShare x5 ∗ (M6.view.loc (c : Thread nD τ) ↦[M6.view.set]{fullShare} (M6.view.writes (Elt F) f6 (outPieces x2 x3 x4 x5 (keysArr M7 x3) (valsArr M8 x4)))) ∗ (∃ f, (M7.view.loc (c : Thread nD τ) ↦[M7.view.set]{fullShare} f)) ∗ (∃ f, (M8.view.loc (c : Thread nD τ) ↦[M8.view.set]{fullShare} f)) ∗ (∃ f, (M9.view.loc (c : Thread nD τ) ↦[M9.view.set]{fullShare} f))) -∗ K ⟨⟩))
      ⊢ wp Idealize.ShloMosaic.frame (wpE (defs₀ (F := F)) 𝒱₀ c none) E (cc0_moba_prompt i M2 h2 M3 h3 M4 h4 M5 h5 M6 h6 M7 h7 M8 h8 M9 h9) K := by
  unfold owns
  iintro ⟨⟨%g2, %hg2, H2⟩, ⟨%g3, %hg3, H3⟩, ⟨%g4, %hg4, H4⟩, ⟨%g5, %hg5, H5⟩, H6, H7, H8, H9, Hk⟩
  obtain rfl := h2.eq_unread hg2; obtain rfl := h3.eq_unread hg3; obtain rfl := h4.eq_unread hg4; obtain rfl := h5.eq_unread hg5
  sl_unfold [cc0_moba_prompt]
  sl_exec
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  have e5 : View.readAt (Elt F) M5.view (Rect.unit ![0, 0, 0, 0] S1x32x1x128.size inb_S1x32x1x128_S1x32x1x128_0_0_0_0).toLoadRect (h5.unread x5) = x5 :=
    (View.readAt_full M5.view (h5.unread x5) inb_S1x32x1x128_S1x32x1x128_0_0_0_0).trans hg5
  have e19 : bodyRun.sl.v19 c M5 h5 x5 = k0_pay70 x5 := by sl_unfold_words; rw [e5]; all_goals rfl
  have e22 : bodyRun.sl.v22 c M5 h5 x5 = k0_pay71 x5 := by sl_unfold_words; rw [e5]; all_goals rfl
  have e34 : bodyRun.sl.v34 c M5 h5 x5 = k0_pay74 x5 := by sl_unfold_words; rw [e5]; all_goals rfl
  have e37 : bodyRun.sl.v37 c M5 h5 x5 = k0_pay75 x5 := by sl_unfold_words; rw [e5]; all_goals rfl
  simp only [hg2, hg3, hg4, e19, e22, e34, e37]
  isplitl [H6]; · iexact H6
  isplitl [H7]; · iexists _; iexact H7
  isplitl [H8]; · iexists _; iexact H8
  iexists _; iexact H9

end Cert.Proof.KernelIdeal

end
-- ==== Proof.KernelIdeal.Run.lean ====
/- `KernelIdeal`'s frame: from any memory every weakly fair execution ends, with the three arguments as they were and every
   semaphore counter at zero. The result's array is left unnamed here. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import proofs.«01_k».proof.Proof.KernelIdeal.Body

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 4000000

variable (m : (ℓ : Loc nD τ sig) → Buf (Elt F) ℓ) (ρ : Dev nD → PrngReg)

/-- The body on any buffers, with nothing said of what it leaves in the result's block. -/
theorem bodyFrame (c : Dev nD) (i : grid0.Coords) (M2 : Memref sig .tc .vmem S1x8192x128 .bf16) (h2 : M2.IsWhole) (M3 : Memref sig .tc .vmem S1x8192x128 .bf16) (h3 : M3.IsWhole) (M4 : Memref sig .tc .vmem S1x8192x128 .bf16) (h4 : M4.IsWhole) (M5 : Memref sig .tc .vmem S1x32x1x128 .f32) (h5 : M5.IsWhole) (M6 : Memref sig .tc .vmem S1x8192x128 .bf16) (h6 : M6.IsWhole) (M7 : Memref sig .tc .vmem S2x8192x128 .bf16) (h7 : M7.IsWhole) (M8 : Memref sig .tc .vmem S2x8192x128 .bf16) (h8 : M8.IsWhole) (M9 : Memref sig .tc .vmem S256x1024 .f32) (h9 : M9.IsWhole) (x2 : Vec F S1x8192x128 .bf16) (x3 : Vec F S1x8192x128 .bf16) (x4 : Vec F S1x8192x128 .bf16) (x5 : Vec F S1x32x1x128 .f32) (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ (∃ d, owns (c : Thread nD τ) M6 fullShare d) ∗ (∃ d, owns (c : Thread nD τ) M7 fullShare d) ∗ (∃ d, owns (c : Thread nD τ) M8 fullShare d) ∗ (∃ d, owns (c : Thread nD τ) M9 fullShare d)
        ∗ (iprop(owns (c : Thread nD τ) M2 fullShare x2 ∗ owns (c : Thread nD τ) M3 fullShare x3 ∗ owns (c : Thread nD τ) M4 fullShare x4 ∗ owns (c : Thread nD τ) M5 fullShare x5 ∗ (∃ d, owns (c : Thread nD τ) M6 fullShare d) ∗ (∃ d, owns (c : Thread nD τ) M7 fullShare d) ∗ (∃ d, owns (c : Thread nD τ) M8 fullShare d) ∗ (∃ d, owns (c : Thread nD τ) M9 fullShare d)) -∗ K ⟨⟩))
      ⊢ wp Idealize.ShloMosaic.frame (wpE (defs₀ (F := F)) 𝒱₀ c none) E (cc0_moba_prompt i M2 h2 M3 h3 M4 h4 M5 h5 M6 h6 M7 h7 M8 h8 M9 h9) K := by
  unfold owns
  iintro ⟨H2, H3, H4, H5, ⟨%d6, %f6, -, H6⟩, ⟨%d7, %f7, -, H7⟩, ⟨%d8, %f8, -, H8⟩, ⟨%d9, %f9, -, H9⟩, Hk⟩
  have hb := bodyRun c i M2 h2 M3 h3 M4 h4 M5 h5 M6 h6 M7 h7 M8 h8 M9 h9 x2 x3 x4 x5 f6 f7 f8 f9 E K
  unfold owns at hb
  iapply hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, ⟨%g7, H7⟩, ⟨%g8, H8⟩, ⟨%g9, H9⟩⟩
  iapply Hk
  isplitl [H2]; · iexact H2
  isplitl [H3]; · iexact H3
  isplitl [H4]; · iexact H4
  isplitl [H5]; · iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

/-- The result's window is left unnamed. -/
def unread : Fin 5 → Bool
  | ⟨0, _⟩ => false
  | ⟨1, _⟩ => false
  | ⟨2, _⟩ => false
  | ⟨3, _⟩ => false
  | ⟨4, _⟩ => true

/-- The arrays as the region finds them, each input's buffer at its block, the invariant the frame's. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

theorem fafter_0 (c : Dev nD) (t : Fin cfg0.N) : (fdats m 0 c).after 0 t = iblk m c 0 t := by dsimp only [fdats]
theorem fbefore_0 (c : Dev nD) (t : Fin cfg0.N) (d) : (fdats m 0 c).before 0 t d = iblk m c 0 t :=
  before0_0_of m (fdats m 0 c) rfl (fafter_0 m c) t d
theorem fafter_1 (c : Dev nD) (t : Fin cfg0.N) : (fdats m 0 c).after 1 t = iblk m c 1 t := by dsimp only [fdats]
theorem fbefore_1 (c : Dev nD) (t : Fin cfg0.N) (d) : (fdats m 0 c).before 1 t d = iblk m c 1 t :=
  before0_1_of m (fdats m 0 c) rfl (fafter_1 m c) t d
theorem fafter_2 (c : Dev nD) (t : Fin cfg0.N) : (fdats m 0 c).after 2 t = iblk m c 2 t := by dsimp only [fdats]
theorem fbefore_2 (c : Dev nD) (t : Fin cfg0.N) (d) : (fdats m 0 c).before 2 t d = iblk m c 2 t :=
  before0_2_of m (fdats m 0 c) rfl (fafter_2 m c) t d
theorem fafter_3 (c : Dev nD) (t : Fin cfg0.N) : (fdats m 0 c).after 3 t = iblk m c 3 t := by dsimp only [fdats]
theorem fbefore_3 (c : Dev nD) (t : Fin cfg0.N) (d) : (fdats m 0 c).before 3 t d = iblk m c 3 t :=
  before0_3_of m (fdats m 0 c) rfl (fafter_3 m c) t d

theorem fobligation (c : Dev nD) : BodyObligation (fdats (F := F) m 0 c) (defs₀ (F := F)) 𝒱₀ () Set.univ unread := fun t => by
  rw [bigSep_W0, bigSep_W0]
  sl_whnfR [defs₀, Defs.onTc]
  simp only [unread, fbefore_0, fbefore_1, fbefore_2, fbefore_3]
  rw [show (fdats m 0 c).Φ t.succ = (fdats m 0 c).Φ t.castSucc from rfl,
    show (fdats m 0 c).owesAt () t.succ = (fdats m 0 c).owesAt () t.castSucc from rfl, fafter_0, fafter_1, fafter_2, fafter_3,
    show (fdats m 0 c).Φ t.castSucc = Pipeline.ΦA spec0 c from rfl]
  unfold Pipeline.ΦA
  rw [scopedRest0_eq]
  simp only [← owns_whole (c : Thread nD τ)]
  iintro ⟨⟨⟨H7, H8, H9⟩, Hg⟩, Ho, ⟨%d0, H2⟩, ⟨%d1, H3⟩, ⟨%d2, H4⟩, ⟨%d3, H5⟩, H6⟩
  iapply (bodyFrame c _ _ _ _ _ _ _ _ _ _ _ _ _ _ _ _ _ (iblk m c 0 t) (iblk m c 1 t) (iblk m c 2 t) (iblk m c 3 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H2]; · iexact H2
  isplitl [H3]; · iexact H3
  isplitl [H4]; · iexact H4
  isplitl [H5]; · iexact H5
  iexact H6

set_option backward.isDefEq.respectTransparency.types false in
theorem run_frame : θ_run defs (onTc (τ := τ) (main (F := F))) (s₀ m ρ)
    (fun r => Pipeline.RDat.FramePost (cfgs 0) (fun c => (fdats m 0 c).toRForget unread) (V m) r ∧ r.2.sem = fun _ => 0) :=
  Pipeline.θ_run_frame_forget (Q' := _) cfgs (fdats m) (0 : Fin 1) launch0 defs₀ 𝒱₀ unread m ρ main
    (hbody := fun c => (fobligation m c).loose) (hshare := fun c => (fdats m 0 c).share_full fun _ => rfl)
    (howed := fun _ _ => rfl) (V := V m) (hmain := hmain m 𝒱₀) (hA := fun _ _ => rfl) (hΦ := fun _ _ => rfl)

/-- The three arguments end as they were, the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_frame m ρ)

end Cert.Proof.KernelIdeal

end
-- ==== Proof.Math.lean ====
module

public import Idealize.ShloMosaic.PureOps.Ideal.Laws

@[expose] public section

/-!
The arithmetic of attention over chosen blocks, on the extended reals and away from any program: which
blocks three rounds of "take the first greatest, strike it out" choose, and how a row's exponentials
gather when they are taken against any running maximum.
-/

namespace Cert.Proof.Math

open Finset Idealize.ShloMosaic

/-! ## The blocks chosen -/

/-- How many of the first `i` entries come before entry `n`: the greater ones, and the equal ones at lower
    positions. -/
noncomputable def cnt (g : ℕ → ℝ) (i n : ℕ) : ℕ :=
  ((range i).filter fun n' => g n < g n' ∨ (g n' = g n ∧ n' < n)).card

theorem cnt_scale (c : ℝ) (hc : 0 < c) (g : ℕ → ℝ) (i n : ℕ) : cnt (fun n => c * g n) i n = cnt g i n := by
  unfold cnt
  congr 1
  refine filter_congr fun n' _ => ?_
  rw [mul_lt_mul_iff_right₀ hc]
  constructor <;> rintro (h | ⟨h, h'⟩)
  · exact .inl h
  · exact .inr ⟨mul_left_cancel₀ hc.ne' h, h'⟩
  · exact .inl h
  · exact .inr ⟨by simp only [h], h'⟩

theorem cnt_congr {g g' : ℕ → ℝ} {i n : ℕ} (hn : n < i) (h : ∀ n < i, g n = g' n) : cnt g i n = cnt g' i n := by
  unfold cnt
  congr 1
  refine filter_congr fun n' hn' => ?_
  rw [h n hn, h n' (mem_range.mp hn')]

/-- The same count in an array of extended reals. -/
noncomputable def cntE {N : ℕ} (g : Fin N → EReal) (n : Fin N) : ℕ :=
  (univ.filter fun n' : Fin N => g n < g n' ∨ (g n' = g n ∧ n' < n)).card

theorem cntE_eq {N : ℕ} (g : Fin N → EReal) (sc : ℕ → ℝ) (off i : ℕ) (hi : off + i ≤ N)
    (hg : ∀ l : Fin N, g l = if off ≤ l.val ∧ l.val < off + i then ((sc (l.val - off) : ℝ) : EReal) else ⊥)
    (n : ℕ) (hn : n < i) : cntE g ⟨off + n, by omega⟩ = cnt sc i n := by
  have hgn : g ⟨off + n, by omega⟩ = ((sc n : ℝ) : EReal) := by
    rw [hg, if_pos ⟨by simp, by simp; omega⟩]; simp
  unfold cntE cnt
  symm
  refine card_bij (fun n' hn' => ⟨off + n', by have := mem_range.mp (mem_filter.mp hn').1; omega⟩) ?_ ?_ ?_
  · intro n' hn'
    have h1 := mem_range.mp (mem_filter.mp hn').1
    have hgn' : g ⟨off + n', by omega⟩ = ((sc n' : ℝ) : EReal) := by
      rw [hg, if_pos ⟨by simp, by simp; omega⟩]; simp
    rw [mem_filter, hgn, hgn']
    refine ⟨mem_univ _, ?_⟩
    rcases (mem_filter.mp hn').2 with h | ⟨h, h'⟩
    · exact .inl (EReal.coe_lt_coe_iff.mpr h)
    · exact .inr ⟨by rw [h], by simp [Fin.lt_def]; omega⟩
  · intro a _ b _ h
    have := congrArg Fin.val h
    simp at this; omega
  · intro b hb
    have hb2 := (mem_filter.mp hb).2
    have hbv : off ≤ b.val ∧ b.val < off + i := by
      by_contra hc
      have hb0 : g b = ⊥ := by rw [hg, if_neg hc]
      rw [hb0, hgn] at hb2
      rcases hb2 with h | ⟨h, _⟩
      · exact absurd h not_lt_bot
      · exact absurd h.symm (EReal.coe_ne_bot _)
    have hgb : g b = ((sc (b.val - off) : ℝ) : EReal) := by rw [hg, if_pos hbv]
    rw [hgb, hgn] at hb2
    refine ⟨b.val - off, mem_filter.mpr ⟨mem_range.mpr (by omega), ?_⟩, Fin.ext (by simp; omega)⟩
    rcases hb2 with h | ⟨h, h'⟩
    · exact .inl (EReal.coe_lt_coe_iff.mp h)
    · exact .inr ⟨EReal.coe_injective h, by simp [Fin.lt_def] at h'; omega⟩

/-- The first position of the greatest entry, as the number it is. -/
noncomputable def top (big : EReal) (g : Fin 128 → EReal) : EReal :=
  univ.inf fun l => if g l = univ.sup g then ((l.val : ℝ) : EReal) else big

/-- The array with that entry struck out. -/
noncomputable def rem (big : EReal) (g : Fin 128 → EReal) : Fin 128 → EReal :=
  fun l => if ((l.val : ℝ) : EReal) = top big g then ⊥ else g l

theorem coe_nat_inj {a b : ℕ} : ((a : ℝ) : EReal) = ((b : ℝ) : EReal) ↔ a = b := by
  rw [EReal.coe_eq_coe_iff]; exact Nat.cast_inj

theorem top_spec (big : EReal) (hbig : ((128 : ℝ) : EReal) ≤ big) (g : Fin 128 → EReal) :
    ∃ l₀ : Fin 128, top big g = ((l₀.val : ℝ) : EReal) ∧ ∀ l, g l ≤ g l₀ ∧ (g l = g l₀ → l₀ ≤ l) := by
  obtain ⟨lm, _, hlm⟩ := exists_mem_eq_sup univ univ_nonempty g
  have hne : (univ.filter fun l => g l = univ.sup g).Nonempty := ⟨lm, by simp [hlm]⟩
  have hmem := min'_mem _ hne
  set l₀ := (univ.filter fun l => g l = univ.sup g).min' hne with hl₀
  have h0 : g l₀ = univ.sup g := (mem_filter.mp hmem).2
  refine ⟨l₀, le_antisymm ?_ ?_, fun l => ⟨?_, fun h => ?_⟩⟩
  · refine (inf_le (mem_univ l₀)).trans ?_
    rw [if_pos h0]
  · refine Finset.le_inf fun l _ => ?_
    split
    · rename_i h
      have := min'_le (univ.filter fun l => g l = univ.sup g) l (mem_filter.mpr ⟨mem_univ l, h⟩)
      exact EReal.coe_le_coe_iff.mpr (by exact_mod_cast this)
    · refine le_trans (EReal.coe_le_coe_iff.mpr ?_) hbig
      exact_mod_cast (show l₀.val ≤ 128 by omega)
  · rw [h0]; exact le_sup (mem_univ l)
  · exact min'_le _ l (mem_filter.mpr ⟨mem_univ l, h.trans h0⟩)

theorem cnt_step (big : EReal) (hbig : ((128 : ℝ) : EReal) ≤ big) (g : Fin 128 → EReal) (n : Fin 128) (hn : g n ≠ ⊥) :
    (((n.val : ℝ) : EReal) = top big g ∧ cntE g n = 0) ∨
      (((n.val : ℝ) : EReal) ≠ top big g ∧ cntE g n = cntE (rem big g) n + 1 ∧ rem big g n ≠ ⊥) := by
  obtain ⟨l₀, h0, hmax⟩ := top_spec big hbig g
  have hrem : ∀ l, rem big g l = if l = l₀ then ⊥ else g l := fun l => by
    unfold rem; rw [h0]
    by_cases h : l = l₀
    · rw [if_pos h, if_pos (by rw [h])]
    · rw [if_neg h, if_neg (by rw [coe_nat_inj]; exact fun hh => h (Fin.ext hh))]
  by_cases hnl : n = l₀
  · left
    refine ⟨by rw [h0, hnl], ?_⟩
    unfold cntE
    rw [card_eq_zero, filter_eq_empty_iff]
    intro l _ hl
    rw [hnl] at hl
    rcases hl with h | ⟨h, h'⟩
    · exact absurd (hmax l).1 (not_le.mpr h)
    · exact absurd ((hmax l).2 h) (not_le.mpr h')
  · right
    have hrn : rem big g n = g n := by rw [hrem, if_neg hnl]
    refine ⟨by rw [h0, Ne, coe_nat_inj]; exact fun hh => hnl (Fin.ext hh), ?_, by rw [hrn]; exact hn⟩
    unfold cntE
    have hset : (univ.filter fun n' : Fin 128 => g n < g n' ∨ (g n' = g n ∧ n' < n))
        = insert l₀ (univ.filter fun n' : Fin 128 =>
            rem big g n < rem big g n' ∨ (rem big g n' = rem big g n ∧ n' < n)) := by
      ext l
      rw [mem_insert, mem_filter, mem_filter, hrn, hrem l]
      by_cases hl : l = l₀
      · subst hl
        refine ⟨fun _ => .inl rfl, fun _ => ⟨mem_univ _, ?_⟩⟩
        rcases lt_or_eq_of_le (hmax n).1 with h | h
        · exact .inl h
        · exact .inr ⟨h.symm, lt_of_le_of_ne ((hmax n).2 h) (Ne.symm hnl)⟩
      · rw [if_neg hl]; simp [hl]
    rw [hset, card_insert_of_notMem]
    rw [mem_filter, hrn, hrem l₀, if_pos rfl]
    rintro ⟨_, h | ⟨h, _⟩⟩
    · exact absurd h not_lt_bot
    · exact hn h.symm

/-- Three rounds choose exactly the entries with fewer than three before them. -/
theorem hit_iff (big : EReal) (hbig : ((128 : ℝ) : EReal) ≤ big) (g : Fin 128 → EReal) (n : Fin 128) (hn : g n ≠ ⊥) :
    (((n.val : ℝ) : EReal) = top big g ∨ ((n.val : ℝ) : EReal) = top big (rem big g)
      ∨ ((n.val : ℝ) : EReal) = top big (rem big (rem big g))) ↔ cntE g n < 3 := by
  rcases cnt_step big hbig g n hn with ⟨h, hc⟩ | ⟨h, hc, hn1⟩
  · simp [h, hc]
  rcases cnt_step big hbig _ n hn1 with ⟨h1, hc1⟩ | ⟨h1, hc1, hn2⟩
  · rw [hc, hc1]; simp [h1]
  rcases cnt_step big hbig _ n hn2 with ⟨h2, hc2⟩ | ⟨h2, hc2, _⟩
  · rw [hc, hc1, hc2]; simp [h2]
  · rw [hc, hc1, hc2]
    exact iff_of_false (fun hh => hh.elim h (·.elim h1 h2)) (by omega)

/-! ## Exponentials against a running maximum -/

theorem coe_sum {ι : Type*} (s : Finset ι) (f : ι → ℝ) : ∑ i ∈ s, ((f i : ℝ) : EReal) = ((∑ i ∈ s, f i : ℝ) : EReal) := by
  classical
  induction s using Finset.induction with
  | empty => simp
  | insert a s ha ih => rw [sum_insert ha, sum_insert ha, ih, EReal.coe_add]

theorem exp_coe (x : ℝ) : Ideal.exp (x : EReal) = ((Real.exp x : ℝ) : EReal) := rfl
theorem exp_bot : Ideal.exp ⊥ = 0 := rfl

theorem div_coe (x y : ℝ) (hy : y ≠ 0) : Ideal.div (x : EReal) (y : EReal) = ((x / y : ℝ) : EReal) := by
  unfold Ideal.div
  rw [if_neg (by simpa using hy), div_eq_mul_inv, EReal.coe_mul, EReal.coe_inv]

variable {ι : Type*} [Fintype ι]

open Classical in
/-- A row of scores: a real number where the position may be attended, and the least value elsewhere. -/
noncomputable def masked (ok : ι → Prop) (L : ι → ℝ) (c : ι) : EReal := if ok c then ((L c : ℝ) : EReal) else ⊥

theorem sup_real (ok : ι → Prop) (L : ι → ℝ) (h : ∃ c, ok c) :
    ∃ M : ℝ, univ.sup (masked ok L) = (M : EReal) := by
  obtain ⟨c₀, h₀⟩ := h
  obtain ⟨c, _, hc⟩ := exists_mem_eq_sup univ ⟨c₀, mem_univ c₀⟩ (masked ok L)
  have hle : masked ok L c₀ ≤ masked ok L c := hc ▸ le_sup (mem_univ c₀)
  by_cases ho : ok c
  · exact ⟨L c, by rw [hc]; simp [masked, ho]⟩
  · rw [masked, masked, if_pos h₀, if_neg ho] at hle
    exact absurd (le_bot_iff.mp hle) (EReal.coe_ne_bot _)

theorem max_real (M : ℝ) (ok : ι → Prop) (L : ι → ℝ) :
    ∃ M' : ℝ, max (M : EReal) (univ.sup (masked ok L)) = (M' : EReal) := by
  by_cases h : ∃ c, ok c
  · obtain ⟨M', h'⟩ := sup_real ok L h
    exact ⟨max M M', by rw [h']; exact (EReal.coe_strictMono.monotone.map_max).symm⟩
  · refine ⟨M, ?_⟩
    have : univ.sup (masked ok L) = ⊥ := by
      rw [Finset.sup_eq_bot_iff]
      intro c _
      exact if_neg fun ho => h ⟨c, ho⟩
    rw [this]; simp

open Classical in
theorem exp_term (ok : ι → Prop) (L : ι → ℝ) (M w : ℝ) (c : ι) :
    Ideal.exp (masked ok L c - (M : EReal)) * (w : EReal)
      = ((Real.exp (-M) * (if ok c then Real.exp (L c) * w else 0) : ℝ) : EReal) := by
  unfold masked
  split
  · rw [← EReal.coe_sub, exp_coe, ← EReal.coe_mul, sub_eq_add_neg, Real.exp_add]
    congr 1; ring
  · rw [sub_eq_add_neg, EReal.bot_add, exp_bot]; simp

open Classical in
theorem exp_sum (ok : ι → Prop) (L w : ι → ℝ) (M : ℝ) :
    ∑ c, Ideal.exp (masked ok L c - (M : EReal)) * ((w c : ℝ) : EReal)
      = ((Real.exp (-M) * ∑ c, (if ok c then Real.exp (L c) * w c else 0) : ℝ) : EReal) := by
  simp only [exp_term]
  rw [coe_sum, mul_sum]

open Classical in
/-- One step of the running sums: the old sum brought to the new maximum, the new terms taken against it. -/
theorem exp_step (ok : ι → Prop) (L w : ι → ℝ) (M M' N : ℝ) :
    Ideal.exp ((M : EReal) - (M' : EReal)) * ((Real.exp (-M) * N : ℝ) : EReal)
        + ∑ c, Ideal.exp (masked ok L c - (M' : EReal)) * ((w c : ℝ) : EReal)
      = ((Real.exp (-M') * (N + ∑ c, (if ok c then Real.exp (L c) * w c else 0)) : ℝ) : EReal) := by
  rw [exp_sum, ← EReal.coe_sub, exp_coe, ← EReal.coe_mul, ← EReal.coe_add]
  congr 1
  have : Real.exp (M - M') * Real.exp (-M) = Real.exp (-M') := by rw [← Real.exp_add]; congr 1; ring
  rw [mul_add, ← mul_assoc, this]

/-! ## A score with its block's bias folded in -/

open Classical in
theorem score (head : Fin 128 → Prop) (q k : Fin 128 → ℝ) (β : Fin 128 → EReal) (p : Fin 128) (hp : ¬ head p)
    (hβ : ∀ l, β l = 0 ∨ β l = ⊥) :
    ∑ l, (if head l then ((q l : ℝ) : EReal) else β l) * (if head l then ((k l : ℝ) : EReal) else if l = p then 1 else 0)
      = if β p = 0 then ((∑ l, (if head l then q l * k l else 0) : ℝ) : EReal) else ⊥ := by
  have hterm : ∀ l, (if head l then ((q l : ℝ) : EReal) else β l)
        * (if head l then ((k l : ℝ) : EReal) else if l = p then 1 else 0)
      = (((if head l then q l * k l else 0 : ℝ) : ℝ) : EReal) + (if l = p then β p else 0) := by
    intro l
    by_cases h : head l
    · have hlp : l ≠ p := fun e => hp (e ▸ h)
      simp [h, hlp]
    · by_cases hlp : l = p
      · subst hlp; simp [h]
      · simp [h, hlp]
  rw [sum_congr rfl fun l _ => hterm l, sum_add_distrib, coe_sum, sum_ite_eq' univ p]
  simp only [mem_univ, if_true]
  rcases hβ p with h | h
  · rw [h]; simp
  · rw [h]; simp

theorem head_sum (hd : ℕ) (hh : hd < 2) (f : ℕ → ℝ) :
    ∑ l : Fin 128, (if 64 * hd ≤ l.val ∧ l.val < 64 * hd + 64 then f l.val else 0) = ∑ d ∈ range 64, f (64 * hd + d) := by
  rw [Fin.sum_univ_eq_sum_range (fun l => if 64 * hd ≤ l ∧ l < 64 * hd + 64 then f l else 0) 128,
    show (128 : ℕ) = 64 + 64 from rfl, sum_range_add]
  have h2 : hd = 0 ∨ hd = 1 := by omega
  rcases h2 with h | h <;> subst h
  · rw [sum_congr rfl (g := fun d => f (64 * 0 + d)), add_eq_left]
    · exact sum_eq_zero fun x hx => by rw [if_neg]; omega
    · intro x hx; rw [mem_range] at hx; rw [if_pos (by omega)]; congr 1; omega
  · rw [sum_eq_zero, zero_add]
    · refine sum_congr rfl fun x hx => ?_
      rw [mem_range] at hx; rw [if_pos (by omega)]
    · intro x hx; rw [mem_range] at hx; rw [if_neg]; omega

/-! ## The attention of one row -/

/-- Position `t` lies in an earlier block than row block `i`, and one of the three chosen. -/
def past (g : ℕ → ℝ) (i t : ℕ) : Prop := t / 256 < i ∧ cnt g i (t / 256) < 3

/-- Row `s` may attend position `t`: in a chosen earlier block, or in its own block no later than itself. -/
def okAt (g : ℕ → ℝ) (s t : ℕ) : Prop := past g (s / 256) t ∨ (t / 256 = s / 256 ∧ t ≤ s)

open Classical in
/-- The sum over the positions row `s` may attend of the score's exponential times `w`. -/
noncomputable def gather (L g w : ℕ → ℝ) (s : ℕ) : ℝ :=
  ∑ t ∈ range 8192, if okAt g s t then Real.exp (L t) * w t else 0

/-- Row `s` of the attention, for scores `L`, block scores `g` and values `w`. -/
noncomputable def att (L g w : ℕ → ℝ) (s : ℕ) : ℝ := gather L g w s / gather L g (fun _ => 1) s

theorem gather_pos (L g : ℕ → ℝ) (s : ℕ) (hs : s < 8192) : 0 < gather L g (fun _ => 1) s := by
  classical
  refine sum_pos' (fun t _ => ?_) ⟨s, mem_range.mpr hs, ?_⟩
  · split
    · simpa using (Real.exp_pos _).le
    · exact le_rfl
  · rw [if_pos (.inr ⟨rfl, le_rfl⟩)]; simpa using Real.exp_pos _

open Classical in
/-- What row `r` of row block `i` has gathered after `j` steps of 1024 positions: its own block's share, and the
    chosen earlier blocks' among the first `1024 j` positions. -/
noncomputable def part (L g w : ℕ → ℝ) (i r j : ℕ) : ℝ :=
  (∑ c : Fin 256, if c.val ≤ r then Real.exp (L (256 * i + c.val)) * w (256 * i + c.val) else 0)
    + ∑ t ∈ range (1024 * j), if past g i t then Real.exp (L t) * w t else 0

open Classical in
theorem part_succ (L g w : ℕ → ℝ) (i r j : ℕ) :
    part L g w i r (j + 1) = part L g w i r j
      + ∑ c : Fin 1024, (if past g i (1024 * j + c.val) then Real.exp (L (1024 * j + c.val)) * w (1024 * j + c.val) else 0) := by
  unfold part
  rw [show 1024 * (j + 1) = 1024 * j + 1024 by ring, sum_range_add, add_assoc,
    Fin.sum_univ_eq_sum_range (fun c => if past g i (1024 * j + c) then Real.exp (L (1024 * j + c)) * w (1024 * j + c) else 0) 1024]

theorem part_end (L g w : ℕ → ℝ) (i r j : ℕ) (hi : i < 32) (hr : r < 256) (hj : i ≤ 4 * j) (hj' : j ≤ 8) :
    part L g w i r j = gather L g w (256 * i + r) := by
  classical
  have hs : (256 * i + r) / 256 = i := by omega
  unfold part gather
  have hsplit : ∀ t, (if okAt g (256 * i + r) t then Real.exp (L t) * w t else 0)
      = (if t / 256 = i ∧ t ≤ 256 * i + r then Real.exp (L t) * w t else 0)
        + (if past g i t then Real.exp (L t) * w t else 0) := by
    intro t
    unfold okAt
    rw [hs]
    by_cases hp : past g i t
    · have : ¬ (t / 256 = i ∧ t ≤ 256 * i + r) := fun h => absurd hp.1 (by omega)
      simp [hp, this]
    · simp [hp]
  rw [sum_congr rfl fun t _ => hsplit t, sum_add_distrib]
  have h8 : range 8192 = range ((256 * i + 256) + (8192 - (256 * i + 256))) := congrArg range (by omega)
  have h9 : range 8192 = range (1024 * j + (8192 - 1024 * j)) := congrArg range (by omega)
  refine congrArg₂ (· + ·) ?_ ?_
  · rw [Fin.sum_univ_eq_sum_range (fun c => if c ≤ r then Real.exp (L (256 * i + c)) * w (256 * i + c) else 0) 256,
      h8, sum_range_add, sum_range_add]
    rw [sum_eq_zero (s := range (256 * i)), zero_add,
      sum_eq_zero (s := range (8192 - (256 * i + 256))), add_zero]
    · refine sum_congr rfl fun c hc => ?_
      rw [mem_range] at hc
      refine if_congr ?_ rfl rfl
      constructor
      · intro h; exact ⟨by omega, by omega⟩
      · intro h; omega
    · intro x hx; rw [if_neg]; omega
    · intro x hx; rw [mem_range] at hx; rw [if_neg]; omega
  · rw [h9, sum_range_add]
    rw [sum_eq_zero (s := range (8192 - 1024 * j)), add_zero]
    intro x hx
    rw [if_neg]
    rintro ⟨h, _⟩
    omega

end Cert.Proof.Math
-- ==== Proof.Sort.lean ====
module

public import proofs.«01_k».proof.Proof.Math
public import Idealize.ShloMosaic.Lib.SortPrefix

@[expose] public section

/-!
The three greatest entries a stable descending sort puts first are the entries with fewer than three before
them, an entry being before another when it is greater, or equal and at a lower position.
-/

namespace Cert.Proof.Math

open Finset Idealize.ShloMosaic

/-- Two relations that agree on every pair in list order sort the list alike. -/
theorem stableSort_congr {ι : Type} (R R' : ι → ι → Bool) : ∀ l : List ι, (l.Pairwise fun a b => R b a = R' b a) → stableSort R l = stableSort R' l
  | [], _ => rfl
  | a :: l, h => by
    rw [List.pairwise_cons] at h
    unfold stableSort
    rw [stableSort_congr R R' l h.2]
    exact insertBefore_congr R R' a _ fun b hb => h.1 b ((perm_stableSort R' l).mem_iff.mp hb)

/-- Greater first. -/
noncomputable def gtB (a b : EReal) : Bool := @decide (b < a) (Classical.dec _)

theorem gtB_iff (a b : EReal) : gtB a b = true ↔ b < a := by unfold gtB; simp

open Classical in
/-- Greater first, and of equal entries the earlier. -/
noncomputable def firstB {n : ℕ} (g : Fin n → EReal) (k k' : Fin n) : Bool := gtB (g k) (g k') || (decide (g k = g k') && decide (k < k'))

theorem firstB_iff {n : ℕ} (g : Fin n → EReal) (k k' : Fin n) : firstB g k k' = true ↔ g k' < g k ∨ (g k = g k' ∧ k < k') := by
  unfold firstB
  simp [gtB_iff]

theorem firstB_total {n : ℕ} (g : Fin n → EReal) : StrictTotalBefore (firstB g) := by
  classical
  refine StrictTotalBefore.of_key_then_position gtB g (fun a => ?_) (fun a b c h h' => ?_) (fun a b => ?_)
  · exact Bool.eq_false_iff.mpr fun h => lt_irrefl _ ((gtB_iff a a).mp h)
  · exact (gtB_iff a c).mpr (((gtB_iff b c).mp h').trans ((gtB_iff a b).mp h))
  · rcases lt_trichotomy a b with h | h | h
    · exact .inr (.inr ((gtB_iff b a).mpr h))
    · exact .inr (.inl h)
    · exact .inl ((gtB_iff a b).mpr h)

theorem sortedFrom_firstB {n : ℕ} (g : Fin n → EReal) (B : Fin n → Fin n → Bool) (hB : ∀ k k', B k k' = true ↔ g k' < g k) :
    sortedFrom B = sortedFrom (firstB g) := by
  have e : stableSort B (List.finRange n) = stableSort (firstB g) (List.finRange n) := by
    refine stableSort_congr _ _ _ ((List.pairwise_lt_finRange n).imp fun {a b} hab => ?_)
    rw [Bool.eq_iff_iff, hB, firstB_iff]
    exact ⟨.inl, fun h => h.elim id fun h => absurd h.2 (not_lt.mpr hab.le)⟩
  funext k
  unfold sortedFrom sortPositions
  simp only [List.get_eq_getElem, Fin.val_cast]
  congr 1

theorem sortedFrom_iff {n : ℕ} {B : Fin n → Fin n → Bool} (hB : StrictTotalBefore B) (i j : Fin n) :
    B (sortedFrom B i) (sortedFrom B j) = true ↔ i < j := by
  have hlt : ∀ i j, i < j → B (sortedFrom B j) (sortedFrom B i) = false := fun i j h =>
    sortedFrom_noInversion B B (fun a b h => hB.asymm a b h) (fun _ _ h => h) hB.negTrans i j h
  constructor
  · intro h
    by_contra hn
    rcases lt_or_eq_of_le (not_lt.mp hn) with h' | h'
    · rw [hlt j i h'] at h; exact absurd h (by decide)
    · rw [h', hB.irrefl] at h; exact absurd h (by decide)
  · intro h
    rcases hB.total _ _ (fun e => h.ne (sortedFrom_injective B e)) with h' | h'
    · exact h'
    · rw [hlt i j h] at h'; exact absurd h' (by decide)

theorem cntE_sortedFrom {n : ℕ} (g : Fin n → EReal) (j : Fin n) : cntE g (sortedFrom (firstB g) j) = j.val := by
  have hset : (univ.filter fun p : Fin n => g (sortedFrom (firstB g) j) < g p ∨ (g p = g (sortedFrom (firstB g) j) ∧ p < sortedFrom (firstB g) j))
      = (Iio j).map ⟨sortedFrom (firstB g), sortedFrom_injective _⟩ := by
    ext p
    obtain ⟨i, rfl⟩ := sortedFrom_surjective (firstB g) p
    rw [mem_filter, ← firstB_iff, sortedFrom_iff (firstB_total g)]
    simp [(sortedFrom_injective (firstB g)).eq_iff]
  unfold cntE
  rw [hset, card_map, Fin.card_Iio]

/-- The first three positions of the sort. -/
theorem top_three {n : ℕ} (g : Fin n → EReal) (B : Fin n → Fin n → Bool) (hB : ∀ k k', B k k' = true ↔ g k' < g k) (p : Fin n) :
    (∃ j : Fin n, j.val < 3 ∧ sortedFrom B j = p) ↔ cntE g p < 3 := by
  rw [sortedFrom_firstB g B hB]
  constructor
  · rintro ⟨j, hj, rfl⟩
    rw [cntE_sortedFrom]; exact hj
  · intro h
    obtain ⟨j, rfl⟩ := sortedFrom_surjective (firstB g) p
    rw [cntE_sortedFrom] at h
    exact ⟨j, h, rfl⟩

end Cert.Proof.Math
-- ==== Proof.KernelIdeal.Rows.lean ====
/- The steps of `KernelIdeal`'s tile read one element at a time, on the extended reals. -/
module

public import proofs.«01_k».proof.Proof.Gen.KernelIdeal
public import proofs.«01_k».proof.Proof.Gen.KernelIdeal.Skeleton
public import proofs.«01_k».proof.Proof.KernelIdeal.Keys
public import proofs.«01_k».proof.Proof.Math
public import Idealize.ShloMosaic.Lib.Tactic
public import Idealize.ShloMosaic.Lib.Pipeline.ValueKit
public import Idealize.ShloMosaic.Lib.Pointwise
public import Idealize.ShloMosaic.Lib.KernelVsHost
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Math

/-! ## Constants -/

theorem c_one : Ideal.ofBits .f32 0x3F800000#32 = 1 := by
  simp [Ideal.ofBits, Ideal.ieee, -EReal.coe_mul]; norm_num
theorem c_one16 : Ideal.ofBits .bf16 0x3F80#16 = 1 := by
  simp [Ideal.ofBits, Ideal.ieee, -EReal.coe_mul]; norm_num
theorem c_zero : Ideal.ofBits .f32 0x00000000#32 = 0 := by simp [Ideal.ofBits, Ideal.ieee]
theorem c_zero16 : Ideal.ofBits .bf16 0x0000#16 = 0 := by simp [Ideal.ofBits, Ideal.ieee]
theorem c_top : Ideal.ofBits .f32 0x7F800000#32 = ⊤ := by simp [Ideal.ofBits, Ideal.ieee]
theorem c_bot : Ideal.ofBits .f32 0xFF800000#32 = ⊥ := by simp [Ideal.ofBits, Ideal.ieee]
theorem c_big : Ideal.ofBits .f32 0x4E6E6B28#32 = ((1000000000 : ℝ) : EReal) := by
  simp [Ideal.ofBits, Ideal.ieee, -EReal.coe_mul]; norm_num
theorem n_mask : Named.named (F := Ideal) (φ := .f32) Cert.KernelIdeal.κ "mask" 0xF149F2CA#32 = (⊥ : EReal) :=
  IdealRules.named_const.ideal_named_scalar _ _ _ _ rfl
theorem n_removed : Named.named (F := Ideal) (φ := .f32) Cert.KernelIdeal.κ "removed" 0xFF61B1E6#32 = (⊥ : EReal) :=
  IdealRules.named_const.ideal_named_scalar _ _ _ _ rfl

/-- The number that marks "no position". -/
abbrev big : EReal := ((1000000000 : ℝ) : EReal)
theorem big_le : ((128 : ℝ) : EReal) ≤ big := EReal.coe_le_coe_iff.mpr (by norm_num)

/-! ## Bits -/

theorem sel_ofBool {α : Type} (b : Bool) (x y : α) : Scalar.select (BitVec.ofBool b) x y = if b then x else y := by
  cases b <;> rfl
theorem andi_ofBool (a b : Bool) : IntOp.andi (BitVec.ofBool a) (BitVec.ofBool b) = BitVec.ofBool (a && b) := by
  cases a <;> cases b <;> rfl
theorem cmp_oeq (x y : EReal) : Ideal.cmp .oeq x y = BitVec.ofBool (decide (x = y)) := rfl

/-- The lanes of head `hd`. -/
abbrev headp (hd : ℕ) (l : Fin 128) : Prop := 64 * hd ≤ l.val ∧ l.val < 64 * hd + 64
/-- The first of the lanes that carry head `hd`'s block numbers: they lie in the other head's half. -/
abbrev off (hd : ℕ) : ℕ := 64 - 64 * hd

/-- The lane numbers. -/
abbrev laneIota : IVec S1x128 32 := iota .tc S1x128 32 [1] iota_S1x128_d1_w32

theorem head0 (l : Fin 128) : k0_pay68 (ix2 0 l) = BitVec.ofBool (decide (headp 0 l)) := by
  revert l; decide +kernel
theorem head1 (l : Fin 128) : k0_pay72 (ix2 0 l) = BitVec.ofBool (decide (headp 1 l)) := by
  revert l; decide +kernel
theorem inBias0 (l : Fin 128) : k0_pay27 laneIota (ix2 0 l) = BitVec.ofBool (decide (off 0 ≤ l.val ∧ l.val < off 0 + 32)) := by
  revert l; decide +kernel
theorem inBias1 (l : Fin 128) : k0_pay44 laneIota (ix2 0 l) = BitVec.ofBool (decide (off 1 ≤ l.val ∧ l.val < off 1 + 32)) := by
  revert l; decide +kernel
theorem valid0 (k : Fin k0_t2_loop.trips) (l : Fin 128) : k0_pay28 laneIota 0#32 1#32 k (ix2 0 l)
    = BitVec.ofBool (decide (off 0 ≤ l.val ∧ l.val < off 0 + k.val)) := by
  revert k l; decide +kernel
theorem valid1 (k : Fin k0_t2_loop.trips) (l : Fin 128) : k0_pay45 laneIota (Scf.iv 0#32 1#32 k) (ix2 0 l)
    = BitVec.ofBool (decide (off 1 ≤ l.val ∧ l.val < off 1 + k.val)) := by
  revert k l; decide +kernel
theorem trips2 : k0_t2_loop.trips = 32 := by decide +kernel

theorem toInt_small (n : ℕ) (h : n < 2147483648) : (BitVec.ofNat 32 n).toInt = n := by
  rw [BitVec.toInt_eq_toNat_of_lt] <;> simp [BitVec.toNat_ofNat] <;> omega

theorem lane_apply (l : Fin 128) : k0_pay65 (F := Ideal) (ix2 0 l) = ((l.val : ℝ) : EReal) := by
  unfold k0_pay65
  show ((((iota .tc S1x128 32 [1] iota_S1x128_d1_w32 (ix2 0 l)).toInt : ℝ)) : EReal) = _
  rw [iota_single_apply, toInt_small _ (by have := l.isLt; show l.val < _; omega)]
  rfl

theorem tril_apply (r c : Fin 256) : k0_pay66 (ix2 r c) = BitVec.ofBool (decide (c.val ≤ r.val)) := by
  unfold k0_pay66
  show BitVec.ofBool ((iota .tc S256x256 32 [1] iota_S256x256_d1_w32 (ix2 r c)).sle (iota .tc S256x256 32 [0] iota_S256x256_d0_w32 (ix2 r c))) = _
  rw [iota_single_apply, iota_single_apply, BitVec.sle_eq_decide, toInt_small, toInt_small]
  · congr 1
    exact decide_eq_decide.mpr Int.ofNat_le
  · show r.val < _; omega
  · show c.val < _; omega

/-! ## One row's greatest and first-greatest -/

theorem fold_max_eq {n : ℕ} (f : Fin n → EReal) : Finset.univ.fold max ⊥ f = Finset.univ.sup f := rfl
theorem fold_min_eq {n : ℕ} (f : Fin n → EReal) : Finset.univ.fold min ⊤ f = Finset.univ.inf f := rfl

theorem rowmax128 (x : FVec Ideal S256x128 .f32) (h hφ hacc) (r : Fin 256) :
    multiReduction .maximumf [1] S256 x 0xFF800000#32 h hφ hacc (ix1 r) = Finset.univ.sup fun l : Fin 128 => x (ix2 r l) := by
  simp only [pointwise]
  rw [c_bot]; rfl
theorem rowmin128 (x : FVec Ideal S256x128 .f32) (h hφ hacc) (r : Fin 256) :
    multiReduction .minimumf [1] S256 x 0x7F800000#32 h hφ hacc (ix1 r) = Finset.univ.inf fun l : Fin 128 => x (ix2 r l) := by
  simp only [pointwise]
  rw [c_top]; rfl
theorem rowmax256 (x : FVec Ideal S256x256 .f32) (h hφ hacc) (r : Fin 256) :
    multiReduction .maximumf [1] S256 x 0xFF800000#32 h hφ hacc (ix1 r) = Finset.univ.sup fun l : Fin 256 => x (ix2 r l) := by
  simp only [pointwise]
  rw [c_bot]; rfl
theorem rowmax1024 (x : FVec Ideal S256x1024 .f32) (h hφ hacc) (r : Fin 256) :
    multiReduction .maximumf [1] S256 x 0xFF800000#32 h hφ hacc (ix1 r) = Finset.univ.sup fun l : Fin 1024 => x (ix2 r l) := by
  simp only [pointwise]
  rw [c_bot]; rfl

/-- The first position of each row's greatest entry, as one round of the choice computes it. -/
def topOf (x : FVec Ideal S256x128 .f32) : FVec Ideal S256x1 .f32 :=
  shapeCast S256x1 (multiReduction .minimumf [1] S256 (select (cmpf .oeq x (broadcastTo S256x128 (shapeCast S256x1
    (multiReduction .maximumf [1] S256 x 0xFF800000#32 reduces_S256x128_S256 (.inl rfl) rfl) shapeCasts_S256_S256x1) broadcasts_S256x1_S256x128))
    (broadcastTo S256x128 (shapeCast S1x128 (k0_pay65 (F := Ideal)) shapeCasts_S1x128_S1x128) broadcasts_S1x128_S256x128)
    (broadcast S256x128 (Scalar.ofBits (F := Ideal) .f32 0x4E6E6B28#32))) 0x7F800000#32 reduces_S256x128_S256 (.inl rfl) rfl) shapeCasts_S256_S256x1

theorem topOf_apply (x : FVec Ideal S256x128 .f32) (r : Fin 256) :
    topOf x (ix2 r 0) = top big fun l => x (ix2 r l) := by
  unfold topOf
  simp only [pointwise]
  rw [c_top]
  refine Finset.inf_congr rfl fun l _ => ?_
  simp only [c_bot, c_big, cmp_oeq, sel_ofBool, fold_max_eq, decide_eq_true_eq]
  show (if x (ix2 r l) = Finset.univ.sup (fun k => x (ix2 r k)) then k0_pay65 (F := Ideal) (ix2 0 l) else _) = _
  rw [lane_apply]

/-- Each row with its first greatest entry struck out. -/
def remOf (x : FVec Ideal S256x128 .f32) : FVec Ideal S256x128 .f32 :=
  select (cmpf .oeq (broadcastTo S256x128 (k0_pay65 (F := Ideal)) broadcasts_S1x128_S256x128) (broadcastTo S256x128 (topOf x) broadcasts_S256x1_S256x128))
    (broadcast S256x128 (Named.named (F := Ideal) (φ := .f32) Cert.KernelIdeal.κ "removed" 0xFF61B1E6#32)) x

theorem andi_at {s : Shape} (a b : IVec s 1) (i : s.Idx) : andi a b i = IntOp.andi (a i) (b i) := rfl
theorem ofBits_at {φ : FTy} (b : BitVec φ.bits) : Scalar.ofBits (F := Ideal) φ b = Ideal.ofBits φ b := rfl
theorem cmpf_at {φ : FTy} (a b : Ideal φ) : FloatOps.cmpf .oeq a b = BitVec.ofBool (decide ((a : EReal) = b)) := rfl

theorem bcol {α : Type} (v : S256x1.Idx → α) (h : S256x1.Broadcasts S256x128) (r : Fin 256) (l : Fin 128) :
    broadcastTo S256x128 v h (ix2 r l) = v (ix2 r 0) := by
  simp only [pointwise]
  rfl
theorem bcol1024 {α : Type} (v : S256x1.Idx → α) (h : S256x1.Broadcasts S256x1024) (r : Fin 256) (l : Fin 1024) :
    broadcastTo S256x1024 v h (ix2 r l) = v (ix2 r 0) := by
  simp only [pointwise]
  rfl
theorem bcol256 {α : Type} (v : S256x1.Idx → α) (h : S256x1.Broadcasts S256x256) (r : Fin 256) (l : Fin 256) :
    broadcastTo S256x256 v h (ix2 r l) = v (ix2 r 0) := by
  simp only [pointwise]
  rfl
theorem brow {α : Type} (v : S1x128.Idx → α) (h : S1x128.Broadcasts S256x128) (r : Fin 256) (l : Fin 128) :
    broadcastTo S256x128 v h (ix2 r l) = v (ix2 0 l) := by
  simp only [pointwise]
  rfl
theorem cself {s : Shape} {α : Type} (v : s.Idx → α) (h : s.ShapeCasts s) : shapeCast s v h = v := shapeCast_self v h
theorem ccol {α : Type} (v : S256.Idx → α) (h : S256.ShapeCasts S256x1) (r : Fin 256) : shapeCast S256x1 v h (ix2 r 0) = v (ix1 r) := by
  simp only [pointwise]
theorem cdrop {α : Type} (v : S1x256x128.Idx → α) (h : S1x256x128.ShapeCasts S256x128) (r : Fin 256) (l : Fin 128) :
    shapeCast S256x128 v h (ix2 r l) = v (ix3 0 r l) := by
  simp only [pointwise]
theorem cdrop1024 {α : Type} (v : S1x1024x128.Idx → α) (h : S1x1024x128.ShapeCasts S1024x128) (r : Fin 1024) (l : Fin 128) :
    shapeCast S1024x128 v h (ix2 r l) = v (ix3 0 r l) := by
  simp only [pointwise]
theorem cadd {α : Type} (v : S256x128.Idx → α) (h : S256x128.ShapeCasts S1x256x128) (r : Fin 256) (l : Fin 128) :
    shapeCast S1x256x128 v h (ix3 0 r l) = v (ix2 r l) := by
  simp only [pointwise]

theorem remOf_apply (x : FVec Ideal S256x128 .f32) (r : Fin 256) (l : Fin 128) :
    remOf x (ix2 r l) = rem big (fun l => x (ix2 r l)) l := by
  unfold remOf
  rw [ValueIdx.select_apply, ValueIdx.cmpf_apply, ValueIdx.broadcast_apply, brow, bcol, lane_apply, topOf_apply, cmpf_at, sel_ofBool, n_removed]
  simp only [decide_eq_true_eq]
  rfl

theorem remOf_row (x : FVec Ideal S256x128 .f32) (r : Fin 256) :
    (fun l => remOf x (ix2 r l)) = rem big fun l => x (ix2 r l) := funext fun l => remOf_apply x r l

/-! ## The queries beside the biases -/

/-- The bias of lane `l`: the least value on the lane of a block that the row may not attend, zero on every other lane. -/
def bias (hd i : ℕ) (sc : ℕ → ℝ) (l : Fin 128) : EReal :=
  open Classical in
  if (off hd ≤ l.val ∧ l.val < off hd + 32) ∧ ¬ (l.val < off hd + i ∧ cnt sc i (l.val - off hd) < 3) then ⊥ else 0

/-- The block scores of a head with the invalid lanes masked. -/
abbrev gateOf (vval : IVec S1x128 1) (v175 : FVec Ideal S256x128 .f32) : FVec Ideal S256x128 .f32 := k0_pay47 (F := Ideal) vval v175

theorem gateOf_apply (vval : IVec S1x128 1) (v175 : FVec Ideal S256x128 .f32) (r : Fin 256) (l : Fin 128) (b : Bool)
    (hb : vval (ix2 0 l) = BitVec.ofBool b) : gateOf vval v175 (ix2 r l) = if b then v175 (ix2 r l) else ⊥ := by
  unfold gateOf k0_pay47
  rw [ValueIdx.select_apply, ValueIdx.broadcast_apply, brow, cself, hb, sel_ofBool, n_mask]

/-- Either head's queries beside its biases. -/
abbrev augOf (hv vin vval : IVec S1x128 1) (v175 : FVec Ideal S256x128 .f32) (q : FVec Ideal S256x128 .bf16) : FVec Ideal S256x128 .bf16 :=
  k0_pay55 (F := Ideal) k0_pay65 hv q vin vval k0_pay48 (k0_pay51 k0_pay65 vval v175) (k0_pay52 k0_pay65 vval v175) (k0_pay53 k0_pay65) (k0_pay54 k0_pay65 vval v175)

theorem aug0_eq (v11 : IVec S1x128 1) (v19 v22 : FVec Ideal S128x128 .bf16) (k : Fin k0_t2_loop.trips) (v43 : Vec Ideal S1x256x128 .bf16) :
    aug0 laneIota k0_pay65 v11 v19 v22 0#32 k v43
      = augOf v11 (k0_pay27 laneIota) (k0_pay28 laneIota 0#32 1#32 k) (k0_pay46 v11 v19 v22 (k0_pay22 v43)) (k0_pay22 v43) := rfl
theorem aug1_eq (v27 : IVec S1x128 1) (v34 v37 : FVec Ideal S128x128 .bf16) (k : Fin k0_t2_loop.trips) (v43 : Vec Ideal S1x256x128 .bf16) :
    aug1 laneIota k0_pay65 v27 v34 v37 0#32 k v43
      = augOf v27 (k0_pay44 laneIota) (k0_pay45 laneIota (Scf.iv 0#32 1#32 k)) (k0_pay46 v27 v34 v37 (k0_pay22 v43)) (k0_pay22 v43) := rfl
theorem pay49_eq (vval : IVec S1x128 1) (v175 : FVec Ideal S256x128 .f32) : k0_pay49 k0_pay65 vval v175 = topOf (gateOf vval v175) := rfl
theorem pay51_eq (vval : IVec S1x128 1) (v175 : FVec Ideal S256x128 .f32) : k0_pay51 k0_pay65 vval v175 = topOf (remOf (gateOf vval v175)) := rfl
theorem pay52_eq (vval : IVec S1x128 1) (v175 : FVec Ideal S256x128 .f32) : k0_pay52 k0_pay65 vval v175 = topOf (remOf (remOf (gateOf vval v175))) := rfl

theorem ite_one_zero {p : Prop} [Decidable p] : ((if p then (1 : EReal) else 0) = 0) ↔ ¬ p := by
  by_cases h : p <;> simp [h]

theorem augOf_apply (hd i : ℕ) (hi : i ≤ 32) (hh : hd < 2) (hv vin vval : IVec S1x128 1) (v175 : FVec Ideal S256x128 .f32) (q : FVec Ideal S256x128 .bf16)
    (hhv : ∀ l : Fin 128, hv (ix2 0 l) = BitVec.ofBool (decide (headp hd l)))
    (hin : ∀ l : Fin 128, vin (ix2 0 l) = BitVec.ofBool (decide (off hd ≤ l.val ∧ l.val < off hd + 32)))
    (hval : ∀ l : Fin 128, vval (ix2 0 l) = BitVec.ofBool (decide (off hd ≤ l.val ∧ l.val < off hd + i)))
    (r : Fin 256) (sc : ℕ → ℝ) (hsc : ∀ l : Fin 128, off hd ≤ l.val → l.val < off hd + i → v175 (ix2 r l) = ((sc (l.val - off hd) : ℝ) : EReal))
    (l : Fin 128) :
    augOf hv vin vval v175 q (ix2 r l) = if headp hd l then q (ix2 r l) else bias hd i sc l := by
  classical
  have hg : ∀ l : Fin 128, gateOf vval v175 (ix2 r l)
      = if off hd ≤ l.val ∧ l.val < off hd + i then ((sc (l.val - off hd) : ℝ) : EReal) else ⊥ := fun l => by
    rw [gateOf_apply _ _ r l _ (hval l)]
    by_cases h : off hd ≤ l.val ∧ l.val < off hd + i
    · simp only [h, decide_true, if_true]; exact hsc l h.1 h.2
    · simp only [h, decide_false, if_false]; rfl
  unfold augOf k0_pay55 k0_pay53 k0_pay54 k0_pay48
  simp only [pay49_eq, pay51_eq, pay52_eq, cself, ValueIdx.select_apply, ValueIdx.cmpf_apply, ValueIdx.broadcast_apply, ValueIdx.truncf_apply, andi_at, ofBits_at, brow, bcol, hhv, hin, hval, lane_apply, topOf_apply, remOf_row, cmpf_at, andi_ofBool, sel_ofBool, c_one, c_zero, n_mask,
    Bool.and_eq_true, decide_eq_true_eq]
  refine if_congr Iff.rfl rfl ?_
  unfold bias
  refine if_congr (and_congr_right fun hl => ?_) rfl rfl
  by_cases hva : off hd ≤ l.val ∧ l.val < off hd + i
  · have hne : (fun l => gateOf vval v175 (ix2 r l)) l ≠ ⊥ := by
      show gateOf vval v175 (ix2 r l) ≠ ⊥
      rw [hg, if_pos hva]; exact EReal.coe_ne_bot _
    have hhit := hit_iff big big_le (fun l => gateOf vval v175 (ix2 r l)) l hne
    have hcnt := cntE_eq (fun l => gateOf vval v175 (ix2 r l)) sc (off hd) i (by have : off hd ≤ 64 := Nat.sub_le _ _; omega) hg (l.val - off hd) (by omega)
    have hle : (⟨off hd + (l.val - off hd), by omega⟩ : Fin 128) = l := Fin.ext (by simp; omega)
    rw [hle] at hcnt
    rw [hcnt] at hhit
    rw [← hhit]
    simp only [hva, and_true, true_and]
    generalize top big _ = a
    generalize top big _ = b
    generalize top big _ = c
    generalize ((l.val : ℝ) : EReal) = x
    split_ifs <;> simp_all
  · have : ¬ (l.val < off hd + i) := fun h => hva ⟨hl.1, h⟩
    simp [hva, this]

end Cert.Proof.KernelIdeal
-- ==== Proof.KernelIdeal.Steps.lean ====
/- One row's way through a tile of `KernelIdeal`, on the extended reals: the block scores, the own block, and a step over
   1024 keys. -/
module

public import proofs.«01_k».proof.Proof.KernelIdeal.Rows

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Math Finset

/-! ## The block scores -/

theorem mean0_apply (x5 : Vec Ideal S1x32x1x128 .f32) (km : ℕ → ℕ → ℝ)
    (h : ∀ (n : Fin 32) (d : Fin 128), x5 (ix4 0 n 0 d) = ((km n.val d.val : ℝ) : EReal)) (l d : Fin 128) (h1 : off 0 ≤ l.val) (h2 : l.val < off 0 + 32) :
    k0_pay69 x5 (ix2 l d) = if headp 0 d then ((km (l.val - off 0) d.val : ℝ) : EReal) else 0 := by
  have h1' : 64 ≤ l.val := h1
  have h2' : l.val < 96 := h2
  unfold k0_pay69 k0_pay67
  simp only [pointwise]
  rw [dif_neg (by omega)]
  refine (dif_pos (show l.val - 64 < 32 by omega)).trans ?_
  show Scalar.select (k0_pay68 (ix2 0 d)) (x5 (ix4 0 ⟨l.val - 64, _⟩ 0 d)) _ = _
  rw [head0, sel_ofBool, h]
  simp only [decide_eq_true_eq, c_zero]

theorem mean1_apply (x5 : Vec Ideal S1x32x1x128 .f32) (km : ℕ → ℕ → ℝ)
    (h : ∀ (n : Fin 32) (d : Fin 128), x5 (ix4 0 n 0 d) = ((km n.val d.val : ℝ) : EReal)) (l d : Fin 128) (h1 : off 1 ≤ l.val) (h2 : l.val < off 1 + 32) :
    k0_pay73 x5 (ix2 l d) = if headp 1 d then ((km (l.val - off 1) d.val : ℝ) : EReal) else 0 := by
  have h2' : l.val < 32 := h2
  unfold k0_pay73 k0_pay67
  simp only [pointwise]
  rw [dif_pos (show l.val < 32 by omega)]
  show Scalar.select (k0_pay72 (ix2 0 d)) (x5 (ix4 0 ⟨l.val, _⟩ 0 d)) _ = _
  rw [head1, sel_ofBool, h]
  simp only [decide_eq_true_eq, c_zero]
  rfl

theorem low0_apply (x5 : Vec Ideal S1x32x1x128 .f32) (j : S128x128.Idx) : k0_pay71 x5 j = k0_pay69 x5 j - k0_pay69 x5 j := rfl
theorem low1_apply (x5 : Vec Ideal S1x32x1x128 .f32) (j : S128x128.Idx) : k0_pay75 x5 j = k0_pay73 x5 j - k0_pay73 x5 j := rfl
theorem high0_apply (x5 : Vec Ideal S1x32x1x128 .f32) (j : S128x128.Idx) : k0_pay70 x5 j = k0_pay69 x5 j := rfl
theorem high1_apply (x5 : Vec Ideal S1x32x1x128 .f32) (j : S128x128.Idx) : k0_pay74 x5 j = k0_pay73 x5 j := rfl

theorem coe_ite {p : Prop} [Decidable p] (x : ℝ) : (if p then ((x : ℝ) : EReal) else 0) = (((if p then x else 0) : ℝ) : EReal) := by
  split <;> simp

theorem headQ_apply (hd : ℕ) (hv : IVec S1x128 1) (hhv : ∀ l : Fin 128, hv (ix2 0 l) = BitVec.ofBool (decide (headp hd l)))
    (q : FVec Ideal S256x128 .bf16) (r : Fin 256) (l : Fin 128) :
    k0_pay42 (F := Ideal) hv q (ix2 r l) = if headp hd l then q (ix2 r l) else 0 := by
  unfold k0_pay42
  simp only [ValueIdx.select_apply, ValueIdx.broadcast_apply, ofBits_at, cself, brow, hhv, sel_ofBool, decide_eq_true_eq, c_zero16]

/-- The scalar product of two rows over a head's lanes. -/
def dotH (hd : ℕ) (a b : ℕ → ℝ) : ℝ := ∑ d ∈ range 64, a (64 * hd + d) * b (64 * hd + d)

theorem dot_head (hd : ℕ) (hh : hd < 2) (a b : ℕ → ℝ) :
    ∑ l : Fin 128, (if headp hd l then ((a l.val : ℝ) : EReal) else 0) * (if headp hd l then ((b l.val : ℝ) : EReal) else 0) = ((dotH hd a b : ℝ) : EReal) := by
  unfold dotH
  rw [← head_sum hd hh (fun l => a l * b l), ← coe_sum]
  refine sum_congr rfl fun l _ => ?_
  by_cases h : headp hd l
  · rw [if_pos h, if_pos h, if_pos h, EReal.coe_mul]
  · rw [if_neg h, if_neg h, if_neg h]; simp

theorem gate_val (hd : ℕ) (hh : hd < 2) (hv : IVec S1x128 1) (hhv : ∀ l : Fin 128, hv (ix2 0 l) = BitVec.ofBool (decide (headp hd l)))
    (hi lo : FVec Ideal S128x128 .bf16) (q : FVec Ideal S256x128 .bf16) (r : Fin 256) (l : Fin 128) (qr kr : ℕ → ℝ)
    (hq : ∀ d : Fin 128, q (ix2 r d) = ((qr d.val : ℝ) : EReal)) (hk : ∀ d : Fin 128, hi (ix2 l d) = if headp hd d then ((kr d.val : ℝ) : EReal) else 0)
    (hl : ∀ d : Fin 128, lo (ix2 l d) = 0) :
    k0_pay46 hv hi lo q (ix2 r l) = ((dotH hd qr kr : ℝ) : EReal) := by
  unfold k0_pay46
  simp only [pointwise]
  simp only [headQ_apply hd hv hhv, hq, hk, hl, c_zero, mul_zero, sum_const_zero, add_zero, zero_add]
  exact dot_head hd hh qr kr

/-! ## The scores against 1024 keys -/

theorem score_apply (aug : FVec Ideal S256x128 .bf16) (kw : Vec Ideal S1x1024x128 .bf16) (r : Fin 256) (c : Fin 1024) :
    k0_pay8 aug kw (ix2 r c) = ∑ l : Fin 128, aug (ix2 r l) * kw (ix3 0 c l) := by
  unfold k0_pay8
  simp only [pointwise]
  exact zero_add _

theorem pay59_eq (aug : FVec Ideal S256x128 .bf16) (kw : Vec Ideal S1x1024x128 .bf16) : k0_pay59 aug kw = k0_pay8 aug kw := by
  unfold k0_pay59 k0_pay8; exact shapeCast_self _ _
theorem pay61_eq (aug : FVec Ideal S256x128 .bf16) (kw : Vec Ideal S1x1024x128 .bf16) : k0_pay61 aug kw = k0_pay8 aug kw := by
  unfold k0_pay61 k0_pay8; exact shapeCast_self _ _

theorem bias_cases (hd i : ℕ) (sc : ℕ → ℝ) (l : Fin 128) : bias hd i sc l = 0 ∨ bias hd i sc l = ⊥ := by
  unfold bias; split
  · exact .inr rfl
  · exact .inl rfl

theorem score_val (hd i : ℕ) (hh : hd < 2) (aug : FVec Ideal S256x128 .bf16) (kw : Vec Ideal S1x1024x128 .bf16) (r : Fin 256) (c : Fin 1024)
    (qr sc : ℕ → ℝ) (k : ℕ → ℕ → ℝ) (t : ℕ) (ht : t < 8192)
    (ha : ∀ l : Fin 128, aug (ix2 r l) = if headp hd l then ((qr l.val : ℝ) : EReal) else bias hd i sc l)
    (hk : ∀ l : Fin 128, kw (ix3 0 c l) = if headp hd l then ((k t l.val : ℝ) : EReal) else if l.val = off hd + t / 256 then 1 else 0) :
    k0_pay8 aug kw (ix2 r c) = open Classical in if past sc i t then ((dotH hd qr (k t) : ℝ) : EReal) else ⊥ := by
  classical
  have h2 : hd = 0 ∨ hd = 1 := by omega
  have hp : off hd + t / 256 < 128 := by rcases h2 with h | h <;> subst h <;> simp [off] <;> omega
  rw [score_apply]
  have hs := score (headp hd) (fun l => qr l.val) (fun l => k t l.val) (bias hd i sc) ⟨off hd + t / 256, hp⟩
    (by rcases h2 with h | h <;> subst h <;> simp [off, headp] <;> omega) (bias_cases hd i sc)
  have e : ∀ l : Fin 128, aug (ix2 r l) * kw (ix3 0 c l)
      = (if headp hd l then ((qr l.val : ℝ) : EReal) else bias hd i sc l) * (if headp hd l then ((k t l.val : ℝ) : EReal) else if l = ⟨off hd + t / 256, hp⟩ then 1 else 0) := fun l => by
    rw [ha, hk]
    simp only [Fin.ext_iff]
  rw [sum_congr rfl fun l _ => e l]
  refine Eq.trans ?_ (hs.trans ?_)
  · refine sum_congr rfl fun l _ => ?_
    congr
  · have hb : bias hd i sc ⟨off hd + t / 256, hp⟩ = 0 ↔ past sc i t := by
      unfold bias past
      simp only [le_add_iff_nonneg_right, zero_le, true_and, add_lt_add_iff_left, Nat.add_sub_cancel_left]
      rw [ite_eq_right_iff]
      constructor
      · intro h; by_contra hc
        exact absurd (h ⟨by omega, hc⟩) (by simp)
      · rintro h ⟨_, h'⟩; exact absurd h h'
    rw [if_congr hb rfl rfl]
    unfold dotH
    rw [← head_sum hd hh (fun l => qr l * k t l)]
    split
    · exact congrArg _ (sum_congr rfl fun l _ => by
        by_cases h : headp hd l
        · rw [if_pos h, if_pos h]
        · rw [if_neg h, if_neg h])
    · rfl

/-! ## Running maxima and sums -/

/-- A head's values beside ones. -/
def wv (hd : ℕ) (v : ℕ → ℕ → ℝ) (l : Fin 128) (t : ℕ) : ℝ := if headp hd l then v t l.val else 1

/-- What the running maximum and the accumulator hold after `j` steps, for row block `i`. -/
def Holds (hd i j : ℕ) (L : Fin 256 → ℕ → ℝ) (sc : Fin 256 → ℕ → ℝ) (v : ℕ → ℕ → ℝ) (m : FVec Ideal S256x1 .f32) (a : FVec Ideal S256x128 .f32) : Prop :=
  ∀ r : Fin 256, ∃ M : ℝ, m (ix2 r 0) = (M : EReal) ∧ ∀ l : Fin 128, a (ix2 r l) = ((Real.exp (-M) * part (L r) (sc r) (wv hd v l) i r.val j : ℝ) : EReal)

theorem pay9_apply (m : FVec Ideal S256x1 .f32) (s : FVec Ideal S256x1024 .f32) (r : Fin 256) :
    k0_pay9 m s (ix2 r 0) = max (m (ix2 r 0)) (univ.sup fun c : Fin 1024 => s (ix2 r c)) := by
  unfold k0_pay9
  rw [ValueIdx.maximumf_apply]
  exact congrArg (max (m (ix2 r 0))) ((ccol _ _ r).trans (rowmax1024 s _ _ _ r))

theorem pay10_apply (m : FVec Ideal S256x1 .f32) (a : FVec Ideal S256x128 .f32) (s : FVec Ideal S256x1024 .f32) (vw : Vec Ideal S1x1024x128 .bf16) (r : Fin 256) (l : Fin 128) :
    k0_pay10 m a s vw (ix2 r l) = Ideal.exp (m (ix2 r 0) - k0_pay9 m s (ix2 r 0)) * a (ix2 r l)
      + ∑ c : Fin 1024, Ideal.exp (s (ix2 r c) - k0_pay9 m s (ix2 r 0)) * vw (ix3 0 c l) := by
  unfold k0_pay10
  simp only [pointwise]
  exact congrArg (Ideal.exp (m (ix2 r 0) - k0_pay9 m s (ix2 r 0)) * a (ix2 r l) + ·) (zero_add _)

theorem step_holds (hd i j : ℕ) (L sc : Fin 256 → ℕ → ℝ) (v : ℕ → ℕ → ℝ) (m : FVec Ideal S256x1 .f32) (a : FVec Ideal S256x128 .f32)
    (s : FVec Ideal S256x1024 .f32) (vw : Vec Ideal S1x1024x128 .bf16)
    (hs : ∀ (r : Fin 256) (c : Fin 1024), s (ix2 r c) = masked (fun c : Fin 1024 => past (sc r) i (1024 * j + c.val)) (fun c => L r (1024 * j + c.val)) c)
    (hvw : ∀ (c : Fin 1024) (l : Fin 128), vw (ix3 0 c l) = ((wv hd v l (1024 * j + c.val) : ℝ) : EReal))
    (h : Holds hd i j L sc v m a) : Holds hd i (j + 1) L sc v (k0_pay9 m s) (k0_pay10 m a s vw) := by
  classical
  intro r
  obtain ⟨M, hM, ha⟩ := h r
  obtain ⟨M', hM'⟩ := max_real M (fun c : Fin 1024 => past (sc r) i (1024 * j + c.val)) (fun c => L r (1024 * j + c.val))
  have hm' : k0_pay9 m s (ix2 r 0) = (M' : EReal) := by
    rw [pay9_apply, hM, ← hM']
    congr 1
    exact sup_congr rfl fun c _ => hs r c
  refine ⟨M', hm', fun l => ?_⟩
  rw [pay10_apply, hm', hM, ha, sum_congr rfl fun c _ => by rw [hs r c, hvw c l]]
  rw [exp_step, part_succ]

theorem pay39_apply (v4 : IVec S256x256 1) (kk q : FVec Ideal S256x128 .bf16) (r c : Fin 256) (b : Bool) (hb : v4 (ix2 r c) = BitVec.ofBool b) :
    k0_pay39 v4 kk q (ix2 r c) = if b then ∑ l : Fin 128, q (ix2 r l) * kk (ix2 c l) else ⊥ := by
  unfold k0_pay39
  rw [ValueIdx.select_apply, ValueIdx.broadcast_apply, hb, sel_ofBool, n_mask]
  refine if_congr Iff.rfl ?_ rfl
  simp only [pointwise]
  exact zero_add _

theorem pay40_apply (v4 : IVec S256x256 1) (kk q : FVec Ideal S256x128 .bf16) (r : Fin 256) :
    k0_pay40 v4 kk q (ix2 r 0) = univ.sup fun c : Fin 256 => k0_pay39 v4 kk q (ix2 r c) := by
  unfold k0_pay40
  exact (ccol _ _ r).trans (rowmax256 _ _ _ _ r)

theorem pay41_apply (hd : ℕ) (v4 : IVec S256x256 1) (hv : IVec S1x128 1) (hhv : ∀ l : Fin 128, hv (ix2 0 l) = BitVec.ofBool (decide (headp hd l)))
    (kk vv q : FVec Ideal S256x128 .bf16) (r : Fin 256) (l : Fin 128) :
    k0_pay41 v4 hv kk vv q (ix2 r l)
      = ∑ c : Fin 256, Ideal.exp (k0_pay39 v4 kk q (ix2 r c) - k0_pay40 v4 kk q (ix2 r 0)) * (if headp hd l then vv (ix2 c l) else 1) := by
  unfold k0_pay41
  simp only [pointwise]
  refine (zero_add _).trans (sum_congr rfl fun c _ => ?_)
  refine congrArg (Ideal.exp (k0_pay39 v4 kk q (ix2 r c) - k0_pay40 v4 kk q (ix2 r 0)) * ·) ?_
  show Scalar.select (hv (ix2 0 l)) (vv (ix2 c l)) 1 = _
  rw [hhv, sel_ofBool]
  simp only [decide_eq_true_eq]

theorem diag_holds (hd i : ℕ) (hh : hd < 2) (hv : IVec S1x128 1) (hhv : ∀ l : Fin 128, hv (ix2 0 l) = BitVec.ofBool (decide (headp hd l)))
    (q kk vv : FVec Ideal S256x128 .bf16) (qr : Fin 256 → ℕ → ℝ) (k v : ℕ → ℕ → ℝ) (sc : Fin 256 → ℕ → ℝ)
    (hq : ∀ (r : Fin 256) (l : Fin 128), q (ix2 r l) = ((qr r l.val : ℝ) : EReal))
    (hk : ∀ (c : Fin 256) (l : Fin 128), kk (ix2 c l) = ((k (256 * i + c.val) l.val : ℝ) : EReal))
    (hvv : ∀ (c : Fin 256) (l : Fin 128), vv (ix2 c l) = ((v (256 * i + c.val) l.val : ℝ) : EReal)) :
    Holds hd i 0 (fun r t => dotH hd (qr r) (k t)) sc v (k0_pay40 k0_pay66 kk (k0_pay42 hv q)) (k0_pay41 k0_pay66 hv kk vv (k0_pay42 hv q)) := by
  classical
  intro r
  have hs : ∀ c : Fin 256, k0_pay39 k0_pay66 kk (k0_pay42 hv q) (ix2 r c)
      = masked (fun c : Fin 256 => c.val ≤ r.val) (fun c => dotH hd (qr r) (k (256 * i + c.val))) c := fun c => by
    rw [pay39_apply _ _ _ _ _ _ (tril_apply r c)]
    unfold masked
    simp only [decide_eq_true_eq]
    refine if_congr Iff.rfl ?_ rfl
    rw [← dot_head hd hh]
    refine sum_congr rfl fun l _ => ?_
    rw [headQ_apply hd hv hhv, hq, hk]
    by_cases h : headp hd l
    · rw [if_pos h, if_pos h]
    · rw [if_neg h, if_neg h]; simp
  obtain ⟨M, hM⟩ := sup_real (fun c : Fin 256 => c.val ≤ r.val) (fun c => dotH hd (qr r) (k (256 * i + c.val))) ⟨r, le_rfl⟩
  have hm : k0_pay40 k0_pay66 kk (k0_pay42 hv q) (ix2 r 0) = (M : EReal) := by
    rw [pay40_apply, ← hM]; exact sup_congr rfl fun c _ => hs c
  refine ⟨M, hm, fun l => ?_⟩
  rw [pay41_apply hd _ hv hhv, hm]
  have e : ∀ c : Fin 256, (if headp hd l then vv (ix2 c l) else (1 : EReal)) = ((wv hd v l (256 * i + c.val) : ℝ) : EReal) := fun c => by
    unfold wv
    by_cases h : headp hd l
    · rw [if_pos h, if_pos h, hvv]
    · rw [if_neg h, if_neg h]; simp
  rw [sum_congr rfl fun c _ => by rw [hs c, e c], exp_sum]
  refine congrArg (fun x : ℝ => ((Real.exp (-M) * x : ℝ) : EReal)) ?_
  unfold part
  rw [Nat.mul_zero, range_zero, sum_empty, add_zero]
  refine sum_congr rfl fun c _ => ?_
  by_cases h : c.val ≤ r.val
  · rw [if_pos h, if_pos h]
  · rw [if_neg h, if_neg h]

end Cert.Proof.KernelIdeal
-- ==== Proof.KernelIdeal.TileValue.lean ====
/- What `KernelIdeal` arranges and what each of its tiles writes, on the extended reals. -/
module

public import proofs.«01_k».proof.Proof.KernelIdeal.Steps
public import proofs.«01_k».proof.Proof.KernelIdeal.Body
public import Idealize.ShloMosaic.Lib.Writes

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Math Finset

/-! ## The arranged keys and values -/

/-- The arranged keys: a head's keys on its own lanes, a one at the block's number on the others. -/
def arrK (k : ℕ → ℕ → ℝ) (hd t : ℕ) (l : Fin 128) : EReal :=
  if headp hd l then ((k t l.val : ℝ) : EReal) else if l.val = off hd + t / 256 then 1 else 0

theorem hot0 (k : Fin k0_t1_loop.trips) (l : Fin 128) : cmpi .eq laneIota (broadcast S1x128 (Scalar.addi 64#32 (Scf.iv 0#32 1#32 k))) (ix2 0 l)
    = BitVec.ofBool (decide (l.val = off 0 + k.val)) := by
  revert k l; decide +kernel
theorem hot1 (k : Fin k0_t1_loop.trips) (l : Fin 128) : cmpi .eq laneIota (broadcast S1x128 (Scalar.addi 0#32 (Scf.iv 0#32 1#32 k))) (ix2 0 l)
    = BitVec.ofBool (decide (l.val = off 1 + k.val)) := by
  revert k l; decide +kernel
theorem trips1 : k0_t1_loop.trips = 32 := by decide +kernel
theorem trips3 : ∀ k : Fin k0_t2_loop.trips, (k0_t3_loop k).trips = (k.val + 3) / 4 := by decide +kernel

theorem pay4_apply (k : Fin k0_t1_loop.trips) (w : Vec Ideal S1x256x128 .bf16) (r : Fin 256) (l : Fin 128) :
    k0_pay4 laneIota k0_pay68 0#32 1#32 k w (ix3 0 r l) = if headp 0 l then w (ix3 0 r l) else if l.val = off 0 + k.val then 1 else 0 := by
  unfold k0_pay4 k0_pay2
  simp only [cadd, cself, ValueIdx.select_apply, ValueIdx.truncf_apply, ValueIdx.broadcast_apply, brow, cdrop, head0, hot0, sel_ofBool, decide_eq_true_eq, ofBits_at, c_one, c_zero]
theorem pay76_apply (k : Fin k0_t1_loop.trips) (w : Vec Ideal S1x256x128 .bf16) (r : Fin 256) (l : Fin 128) :
    k0_pay76 (k0_pay2 w) (k0_pay6 (F := Ideal) laneIota 0#32 1#32 k) (k0_pay7 k0_pay72) (ix3 0 r l) = if headp 1 l then w (ix3 0 r l) else if l.val = off 1 + k.val then 1 else 0 := by
  unfold k0_pay76 k0_pay2 k0_pay6 k0_pay7
  simp only [cadd, cself, ValueIdx.select_apply, ValueIdx.truncf_apply, ValueIdx.broadcast_apply, brow, cdrop, head1, hot1, sel_ofBool, decide_eq_true_eq, ofBits_at, c_one, c_zero]
theorem pay5_apply (w : Vec Ideal S1x256x128 .bf16) (r : Fin 256) (l : Fin 128) :
    k0_pay5 k0_pay68 w (ix3 0 r l) = if headp 0 l then w (ix3 0 r l) else 1 := by
  unfold k0_pay5 k0_pay3
  simp only [cadd, cself, ValueIdx.select_apply, ValueIdx.broadcast_apply, brow, cdrop, head0, sel_ofBool, decide_eq_true_eq, ofBits_at, c_one16]
theorem pay77_apply (w : Vec Ideal S1x256x128 .bf16) (r : Fin 256) (l : Fin 128) :
    k0_pay77 (k0_pay3 w) (ix3 0 r l) = if headp 1 l then w (ix3 0 r l) else 1 := by
  unfold k0_pay77 k0_pay3
  simp only [cadd, cself, ValueIdx.select_apply, ValueIdx.broadcast_apply, brow, cdrop, head1, sel_ofBool, decide_eq_true_eq, ofBits_at, c_one16]

/-- A list of pieces per trip: what holds of each trip's pieces holds of all. -/
theorem before_all {P : Fin k0_t1_loop.trips → List (View.Piece (Elt Ideal) S2x8192x128 .bf16)} {Φ : View.Piece (Elt Ideal) S2x8192x128 .bf16 → Prop}
    (h : ∀ k, ∀ p ∈ P k, Φ p) : ∀ n, ∀ p ∈ before P n, Φ p
  | 0, p, hp => absurd hp List.not_mem_nil
  | n + 1, p, hp => by
    rw [before.eq_2] at hp
    split at hp
    · rcases List.mem_append.mp hp with hp | hp
      · exact h _ p hp
      · exact before_all h n p hp
    · exact before_all h n p hp
theorem before_mem {P : Fin k0_t1_loop.trips → List (View.Piece (Elt Ideal) S2x8192x128 .bf16)} (k : Fin k0_t1_loop.trips) (p : View.Piece (Elt Ideal) S2x8192x128 .bf16)
    (h : p ∈ P k) : ∀ n, k.val < n → p ∈ before P n
  | 0, hn => absurd hn (Nat.not_lt_zero _)
  | n + 1, hn => by
    rw [before.eq_2]
    split
    · by_cases e : k.val = n
      · exact List.mem_append_left _ (by subst e; exact h)
      · exact List.mem_append_right _ (before_mem k p h n (by omega))
    · rename_i hn'
      exact before_mem k p h n (by have := k.isLt; omega)

theorem win1 (x : Vec Ideal S1x8192x128 .bf16) (off size : Fin 3 → ℕ) (inb : ∀ a, off a + S1x256x128.size a ≤ S1x8192x128.size a) (n : ℕ) (h : off = ![0, n, 0])
    (r : Fin 256) (l : Fin 128) (hn : n + r.val < 8192) : VecWindow.window x off S1x256x128.size inb (ix3 0 r l) = x (ix3 0 ⟨n + r.val, hn⟩ l) := by
  subst h
  refine congrArg x (funext fun a => Fin.ext ?_)
  fin_cases a
  · rfl
  · exact congrArg (n + ·) (Nat.one_mul _)
  · exact (Nat.zero_add _).trans (Nat.one_mul _)

theorem win2 (x : Vec Ideal S2x8192x128 .bf16) (off : Fin 3 → ℕ) (inb : ∀ a, off a + S1x1024x128.size a ≤ S2x8192x128.size a) (hd : Fin 2) (n : ℕ) (h : off = ![hd.val, n, 0])
    (c : Fin 1024) (l : Fin 128) (hn : n + c.val < 8192) : VecWindow.window x off S1x1024x128.size inb (ix3 0 c l) = x (ix3 hd ⟨n + c.val, hn⟩ l) := by
  subst h
  refine congrArg x (funext fun a => Fin.ext ?_)
  fin_cases a
  · rfl
  · exact congrArg (n + ·) (Nat.one_mul _)
  · exact (Nat.zero_add _).trans (Nat.one_mul _)

/-- Where a piece of 256 positions puts its elements. -/
theorem emb2 (off : Fin 3 → ℕ) (inb : ∀ a, off a + S1x256x128.size a ≤ S2x8192x128.size a) (hd : Fin 2) (n : ℕ) (h : off = ![hd.val, n, 0])
    (r : Fin 256) (l : Fin 128) (hn : n + r.val < 8192) : (Rect.unit (s := S2x8192x128) off S1x256x128.size inb).emb (ix3 0 r l) = ix3 hd ⟨n + r.val, hn⟩ l := by
  subst h
  refine funext fun a => Fin.ext ?_
  fin_cases a
  · rfl
  · exact congrArg (n + ·) (Nat.one_mul _)
  · exact (Nat.zero_add _).trans (Nat.one_mul _)

theorem ix3_eta (x : S1x256x128.Idx) : x = ix3 0 (x 1) (x 2) := by
  funext a
  fin_cases a
  · exact Fin.ext (Nat.lt_one_iff.mp (x 0).isLt)
  · rfl
  · rfl

/-- What both arrangements share: their pieces' values at an index give the buffer's. -/
theorem arr_value (M : Memref sig .tc .vmem S2x8192x128 .bf16) (f : M.view.ty.Contents (Elt Ideal)) (P : Fin k0_t1_loop.trips → List (View.Piece (Elt Ideal) S2x8192x128 .bf16))
    (w0 w1 : Fin k0_t1_loop.trips → Vec Ideal S1x256x128 .bf16) (G : ℕ → ℕ → Fin 128 → EReal)
    (hP : ∀ k, P k = [⟨Rect.unit (k0_off3 k) S1x256x128.size (k0_off3_inb k), w1 k⟩, ⟨Rect.unit (k0_off2 k) S1x256x128.size (k0_off2_inb k), w0 k⟩])
    (h0 : ∀ k (r : Fin 256) (l : Fin 128), w0 k (ix3 0 r l) = G 0 (256 * k.val + r.val) l)
    (h1 : ∀ k (r : Fin 256) (l : Fin 128), w1 k (ix3 0 r l) = G 1 (256 * k.val + r.val) l)
    (hd : Fin 2) (t : Fin 8192) (l : Fin 128) :
    M.view.read (Elt Ideal) (M.view.writes (Elt Ideal) f (before P k0_t1_loop.trips)) (ix3 hd t l) = G hd.val t.val l := by
  have hb : ∀ (k : Fin k0_t1_loop.trips) (r : Fin 256), 256 * k.val + r.val < 8192 := fun k r => by
    have := lt_of_lt_of_eq k.isLt trips1; omega
  refine View.read_writes_apply_of_pieces M.view f (fun y => G (y 0).val (y 1).val (y 2)) _ (before_all (fun k p hp => ?_) _) _ ?_
  · rw [hP] at hp
    rcases List.mem_cons.mp hp with rfl | hp
    · intro x
      obtain ⟨r, l, rfl⟩ : ∃ (r : Fin 256) (l : Fin 128), x = ix3 0 r l := ⟨x 1, x 2, ix3_eta x⟩
      show w1 k (ix3 0 r l) = _
      have e := emb2 (k0_off3 k) (k0_off3_inb k) 1 _ (k0_off3_eq k) r l (hb k r)
      rw [h1, e]
      rfl
    · obtain rfl := List.mem_singleton.mp hp
      intro x
      obtain ⟨r, l, rfl⟩ : ∃ (r : Fin 256) (l : Fin 128), x = ix3 0 r l := ⟨x 1, x 2, ix3_eta x⟩
      show w0 k (ix3 0 r l) = _
      have e := emb2 (k0_off2 k) (k0_off2_inb k) 0 _ (k0_off2_eq k) r l (hb k r)
      rw [h0, e]
      rfl
  · have ht : t.val / 256 < k0_t1_loop.trips := by rw [trips1]; omega
    have hh : hd.val = 0 ∨ hd.val = 1 := by omega
    have e : (256 * (t.val / 256) + t.val % 256) = t.val := by omega
    rcases hh with hh | hh
    · refine ⟨⟨Rect.unit (k0_off2 ⟨_, ht⟩) S1x256x128.size (k0_off2_inb _), w0 ⟨_, ht⟩⟩, before_mem ⟨_, ht⟩ _ (by rw [hP]; simp) _ ht, ?_⟩
      have e' := emb2 (k0_off2 ⟨_, ht⟩) (k0_off2_inb _) 0 _ (k0_off2_eq ⟨_, ht⟩) ⟨t.val % 256, by omega⟩ l (by show 256 * (t.val / 256) + t.val % 256 < 8192; omega)
      have e2 : (ix3 hd t l : S2x8192x128.Idx) = ix3 0 ⟨256 * (t.val / 256) + t.val % 256, by omega⟩ l := by
        congr 1
        · exact Fin.ext hh
        · exact Fin.ext e.symm
      rw [e2]
      exact e' ▸ LoadRect.idx_mem _ _
    · refine ⟨⟨Rect.unit (k0_off3 ⟨_, ht⟩) S1x256x128.size (k0_off3_inb _), w1 ⟨_, ht⟩⟩, before_mem ⟨_, ht⟩ _ (by rw [hP]; simp) _ ht, ?_⟩
      have e' := emb2 (k0_off3 ⟨_, ht⟩) (k0_off3_inb _) 1 _ (k0_off3_eq ⟨_, ht⟩) ⟨t.val % 256, by omega⟩ l (by show 256 * (t.val / 256) + t.val % 256 < 8192; omega)
      have e2 : (ix3 hd t l : S2x8192x128.Idx) = ix3 1 ⟨256 * (t.val / 256) + t.val % 256, by omega⟩ l := by
        congr 1
        · exact Fin.ext hh
        · exact Fin.ext e.symm
      rw [e2]
      exact e' ▸ LoadRect.idx_mem _ _

theorem keysArr_apply (M7 : Memref sig .tc .vmem S2x8192x128 .bf16) (K : Vec Ideal S1x8192x128 .bf16) (k : ℕ → ℕ → ℝ)
    (hK : ∀ (t : Fin 8192) (l : Fin 128), K (ix3 0 t l) = ((k t.val l.val : ℝ) : EReal)) (hd : Fin 2) (t : Fin 8192) (l : Fin 128) :
    keysArr M7 K (ix3 hd t l) = arrK k hd.val t.val l := by
  have hb : ∀ (k : Fin k0_t1_loop.trips) (r : Fin 256), 256 * k.val + r.val < 8192 := fun k r => by
    have := lt_of_lt_of_eq k.isLt trips1; omega
  have hdiv : ∀ (j : Fin k0_t1_loop.trips) (r : Fin 256), (256 * j.val + r.val) / 256 = j.val := fun j r => by omega
  refine arr_value M7 _ (keyPieces lanes K) _ _ (arrK k) (fun k => rfl) (fun j r l => ?_) (fun j r l => ?_) hd t l
  · rw [pay4_apply, win1 K _ (fun _ => 0) _ _ (k0_off1_eq j) r l (hb j r), hK]
    unfold arrK
    rw [hdiv]
  · rw [pay76_apply, win1 K _ (fun _ => 0) _ _ (k0_off1_eq j) r l (hb j r), hK]
    unfold arrK
    rw [hdiv]

theorem valsArr_apply (M8 : Memref sig .tc .vmem S2x8192x128 .bf16) (W : Vec Ideal S1x8192x128 .bf16) (v : ℕ → ℕ → ℝ)
    (hW : ∀ (t : Fin 8192) (l : Fin 128), W (ix3 0 t l) = ((v t.val l.val : ℝ) : EReal)) (hd : Fin 2) (t : Fin 8192) (l : Fin 128) :
    valsArr M8 W (ix3 hd t l) = ((wv hd.val v l t.val : ℝ) : EReal) := by
  have hb : ∀ (k : Fin k0_t1_loop.trips) (r : Fin 256), 256 * k.val + r.val < 8192 := fun k r => by
    have := lt_of_lt_of_eq k.isLt trips1; omega
  have hw : ∀ (hd : ℕ) (l : Fin 128) (t : ℕ), ((wv hd v l t : ℝ) : EReal) = if headp hd l then ((v t l.val : ℝ) : EReal) else 1 := fun hd l t => by
    unfold wv; split <;> simp
  refine arr_value M8 _ (valPieces W) _ _ (fun hd t l => ((wv hd v l t : ℝ) : EReal)) (fun k => rfl) (fun j r l => ?_) (fun j r l => ?_) hd t l
  · rw [pay5_apply, win1 W _ (fun _ => 0) _ _ (k0_off1_eq j) r l (hb j r), hW, hw]
  · rw [pay77_apply, win1 W _ (fun _ => 0) _ _ (k0_off1_eq j) r l (hb j r), hW, hw]

/-! ## A tile -/

theorem pay11_eq (aug : FVec Ideal S256x128 .bf16) (m : FVec Ideal S256x1 .f32) (kh : Vec Ideal S1x1024x128 .bf16) : k0_pay11 aug m kh = k0_pay9 m (k0_pay8 aug kh) := rfl
theorem pay60_eq (aug : FVec Ideal S256x128 .bf16) (m : FVec Ideal S256x1 .f32) (a : FVec Ideal S256x128 .f32) (kh vh : Vec Ideal S1x1024x128 .bf16) :
    k0_pay60 (k0_pay12 aug m kh) (k0_pay13 aug m a kh) (k0_pay14 vh) (constant S256x128 .f32 0x00000000#32) = k0_pay10 m a (k0_pay8 aug kh) vh := rfl

theorem pay25_eq (hv : IVec S1x128 1) (v43 : Vec Ideal S1x256x128 .bf16) : k0_pay25 (F := Ideal) hv v43 = k0_pay42 hv (k0_pay22 v43) := rfl
theorem pay57_eq (v4 : IVec S256x256 1) (kk q : FVec Ideal S256x128 .bf16) : k0_pay57 v4 kk q = k0_pay40 v4 kk q := rfl
theorem pay58_eq (v4 : IVec S256x256 1) (hv : IVec S1x128 1) (kk vv q : FVec Ideal S256x128 .bf16) : k0_pay58 v4 hv kk vv q = k0_pay41 v4 hv kk vv q := rfl
theorem diag_eq (v4 : IVec S256x256 1) (v11 v27 : IVec S1x128 1) (v43 v46 v49 : Vec Ideal S1x256x128 .bf16) : diag v4 v11 v27 v43 v46 v49
    = (k0_pay40 v4 (k0_pay23 v46) (k0_pay42 v11 (k0_pay22 v43)), k0_pay41 v4 v11 (k0_pay23 v46) (k0_pay24 v49) (k0_pay42 v11 (k0_pay22 v43)),
      k0_pay40 v4 (k0_pay23 v46) (k0_pay42 v27 (k0_pay22 v43)), k0_pay41 v4 v27 (k0_pay23 v46) (k0_pay24 v49) (k0_pay42 v27 (k0_pay22 v43))) := by
  unfold diag
  rw [pay25_eq, pay57_eq, pay58_eq]

/-- What the tiles read: the arranged keys and values, and row block `i`'s queries. -/
structure Reads (R7 R8 : Vec Ideal S2x8192x128 .bf16) (k v : ℕ → ℕ → ℝ) : Prop where
  keys : ∀ (hd : Fin 2) (t : Fin 8192) (l : Fin 128), R7 (ix3 hd t l) = arrK k hd.val t.val l
  vals : ∀ (hd : Fin 2) (t : Fin 8192) (l : Fin 128), R8 (ix3 hd t l) = ((wv hd.val v l t.val : ℝ) : EReal)

/-- The masked scores of a head against the 1024 keys of step `j`. -/
def Scores (hd i j : ℕ) (L sc : Fin 256 → ℕ → ℝ) (s : FVec Ideal S256x1024 .f32) : Prop :=
  ∀ (r : Fin 256) (c : Fin 1024), s (ix2 r c) = masked (fun c : Fin 1024 => past (sc r) i (1024 * j + c.val)) (fun c => L r (1024 * j + c.val)) c

theorem scores_win {R7 R8 : Vec Ideal S2x8192x128 .bf16} {k v : ℕ → ℕ → ℝ} (hR : Reads R7 R8 k v) (hd : Fin 2) (i j : ℕ) (hj : j < 8)
    (o : Fin 3 → ℕ) (inb : ∀ a, o a + S1x1024x128.size a ≤ S2x8192x128.size a) (ho : o = ![hd.val, 1024 * j, 0])
    (aug : FVec Ideal S256x128 .bf16) (qr sc : Fin 256 → ℕ → ℝ)
    (ha : ∀ (r : Fin 256) (l : Fin 128), aug (ix2 r l) = if headp hd.val l then ((qr r l.val : ℝ) : EReal) else bias hd.val i (sc r) l) :
    Scores hd.val i j (fun r t => dotH hd.val (qr r) (k t)) sc (k0_pay8 aug (VecWindow.window R7 o S1x1024x128.size inb)) := by
  intro r c
  have hc : 1024 * j + c.val < 8192 := by omega
  exact score_val hd.val i hd.isLt aug _ r c (qr r) (sc r) k (1024 * j + c.val) hc (ha r) fun l => by
    rw [win2 R7 o inb hd _ ho c l hc, hR.keys]; rfl

theorem keysAt_holds {R7 R8 : Vec Ideal S2x8192x128 .bf16} {k v : ℕ → ℕ → ℝ} (hR : Reads R7 R8 k v) (i : Fin k0_t2_loop.trips)
    (a0 a1 : FVec Ideal S256x128 .bf16) (qr sc0 sc1 : Fin 256 → ℕ → ℝ)
    (h0 : ∀ (r : Fin 256) (l : Fin 128), a0 (ix2 r l) = if headp 0 l then ((qr r l.val : ℝ) : EReal) else bias 0 i.val (sc0 r) l)
    (h1 : ∀ (r : Fin 256) (l : Fin 128), a1 (ix2 r l) = if headp 1 l then ((qr r l.val : ℝ) : EReal) else bias 1 i.val (sc1 r) l)
    (st : (FVec Ideal S256x1 .f32 × FVec Ideal S256x128 .f32 × FVec Ideal S256x1 .f32 × FVec Ideal S256x128 .f32) × Vec Ideal S256x1024 .f32)
    (hs0 : Holds 0 i.val 0 (fun r t => dotH 0 (qr r) (k t)) sc0 v st.1.1 st.1.2.1)
    (hs1 : Holds 1 i.val 0 (fun r t => dotH 1 (qr r) (k t)) sc1 v st.1.2.2.1 st.1.2.2.2)
    (hsc : Scores 0 i.val 0 (fun r t => dotH 0 (qr r) (k t)) sc0 st.2) :
    ∀ j, j ≤ (k0_t3_loop i).trips →
      Holds 0 i.val j (fun r t => dotH 0 (qr r) (k t)) sc0 v (keysAt R7 R8 i a0 a1 st j).1.1 (keysAt R7 R8 i a0 a1 st j).1.2.1
        ∧ Holds 1 i.val j (fun r t => dotH 1 (qr r) (k t)) sc1 v (keysAt R7 R8 i a0 a1 st j).1.2.2.1 (keysAt R7 R8 i a0 a1 st j).1.2.2.2
        ∧ (j < (k0_t3_loop i).trips ∨ j = 0 → Scores 0 i.val j (fun r t => dotH 0 (qr r) (k t)) sc0 (keysAt R7 R8 i a0 a1 st j).2)
  | 0, _ => ⟨hs0, hs1, fun _ => hsc⟩
  | j + 1, hj => by
    obtain ⟨e0, e1, e2⟩ := keysAt_holds hR i a0 a1 qr sc0 sc1 h0 h1 st hs0 hs1 hsc j (by omega)
    have ht : (k0_t3_loop i).trips ≤ 8 := by rw [trips3]; have := lt_of_lt_of_eq i.isLt trips2; omega
    have hj8 : j < 8 := by omega
    rw [keysAt_succ R7 R8 i a0 a1 st ⟨j, hj⟩]
    have hc : ∀ c : Fin 1024, 1024 * j + c.val < 8192 := fun c => by omega
    refine ⟨step_holds 0 i.val j _ sc0 v _ _ _ _ (e2 (.inl hj)) (fun c l => ?_) e0, ?_, fun h => ?_⟩
    · rw [win2 R8 _ _ 0 (1024 * j) (k0_off7_eq i ⟨j, hj⟩) c l (hc c), hR.vals]; rfl
    · show Holds 1 i.val (j + 1) _ sc1 v (k0_pay11 _ _ _) (k0_pay60 _ _ _ _)
      rw [pay60_eq, pay11_eq]
      refine step_holds 1 i.val j _ sc1 v _ _ _ _ ?_ (fun c l => ?_) e1
      · exact scores_win hR 1 i.val j hj8 _ _ (k0_off6_eq i ⟨j, hj⟩) a1 qr sc1 h1
      · rw [win2 R8 _ _ 1 (1024 * j) (k0_off8_eq i ⟨j, hj⟩) c l (hc c), hR.vals]; rfl
    · have hj' : j + 1 < (k0_t3_loop i).trips := h.resolve_right (by omega)
      show Scores 0 i.val (j + 1) _ sc0 (k0_pay61 a0 _)
      rw [pay61_eq]
      refine scores_win hR 0 i.val (j + 1) (by omega) _ _ ?_ a0 qr sc0 h0
      rw [k0_off9_eq i ⟨j, hj⟩]
      congr 2
      show min (1024 * j + 1024) 7168 = 1024 * (j + 1)
      omega

theorem roll_apply (x : FVec Ideal S256x128 .f32) (r : Fin 256) (l : Fin 128) :
    dynamicRotate 1 64#32 none x rotates_S256x128_d1 (ix2 r l) = x (ix2 r ⟨(l.val + 64) % 128, Nat.mod_lt _ (by norm_num)⟩) := by
  refine dynamicRotate_apply 1 64#32 x rotates_S256x128_d1 _ _ fun b => ?_
  fin_cases b
  · rfl
  · show (l.val + 64) % 128 = (l.val + 128 - 64) % 128
    omega

theorem pay64_apply (a0 a1 : FVec Ideal S256x128 .f32) (r : Fin 256) (l : Fin 128) :
    k0_pay1 (k0_pay64 k0_pay68 a0 a1) (ix3 0 r l)
      = if headp 0 l then Ideal.div (a0 (ix2 r l)) (a0 (ix2 r ⟨(l.val + 64) % 128, Nat.mod_lt _ (by norm_num)⟩))
        else Ideal.div (a1 (ix2 r l)) (a1 (ix2 r ⟨(l.val + 64) % 128, Nat.mod_lt _ (by norm_num)⟩)) := by
  unfold k0_pay1 k0_pay64
  rw [cadd, ValueIdx.truncf_apply, ValueIdx.select_apply, brow, cself, head0, sel_ofBool]
  simp only [decide_eq_true_eq]
  refine if_congr Iff.rfl ?_ ?_
  · exact congrArg (Ideal.div (a0 (ix2 r l))) (roll_apply a0 r l)
  · exact congrArg (Ideal.div (a1 (ix2 r l))) (roll_apply a1 r l)

/-- The quotient of a value lane by the lane of ones. -/
theorem holds_div (hd i j : ℕ) (hi : i < 32) (hj : i ≤ 4 * j) (hj' : j ≤ 8) (L sc : Fin 256 → ℕ → ℝ) (v : ℕ → ℕ → ℝ) (m : FVec Ideal S256x1 .f32) (a : FVec Ideal S256x128 .f32)
    (h : Holds hd i j L sc v m a) (r : Fin 256) (l l' : Fin 128) (hl : headp hd l) (hl' : ¬ headp hd l') :
    Ideal.div (a (ix2 r l)) (a (ix2 r l')) = ((att (L r) (sc r) (fun t => v t l.val) (256 * i + r.val) : ℝ) : EReal) := by
  obtain ⟨M, -, ha⟩ := h r
  have e1 : wv hd v l = fun t => v t l.val := funext fun t => if_pos hl
  have e2 : wv hd v l' = fun _ => 1 := funext fun t => if_neg hl'
  have hpos := gather_pos (L r) (sc r) (256 * i + r.val) (by omega)
  rw [ha, ha, e1, e2, part_end _ _ _ _ _ _ hi r.isLt hj hj', part_end _ _ _ _ _ _ hi r.isLt hj hj',
    div_coe _ _ (mul_ne_zero (Real.exp_ne_zero _) hpos.ne'), mul_div_mul_left _ _ (Real.exp_ne_zero _)]
  rfl

/-- A tile's block, at an index. -/
theorem tileVal_apply {R7 R8 : Vec Ideal S2x8192x128 .bf16} {q k v km : ℕ → ℕ → ℝ} (hR : Reads R7 R8 k v) (x5 : Vec Ideal S1x32x1x128 .f32)
    (hkm : ∀ (n : Fin 32) (d : Fin 128), x5 (ix4 0 n 0 d) = ((km n.val d.val : ℝ) : EReal))
    (i : Fin k0_t2_loop.trips) (v43 v46 v49 : Vec Ideal S1x256x128 .bf16)
    (hq : ∀ (r : Fin 256) (l : Fin 128), v43 (ix3 0 r l) = ((q (256 * i.val + r.val) l.val : ℝ) : EReal))
    (hk : ∀ (r : Fin 256) (l : Fin 128), v46 (ix3 0 r l) = ((k (256 * i.val + r.val) l.val : ℝ) : EReal))
    (hv : ∀ (r : Fin 256) (l : Fin 128), v49 (ix3 0 r l) = ((v (256 * i.val + r.val) l.val : ℝ) : EReal))
    (r : Fin 256) (l : Fin 128) :
    tileVal R7 R8 laneIota k0_pay65 k0_pay66 k0_pay68 (k0_pay70 x5) (k0_pay71 x5) k0_pay72 (k0_pay74 x5) (k0_pay75 x5) 0#32 i v43 v46 v49 (ix3 0 r l)
      = ((att (fun t => dotH (l.val / 64) (q (256 * i.val + r.val)) (k t)) (fun n => dotH (l.val / 64) (q (256 * i.val + r.val)) (km n)) (fun t => v t l.val) (256 * i.val + r.val) : ℝ) : EReal) := by
  have hi : i.val < 32 := lt_of_lt_of_eq i.isLt trips2
  have h22 : ∀ (r : Fin 256) (l : Fin 128), k0_pay22 v43 (ix2 r l) = ((q (256 * i.val + r.val) l.val : ℝ) : EReal) := fun r l => by
    unfold k0_pay22; rw [cdrop, hq]
  have h23 : ∀ (r : Fin 256) (l : Fin 128), k0_pay23 v46 (ix2 r l) = ((k (256 * i.val + r.val) l.val : ℝ) : EReal) := fun r l => by
    unfold k0_pay23; rw [cdrop, hk]
  have h24 : ∀ (r : Fin 256) (l : Fin 128), k0_pay24 v49 (ix2 r l) = ((v (256 * i.val + r.val) l.val : ℝ) : EReal) := fun r l => by
    unfold k0_pay24; rw [cdrop, hv]
  have hself : ∀ {p : Prop} [Decidable p] (x : ℝ), (if p then ((x : ℝ) : EReal) else 0) - (if p then ((x : ℝ) : EReal) else 0) = 0 := fun {p} _ x => by
    split
    · rw [← EReal.coe_sub, sub_self]; rfl
    · simp
  have ha0 : ∀ (r : Fin 256) (l : Fin 128), aug0 laneIota k0_pay65 k0_pay68 (k0_pay70 x5) (k0_pay71 x5) 0#32 i v43 (ix2 r l)
      = if headp 0 l then ((q (256 * i.val + r.val) l.val : ℝ) : EReal) else bias 0 i.val (fun n => dotH 0 (q (256 * i.val + r.val)) (km n)) l := fun r l => by
    rw [aug0_eq, augOf_apply 0 i.val hi.le (by norm_num) k0_pay68 _ _ _ _ head0 inBias0 (valid0 i) r (fun n => dotH 0 (q (256 * i.val + r.val)) (km n)), h22]
    intro l h1 h2
    refine gate_val 0 (by norm_num) k0_pay68 head0 _ _ _ r l _ _ (h22 r) (fun d => ?_) (fun d => ?_)
    · rw [high0_apply]; exact mean0_apply x5 km hkm l d h1 (by omega)
    · rw [low0_apply, mean0_apply x5 km hkm l d h1 (by omega)]; exact hself _
  have ha1 : ∀ (r : Fin 256) (l : Fin 128), aug1 laneIota k0_pay65 k0_pay72 (k0_pay74 x5) (k0_pay75 x5) 0#32 i v43 (ix2 r l)
      = if headp 1 l then ((q (256 * i.val + r.val) l.val : ℝ) : EReal) else bias 1 i.val (fun n => dotH 1 (q (256 * i.val + r.val)) (km n)) l := fun r l => by
    rw [aug1_eq, augOf_apply 1 i.val hi.le (by norm_num) k0_pay72 _ _ _ _ head1 inBias1 (valid1 i) r (fun n => dotH 1 (q (256 * i.val + r.val)) (km n)), h22]
    intro l h1 h2
    refine gate_val 1 (by norm_num) k0_pay72 head1 _ _ _ r l _ _ (h22 r) (fun d => ?_) (fun d => ?_)
    · rw [high1_apply]; exact mean1_apply x5 km hkm l d h1 (by omega)
    · rw [low1_apply, mean1_apply x5 km hkm l d h1 (by omega)]; exact hself _
  have hs0 := diag_holds 0 i.val (by norm_num) k0_pay68 head0 (k0_pay22 v43) (k0_pay23 v46) (k0_pay24 v49) (fun r => q (256 * i.val + r.val)) k v
    (fun r n => dotH 0 (q (256 * i.val + r.val)) (km n)) h22 h23 h24
  have hs1 := diag_holds 1 i.val (by norm_num) k0_pay72 head1 (k0_pay22 v43) (k0_pay23 v46) (k0_pay24 v49) (fun r => q (256 * i.val + r.val)) k v
    (fun r n => dotH 1 (q (256 * i.val + r.val)) (km n)) h22 h23 h24
  have hsc := scores_win hR 0 i.val 0 (by norm_num) _ k0_off5_inb k0_off5_eq _ (fun r => q (256 * i.val + r.val)) _ ha0
  rw [← pay59_eq] at hsc
  unfold tileVal tileEnd
  rw [diag_eq]
  generalize aug0 laneIota k0_pay65 k0_pay68 (k0_pay70 x5) (k0_pay71 x5) 0#32 i v43 = a0 at *
  generalize aug1 laneIota k0_pay65 k0_pay72 (k0_pay74 x5) (k0_pay75 x5) 0#32 i v43 = a1 at *
  generalize k0_pay40 k0_pay66 (k0_pay23 v46) (k0_pay42 k0_pay68 (k0_pay22 v43)) = m0 at *
  generalize k0_pay41 k0_pay66 k0_pay68 (k0_pay23 v46) (k0_pay24 v49) (k0_pay42 k0_pay68 (k0_pay22 v43)) = b0 at *
  generalize k0_pay40 k0_pay66 (k0_pay23 v46) (k0_pay42 k0_pay72 (k0_pay22 v43)) = m1 at *
  generalize k0_pay41 k0_pay66 k0_pay72 (k0_pay23 v46) (k0_pay24 v49) (k0_pay42 k0_pay72 (k0_pay22 v43)) = b1 at *
  generalize k0_pay59 a0 (VecWindow.window R7 k0_off5 S1x1024x128.size k0_off5_inb) = s0 at *
  have hall := keysAt_holds hR i a0 a1 (fun r => q (256 * i.val + r.val)) _ _ ha0 ha1 ((m0, b0, m1, b1), s0) hs0 hs1 hsc _ le_rfl
  have ht : (k0_t3_loop i).trips = (i.val + 3) / 4 := trips3 i
  rw [pay64_apply]
  by_cases hl : l.val < 64
  · rw [if_pos ⟨by omega, by omega⟩, Nat.div_eq_of_lt hl]
    refine holds_div 0 i.val _ hi ?_ ?_ _ _ v _ _ hall.1 r l _ ⟨by omega, by omega⟩ (fun h => ?_)
    · rw [ht]; omega
    · rw [ht]; omega
    · have h2 := h.2
      simp only at h2
      omega
  · have e : l.val / 64 = 1 := by omega
    rw [if_neg (fun h => hl (by have := h.2; omega)), e]
    refine holds_div 1 i.val _ hi ?_ ?_ _ _ v _ _ hall.2.1 r l _ ⟨by omega, by omega⟩ (fun h => ?_)
    · rw [ht]; omega
    · rw [ht]; omega
    · have h2 := h.1
      simp only at h2
      omega

end Cert.Proof.KernelIdeal
-- ==== Proof.KernelIdeal.BlockValue.lean ====
/- The result's block of `KernelIdeal` as one function of the blocks read, and its elements on the extended reals. -/
module

public import proofs.«01_k».proof.Proof.KernelIdeal.TileValue
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Cert.Proof.Math Finset

theorem emb1 (off : Fin 3 → ℕ) (inb : ∀ a, off a + S1x256x128.size a ≤ S1x8192x128.size a) (n : ℕ) (h : off = ![0, n, 0])
    (r : Fin 256) (l : Fin 128) (hn : n + r.val < 8192) : (Rect.unit (s := S1x8192x128) off S1x256x128.size inb).emb (ix3 0 r l) = ix3 0 ⟨n + r.val, hn⟩ l := by
  subst h
  refine funext fun a => Fin.ext ?_
  fin_cases a
  · rfl
  · exact congrArg (n + ·) (Nat.one_mul _)
  · exact (Nat.zero_add _).trans (Nat.one_mul _)

theorem ix3_eta' (x : S1x8192x128.Idx) : x = ix3 0 (x 1) (x 2) := by
  funext a
  fin_cases a
  · exact Fin.ext (Nat.lt_one_iff.mp (x 0).isLt)
  · rfl
  · rfl

section General

variable {F : FTy → Type} [FloatOps F] [Named F]
variable (Q K W : Vec F S1x8192x128 .bf16) (R7 R8 : Vec F S2x8192x128 .bf16) (v0 : IVec S1x128 32) (v1 : FVec F S1x128 .f32) (v4 : IVec S256x256 1) (v11 : IVec S1x128 1) (v19 : FVec F S128x128 .bf16) (v22 : FVec F S128x128 .bf16) (v27 : IVec S1x128 1) (v34 : FVec F S128x128 .bf16) (v37 : FVec F S128x128 .bf16) (c0 : BitVec 32)

theorem pieces_mem (k : Fin k0_t2_loop.trips) : ∀ n, k.val < n →
    tilePiece Q K W R7 R8 v0 v1 v4 v11 v19 v22 v27 v34 v37 c0 k ∈ pieces Q K W R7 R8 v0 v1 v4 v11 v19 v22 v27 v34 v37 c0 n
  | 0, hn => absurd hn (Nat.not_lt_zero _)
  | n + 1, hn => by
    rw [pieces.eq_2]
    split
    · by_cases e : k.val = n
      · subst e; exact List.mem_cons_self
      · exact List.mem_cons_of_mem _ (pieces_mem k n (by omega))
    · exact pieces_mem k n (by have := k.isLt; omega)

theorem pieces_all {Φ : View.Piece (Elt F) S1x8192x128 .bf16 → Prop} (h : ∀ k, Φ (tilePiece Q K W R7 R8 v0 v1 v4 v11 v19 v22 v27 v34 v37 c0 k)) :
    ∀ n, ∀ p ∈ pieces Q K W R7 R8 v0 v1 v4 v11 v19 v22 v27 v34 v37 c0 n, Φ p
  | 0, p, hp => absurd hp List.not_mem_nil
  | n + 1, p, hp => by
    rw [pieces.eq_2] at hp
    split at hp
    · rcases List.mem_cons.mp hp with rfl | hp
      · exact h _
      · exact pieces_all h n p hp
    · exact pieces_all h n p hp

theorem pieces_cover (y : S1x8192x128.Idx) : ∃ p ∈ pieces Q K W R7 R8 v0 v1 v4 v11 v19 v22 v27 v34 v37 c0 k0_t2_loop.trips, y ∈ p.1.set := by
  obtain ⟨t, l, rfl⟩ : ∃ (t : Fin 8192) (l : Fin 128), y = ix3 0 t l := ⟨y 1, y 2, ix3_eta' y⟩
  have ht : t.val / 256 < k0_t2_loop.trips := by rw [trips2]; omega
  have e : 256 * (t.val / 256) + t.val % 256 = t.val := by omega
  refine ⟨_, pieces_mem Q K W R7 R8 v0 v1 v4 v11 v19 v22 v27 v34 v37 c0 ⟨_, ht⟩ _ ht, ?_⟩
  have e' := emb1 (k0_off4 ⟨_, ht⟩) (k0_off4_inb _) _ (k0_off4_eq ⟨_, ht⟩) ⟨t.val % 256, by omega⟩ l (by show 256 * (t.val / 256) + t.val % 256 < 8192; omega)
  have e2 : (ix3 0 t l : S1x8192x128.Idx) = ix3 0 ⟨256 * (t.val / 256) + t.val % 256, by omega⟩ l := by
    congr 1
    exact Fin.ext e.symm
  rw [e2]
  exact e' ▸ LoadRect.idx_mem _ _

/-- The result's block. -/
def blockVal (x5 : Vec F S1x32x1x128 .f32) : Vec F S1x8192x128 .bf16 :=
  View.canon (Val := Elt F) (outPieces Q K W x5 (keysArr (Memref.whole cc0_scratch0) K) (valsArr (Memref.whole cc0_scratch1) W))

end General

theorem win1' (x : Vec Ideal S1x8192x128 .bf16) (f : ℕ → ℕ → ℝ) (h : ∀ (t : Fin 8192) (l : Fin 128), x (ix3 0 t l) = ((f t.val l.val : ℝ) : EReal))
    (i : Fin k0_t2_loop.trips) (r : Fin 256) (l : Fin 128) : qWin x i (ix3 0 r l) = ((f (256 * i.val + r.val) l.val : ℝ) : EReal) := by
  have hb : 256 * i.val + r.val < 8192 := by have := lt_of_lt_of_eq i.isLt trips2; omega
  show VecWindow.window x _ _ _ _ = _
  rw [win1 x _ (fun _ => 0) _ _ (k0_off4_eq i) r l hb, h]

/-- What the block's row `s` holds on lane `l`. -/
def outAt (q k v km : ℕ → ℕ → ℝ) (s l : ℕ) : ℝ :=
  att (fun t => dotH (l / 64) (q s) (k t)) (fun n => dotH (l / 64) (q s) (km n)) (fun t => v t l) s

theorem blockVal_apply (Q K W : Vec Ideal S1x8192x128 .bf16) (x5 : Vec Ideal S1x32x1x128 .f32) (q k v km : ℕ → ℕ → ℝ)
    (hQ : ∀ (t : Fin 8192) (l : Fin 128), Q (ix3 0 t l) = ((q t.val l.val : ℝ) : EReal))
    (hK : ∀ (t : Fin 8192) (l : Fin 128), K (ix3 0 t l) = ((k t.val l.val : ℝ) : EReal))
    (hW : ∀ (t : Fin 8192) (l : Fin 128), W (ix3 0 t l) = ((v t.val l.val : ℝ) : EReal))
    (hkm : ∀ (n : Fin 32) (d : Fin 128), x5 (ix4 0 n 0 d) = ((km n.val d.val : ℝ) : EReal))
    (s : Fin 8192) (l : Fin 128) : blockVal Q K W x5 (ix3 0 s l) = ((outAt q k v km s.val l.val : ℝ) : EReal) := by
  unfold blockVal
  have hc := pieces_cover Q K W (keysArr (Memref.whole cc0_scratch0) K) (valsArr (Memref.whole cc0_scratch1) W) lanes (k0_pay65 (F := Ideal)) k0_pay66 k0_pay68 (k0_pay70 x5) (k0_pay71 x5) k0_pay72 (k0_pay74 x5) (k0_pay75 x5) 0#32 (ix3 0 s l)
  have hR : Reads (keysArr (Memref.whole cc0_scratch0) K) (valsArr (Memref.whole cc0_scratch1) W) k v :=
    ⟨keysArr_apply _ K k hK, valsArr_apply _ W v hW⟩
  refine View.canon_apply_of_pieces (Val := Elt Ideal) (fun y => ((outAt q k v km (y 1).val (y 2).val : ℝ) : EReal)) _ (pieces_all _ _ _ _ _ _ _ _ _ _ _ _ _ _ _ (fun i x => ?_) _) _ hc
  obtain ⟨r, l, rfl⟩ : ∃ (r : Fin 256) (l : Fin 128), x = ix3 0 r l := ⟨x 1, x 2, ix3_eta x⟩
  have hb : 256 * i.val + r.val < 8192 := by have := lt_of_lt_of_eq i.isLt trips2; omega
  have e := emb1 (k0_off4 i) (k0_off4_inb i) _ (k0_off4_eq i) r l hb
  have hv := tileVal_apply hR x5 hkm i (qWin Q i) (qWin K i) (qWin W i) (win1' Q q hQ i) (win1' K k hK i) (win1' W v hW i) r l
  refine hv.trans ?_
  show _ = ((outAt q k v km (((Rect.unit (s := S1x8192x128) (k0_off4 i) S1x256x128.size (k0_off4_inb i)).emb (ix3 0 r l)) 1).val (((Rect.unit (s := S1x8192x128) (k0_off4 i) S1x256x128.size (k0_off4_inb i)).emb (ix3 0 r l)) 2).val : ℝ) : EReal)
  rw [e]
  rfl

end Cert.Proof.KernelIdeal
-- ==== Proof.KernelIdeal.ValueRun.lean ====
/- `KernelIdeal`'s run with the result named: at each grid point the body leaves `blockVal` of the blocks read. -/
module

public import proofs.«01_k».proof.Proof.KernelIdeal.BlockValue
public import proofs.«01_k».proof.Proof.Gen.KernelIdeal.Frame
public import Idealize.ShloMosaic.Lib.Tactic
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 4000000

variable (m : (ℓ : Loc nD τ sig) → Buf (Elt F) ℓ) (ρ : Dev nD → PrngReg)

/-- The body on any result buffer, leaving `blockVal`. -/
theorem bodyVal (c : Dev nD) (i : grid0.Coords) (M2 : Memref sig .tc .vmem S1x8192x128 .bf16) (h2 : M2.IsWhole) (M3 : Memref sig .tc .vmem S1x8192x128 .bf16) (h3 : M3.IsWhole) (M4 : Memref sig .tc .vmem S1x8192x128 .bf16) (h4 : M4.IsWhole) (M5 : Memref sig .tc .vmem S1x32x1x128 .f32) (h5 : M5.IsWhole) (M6 : Memref sig .tc .vmem S1x8192x128 .bf16) (h6 : M6.IsWhole) (h7 : (Memref.whole cc0_scratch0).IsWhole) (h8 : (Memref.whole cc0_scratch1).IsWhole) (M9 : Memref sig .tc .vmem S256x1024 .f32) (h9 : M9.IsWhole) (x2 : Vec F S1x8192x128 .bf16) (x3 : Vec F S1x8192x128 .bf16) (x4 : Vec F S1x8192x128 .bf16) (x5 : Vec F S1x32x1x128 .f32) (x6 : Vec F S1x8192x128 .bf16) (E : Set ℕ) (K : PUnit → sProp 𝕄) :
    iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ (∃ d, owns (c : Thread nD τ) (Memref.whole cc0_scratch0) fullShare d) ∗ (∃ d, owns (c : Thread nD τ) (Memref.whole cc0_scratch1) fullShare d) ∗ (∃ d, owns (c : Thread nD τ) M9 fullShare d)
        ∗ (iprop(owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare (blockVal x2 x3 x4 x5) ∗ (∃ d, owns (c : Thread nD τ) (Memref.whole cc0_scratch0) fullShare d) ∗ (∃ d, owns (c : Thread nD τ) (Memref.whole cc0_scratch1) fullShare d) ∗ (∃ d, owns (c : Thread nD τ) M9 fullShare d)) -∗ K ⟨⟩))
      ⊢ wp Idealize.ShloMosaic.frame (wpE (defs₀ (F := F)) 𝒱₀ c none) E (cc0_moba_prompt i M2 h2 M3 h3 M4 h4 M5 h5 M6 h6 (Memref.whole cc0_scratch0) h7 (Memref.whole cc0_scratch1) h8 M9 h9) K := by
  unfold owns
  iintro ⟨H2, H3, H4, H5, ⟨%f6, -, H6⟩, ⟨%d7, %f7, -, H7⟩, ⟨%d8, %f8, -, H8⟩, ⟨%d9, %f9, -, H9⟩, Hk⟩
  have hb := bodyRun c i M2 h2 M3 h3 M4 h4 M5 h5 M6 h6 (Memref.whole cc0_scratch0) h7 (Memref.whole cc0_scratch1) h8 M9 h9 x2 x3 x4 x5 f6 f7 f8 f9 E K
  unfold owns at hb
  iapply hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, ⟨%g7, H7⟩, ⟨%g8, H8⟩, ⟨%g9, H9⟩⟩
  iapply Hk
  isplitl [H2]; · iexact H2
  isplitl [H3]; · iexact H3
  isplitl [H4]; · iexact H4
  isplitl [H5]; · iexact H5
  isplitl [H6]
  · iexists _; isplitr; swap; · iexact H6
    ipureintro
    exact View.read_writes_eq_canon _ _ _ (fun y => pieces_cover _ _ _ _ _ _ _ _ _ _ _ _ _ _ _ y)
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

/-- The arrays as the region finds them, each input's buffer at its block, the result's at `blockVal`. -/
def vdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockVal (iblk m c 0 t) (iblk m c 1 t) (iblk m c 2 t) (iblk m c 3 t)
  Φ _ := Pipeline.ΦA spec0 c
  q _ := fullShare
  owed _ := 0

theorem vafter_0 (c : Dev nD) (t : Fin cfg0.N) : (vdats m 0 c).after 0 t = iblk m c 0 t := by dsimp only [vdats]
theorem vbefore_0 (c : Dev nD) (t : Fin cfg0.N) (d) : (vdats m 0 c).before 0 t d = iblk m c 0 t :=
  before0_0_of m (vdats m 0 c) rfl (vafter_0 m c) t d
theorem vafter_1 (c : Dev nD) (t : Fin cfg0.N) : (vdats m 0 c).after 1 t = iblk m c 1 t := by dsimp only [vdats]
theorem vbefore_1 (c : Dev nD) (t : Fin cfg0.N) (d) : (vdats m 0 c).before 1 t d = iblk m c 1 t :=
  before0_1_of m (vdats m 0 c) rfl (vafter_1 m c) t d
theorem vafter_2 (c : Dev nD) (t : Fin cfg0.N) : (vdats m 0 c).after 2 t = iblk m c 2 t := by dsimp only [vdats]
theorem vbefore_2 (c : Dev nD) (t : Fin cfg0.N) (d) : (vdats m 0 c).before 2 t d = iblk m c 2 t :=
  before0_2_of m (vdats m 0 c) rfl (vafter_2 m c) t d
theorem vafter_3 (c : Dev nD) (t : Fin cfg0.N) : (vdats m 0 c).after 3 t = iblk m c 3 t := by dsimp only [vdats]
theorem vbefore_3 (c : Dev nD) (t : Fin cfg0.N) (d) : (vdats m 0 c).before 3 t d = iblk m c 3 t :=
  before0_3_of m (vdats m 0 c) rfl (vafter_3 m c) t d
theorem vafter_4 (c : Dev nD) (t : Fin cfg0.N) : (vdats m 0 c).after 4 t = blockVal (iblk m c 0 t) (iblk m c 1 t) (iblk m c 2 t) (iblk m c 3 t) := by dsimp only [vdats]

theorem vobligation (c : Dev nD) : BodyObligation (vdats (F := F) m 0 c) (defs₀ (F := F)) 𝒱₀ () Set.univ := fun t => by
  rw [bigSep_W0, bigSep_W0]
  sl_whnfR [defs₀, Defs.onTc]
  simp only [vbefore_0, vbefore_1, vbefore_2, vbefore_3]
  rw [show (vdats m 0 c).Φ t.succ = (vdats m 0 c).Φ t.castSucc from rfl,
    show (vdats m 0 c).owesAt () t.succ = (vdats m 0 c).owesAt () t.castSucc from rfl, vafter_0, vafter_1, vafter_2, vafter_3, vafter_4,
    show (vdats m 0 c).Φ t.castSucc = Pipeline.ΦA spec0 c from rfl]
  unfold Pipeline.ΦA
  rw [scopedRest0_eq]
  simp only [← owns_whole (c : Thread nD τ)]
  iintro ⟨⟨⟨H7, H8, H9⟩, Hg⟩, Ho, ⟨%d0, H2⟩, ⟨%d1, H3⟩, ⟨%d2, H4⟩, ⟨%d3, H5⟩, ⟨%d4, H6⟩⟩
  iapply (bodyVal c _ _ _ _ _ _ _ _ _ _ _ _ _ _ _ (iblk m c 0 t) (iblk m c 1 t) (iblk m c 2 t) (iblk m c 3 t) _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  isplitl [H7 H8 H9 Hg]
  · isplitl [H7 H8 H9]
    · isplitl [H7]; · iexact H7
      isplitl [H8]; · iexact H8
      iexact H9
    iexact Hg
  isplitl [Ho]; · iexact Ho
  isplitl [H2]; · iexact H2
  isplitl [H3]; · iexact H3
  isplitl [H4]; · iexact H4
  isplitl [H5]; · iexact H5
  iexact H6

set_option backward.isDefEq.respectTransparency.types false in
theorem run_val : θ_run defs (onTc (τ := τ) (main (F := F))) (s₀ m ρ)
    (fun r => Pipeline.FramePost cfgs (vdats m) (0 : Fin 1) (V m) r ∧ r.2.sem = fun _ => 0) :=
  Pipeline.θ_run_frame cfgs (vdats m) (0 : Fin 1) launch0 defs₀ 𝒱₀ m ρ main
    (hbody := fun c => (vobligation m c).loose) (hshare := fun c => (vdats m 0 c).share_full fun _ => rfl)
    (howed := fun _ _ => rfl) (V := V m) (hmain := hmain m 𝒱₀) (hA := fun _ _ => rfl) (hΦ := fun _ _ => rfl) (Q' := _)

end Cert.Proof.KernelIdeal
-- ==== Proof.KernelIdeal.Result.lean ====
/- The array `KernelIdeal` leaves, on real arguments: each element is the attention of its row over its head. -/
module

public import proofs.«01_k».proof.Proof.KernelIdeal.ValueRun
public import Idealize.ShloMosaic.Lib.Claim
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat Cfg Window)
open Cert.Proof.Math Finset

variable (m : (ℓ : Loc nD τ sig) → Buf (Elt Ideal) ℓ) (c : Dev nD)

/-- The mean of key block `n`. -/
def kmR (k : ℕ → ℕ → ℕ → ℝ) (b n e : ℕ) : ℝ := (∑ r ∈ range 256, k b (256 * n + r) e) / 256

/-- Element `(b, s, e)` of the result. -/
def outR (q k v : ℕ → ℕ → ℕ → ℝ) (b s e : ℕ) : ℝ :=
  outAt (fun s l => q b s (128 * (e / 128) + l) * (1 / 8)) (fun s l => k b s (128 * (e / 128) + l)) (fun s l => v b s (128 * (e / 128) + l))
    (fun n l => kmR k b n (128 * (e / 128) + l)) s (e % 128)

theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, 0, t.val % 4] ∧ win0_4.index t = ![t.val / 4, 0, t.val % 4] :=
  (by decide +kernel : ∀ t : Fin grid0.N, _)

theorem c_eighth : Ideal.ofBits .f32 1040187392#32 = ((1 / 8 : ℝ) : EReal) := by
  simp [Ideal.ofBits, Ideal.ieee, -EReal.coe_mul]
  norm_num
theorem c_256 : Ideal.ofBits .f32 1132462080#32 = ((256 : ℝ) : EReal) := by
  simp [Ideal.ofBits, Ideal.ieee, -EReal.coe_mul]
  norm_num

variable (q k v : ℕ → ℕ → ℕ → ℝ)

/-- An array holding real numbers. -/
def IsReal (x : Vec Ideal S4x8192x512 .f32) (f : ℕ → ℕ → ℕ → ℝ) : Prop :=
  ∀ (b : Fin 4) (s : Fin 8192) (e : Fin 512), x (ix3 b s e) = ((f b.val s.val e.val : ℝ) : EReal)

theorem V_q (hq : IsReal (m ((c : Thread nD τ).loc main_arg0)) q) (b : Fin 4) (s : Fin 8192) (e : Fin 512) :
    V m c main_v7 (ix3 b s e) = ((q b.val s.val e.val * (1 / 8) : ℝ) : EReal) := by
  entry_read
  simp only [pointwise]
  rw [c_eighth]
  exact (congrArg (· * (((1 / 8 : ℝ)) : EReal)) (hq b s e)).trans (EReal.coe_mul _ _).symm

theorem V_k (hk : IsReal (m ((c : Thread nD τ).loc main_arg1)) k) (b : Fin 4) (s : Fin 8192) (e : Fin 512) :
    V m c main_v8 (ix3 b s e) = ((k b.val s.val e.val : ℝ) : EReal) := by
  entry_read
  simp only [pointwise]
  exact hk b s e

theorem V_v (hv : IsReal (m ((c : Thread nD τ).loc main_arg2)) v) (b : Fin 4) (s : Fin 8192) (e : Fin 512) :
    V m c main_v9 (ix3 b s e) = ((v b.val s.val e.val : ℝ) : EReal) := by
  entry_read
  simp only [pointwise]
  exact hv b s e

theorem V_km (hk : IsReal (m ((c : Thread nD τ).loc main_arg1)) k) (b : Fin 4) (n : Fin 32) (e : Fin 512) :
    V m c main_v4 (ix4 b n 0 e) = ((kmR k b.val n.val e.val : ℝ) : EReal) := by
  entry_read
  simp only [pointwise]
  rw [c_256, zero_add]
  refine (congrArg (Ideal.div · _) ((Finset.sum_congr rfl fun r _ => hk b ⟨n.val * 256 + r.val, by omega⟩ e).trans ?_)).trans (div_coe (∑ r ∈ range 256, k b.val (256 * n.val + r) e.val) 256 (by norm_num))
  rw [coe_sum, Finset.sum_range]
  exact congrArg Real.toEReal (Finset.sum_congr rfl fun r _ => by rw [show 256 * n.val + r.val = n.val * 256 + r.val by ring])

theorem block_apply (hq : IsReal (m ((c : Thread nD τ).loc main_arg0)) q) (hk : IsReal (m ((c : Thread nD τ).loc main_arg1)) k)
    (hv : IsReal (m ((c : Thread nD τ).loc main_arg2)) v) (t : Fin cfg0.N) (s : Fin 8192) (l : Fin 128) :
    blockVal (iblk m c 0 t) (iblk m c 1 t) (iblk m c 2 t) (iblk m c 3 t) (ix3 0 s l)
      = ((outR q k v (t.val / 4) s.val (128 * (t.val % 4) + l.val) : ℝ) : EReal) := by
  have ht : t.val < 16 := t.isLt
  refine (blockVal_apply _ _ _ _ (fun s l => q (t.val / 4) s (128 * (t.val % 4) + l) * (1 / 8)) (fun s l => k (t.val / 4) s (128 * (t.val % 4) + l))
    (fun s l => v (t.val / 4) s (128 * (t.val % 4) + l)) (fun n l => kmR k (t.val / 4) n (128 * (t.val % 4) + l)) ?_ ?_ ?_ ?_ s l).trans ?_
  · intro s l
    refine Eq.trans ?_ (V_q m c q hq ⟨t.val / 4, by omega⟩ s ⟨128 * (t.val % 4) + l.val, by omega⟩)
    blk_ext [iblk, idx t]
  · intro s l
    refine Eq.trans ?_ (V_k m c k hk ⟨t.val / 4, by omega⟩ s ⟨128 * (t.val % 4) + l.val, by omega⟩)
    blk_ext [iblk, idx t]
  · intro s l
    refine Eq.trans ?_ (V_v m c v hv ⟨t.val / 4, by omega⟩ s ⟨128 * (t.val % 4) + l.val, by omega⟩)
    blk_ext [iblk, idx t]
  · intro n l
    refine Eq.trans ?_ (V_km m c k hk ⟨t.val / 4, by omega⟩ n ⟨128 * (t.val % 4) + l.val, by omega⟩)
    blk_ext [iblk, idx t]
  · unfold outR
    rw [show (128 * (t.val % 4) + l.val) / 128 = t.val % 4 by omega, show (128 * (t.val % 4) + l.val) % 128 = l.val by omega]

theorem final (hq : IsReal (m ((c : Thread nD τ).loc main_arg0)) q) (hk : IsReal (m ((c : Thread nD τ).loc main_arg1)) k)
    (hv : IsReal (m ((c : Thread nD τ).loc main_arg2)) v) :
    (vdats m 0 c).arrAt 4 cfg0.N = (fun j => ((outR q k v (j 0).val (j 1).val (j 2).val : ℝ) : EReal) : Vec Ideal S4x8192x512 .bf16) := by
  refine (vdats m 0 c).arrAt_eq_of_covers 4 _ (by decide +kernel) fun t hf y => ?_
  blk_simp [idx t]
  rw [vafter_4]
  obtain ⟨s, l, rfl⟩ : ∃ (s : Fin 8192) (l : Fin 128), y = (ix3 0 s l : S1x8192x128.Idx) := ⟨y 1, y 2, ix3_eta' y⟩
  rw [show t.val % 4 * 128 = 128 * (t.val % 4) from Nat.mul_comm _ _]
  exact block_apply m c q k v hq hk hv t s l

end Cert.Proof.KernelIdeal
-- ==== Proof.Reference.lean ====
/- The reference's stages read at an index, on real arguments. -/
module

public import proofs.«01_k».proof.Proof.Sort
public import proofs.«01_k».proof.Proof.KernelIdeal.Result
public import proofs.«01_k».proof.Proof.Gen.ReferenceIdeal.Read

@[expose] public section

set_option maxRecDepth 16384

noncomputable section

namespace Cert.Proof.Reference

open Cert.ReferenceIdeal Cert.ReferenceIdeal.Gen Cert.ReferenceIdeal.Read
open Idealize.ShloMosaic Idealize.ShloMosaic.TcCoe Idealize.ShloMosaic.Tactic
open Cert.Proof.Math Finset
open Cert.Proof.KernelIdeal (IsReal kmR outR outAt dotH c_256 c_eighth c_zero c_bot)

variable (x0 x1 x2 : Vec Ideal S4x8192x512 .f32) (q k v : ℕ → ℕ → ℕ → ℝ)

/-! ## Blocks as words -/

theorem own_word : ∀ (a : Fin 32) (b : Fin 256),
    Scalar.select (IntOp.andi (IntOp.cmpi .ne (if BitVec.ofNat 32 (256 * a.val + b.val) = 0 then 0 else if (BitVec.ofNat 32 (256 * a.val + b.val)).msb then -1 else 1 : BitVec 32) (if (256#32 : BitVec 32) = 0 then 0 else if (256#32 : BitVec 32).msb then -1 else 1 : BitVec 32))
        (IntOp.cmpi .ne (IntOp.remsi .host (BitVec.ofNat 32 (256 * a.val + b.val)) 256#32) 0#32))
      (IntOp.subi (IntOp.divsi .host (BitVec.ofNat 32 (256 * a.val + b.val)) 256#32) 1#32) (IntOp.divsi .host (BitVec.ofNat 32 (256 * a.val + b.val)) 256#32) = BitVec.ofNat 32 a.val := by
  decide +kernel

theorem v9_at (s : Fin 8192) : val_main_v9 (F := Ideal) (ix1 s) = BitVec.ofNat 32 (s.val / 256) := by
  have h := own_word ⟨s.val / 256, by omega⟩ ⟨s.val % 256, by omega⟩
  simp only [show 256 * (s.val / 256) + s.val % 256 = s.val by omega] at h
  exact h

theorem toInt_small (a : ℕ) (ha : a < 8192) : (BitVec.ofNat 32 a).toInt = a := by
  have e : (BitVec.ofNat 32 a).toNat = a := by rw [BitVec.toNat_ofNat]; omega
  rw [BitVec.toInt_eq_toNat_of_lt (by rw [e]; omega), e]

theorem ofBool_one (p : Bool) : BitVec.ofBool p = 1#1 ↔ p = true := by cases p <;> decide

theorem slt_ofNat (a b : ℕ) (ha : a < 8192) (hb : b < 8192) : IntOp.cmpi .slt (BitVec.ofNat 32 a) (BitVec.ofNat 32 b) = 1#1 ↔ a < b := by
  unfold IntOp.cmpi
  simp [ofBool_one, BitVec.slt, toInt_small, ha, hb]

theorem sle_ofNat (a b : ℕ) (ha : a < 8192) (hb : b < 8192) : IntOp.cmpi .sle (BitVec.ofNat 32 a) (BitVec.ofNat 32 b) = 1#1 ↔ a ≤ b := by
  unfold IntOp.cmpi
  simp [ofBool_one, BitVec.sle, toInt_small, ha, hb]

theorem eq_ofNat (a b : ℕ) (ha : a < 8192) (hb : b < 8192) : IntOp.cmpi .eq (BitVec.ofNat 32 a) (BitVec.ofNat 32 b) = 1#1 ↔ a = b := by
  unfold IntOp.cmpi
  have e : BitVec.ofNat 32 a = BitVec.ofNat 32 b ↔ a = b :=
    ⟨fun h => by have := congrArg BitVec.toInt h; rw [toInt_small a ha, toInt_small b hb] at this; exact_mod_cast this, fun h => h ▸ rfl⟩
  rw [ofBool_one, beq_iff_eq, e]

theorem and_one (a b : BitVec 1) : IntOp.andi a b = 1#1 ↔ a = 1#1 ∧ b = 1#1 := by
  revert a b; decide
theorem or_one (a b : BitVec 1) : IntOp.ori a b = 1#1 ↔ a = 1#1 ∨ b = 1#1 := by
  revert a b; decide

/-! ## The reshaped arguments, the block means -/

theorem v0_at (h0 : IsReal x0 q) (b : Fin 4) (s : Fin 8192) (h : Fin 8) (d : Fin 64) :
    val_main_v0 (F := Ideal) x0 (ix4 b s h d) = ((q b.val s.val (64 * h.val + d.val) : ℝ) : EReal) := by
  rw [val_main_v0_apply]
  refine Eq.trans (congrArg x0 (funext fun a => Fin.ext ?_)) (h0 b s ⟨64 * h.val + d.val, by omega⟩)
  fin_cases a
  · show (((b.val * 8192 + s.val) * 8 + h.val) * 64 + d.val) / 4194304 = b.val; omega
  · show (((b.val * 8192 + s.val) * 8 + h.val) * 64 + d.val) / 512 % 8192 = s.val; omega
  · show (((b.val * 8192 + s.val) * 8 + h.val) * 64 + d.val) % 512 = 64 * h.val + d.val; omega

theorem v1_at (h1 : IsReal x1 k) (b : Fin 4) (s : Fin 8192) (h : Fin 8) (d : Fin 64) :
    val_main_v1 (F := Ideal) x1 (ix4 b s h d) = ((k b.val s.val (64 * h.val + d.val) : ℝ) : EReal) := v0_at x1 k h1 b s h d

theorem v2_at (h2 : IsReal x2 v) (b : Fin 4) (s : Fin 8192) (h : Fin 8) (d : Fin 64) :
    val_main_v2 (F := Ideal) x2 (ix4 b s h d) = ((v b.val s.val (64 * h.val + d.val) : ℝ) : EReal) := v0_at x2 v h2 b s h d

theorem v3_at (h1 : IsReal x1 k) (b : Fin 4) (n : Fin 32) (r : Fin 256) (h : Fin 8) (d : Fin 64) :
    val_main_v3 (F := Ideal) x1 (idx_main_v4 (ix4 b n h d) r) = ((k b.val (256 * n.val + r.val) (64 * h.val + d.val) : ℝ) : EReal) := by
  rw [val_main_v3_apply]
  refine Eq.trans (congrArg (val_main_v1 (F := Ideal) x1) (funext fun a => Fin.ext ?_)) (v1_at x1 k h1 b ⟨256 * n.val + r.val, by omega⟩ h d)
  fin_cases a
  · show ((((b.val * 32 + n.val) * 256 + r.val) * 8 + h.val) * 64 + d.val) / 4194304 = b.val; omega
  · show ((((b.val * 32 + n.val) * 256 + r.val) * 8 + h.val) * 64 + d.val) / 512 % 8192 = 256 * n.val + r.val; omega
  · show ((((b.val * 32 + n.val) * 256 + r.val) * 8 + h.val) * 64 + d.val) / 64 % 8 = h.val; omega
  · show ((((b.val * 32 + n.val) * 256 + r.val) * 8 + h.val) * 64 + d.val) % 64 = d.val; omega

theorem v6_at (h1 : IsReal x1 k) (b : Fin 4) (n : Fin 32) (h : Fin 8) (d : Fin 64) :
    val_main_v6 (F := Ideal) x1 (ix4 b n h d) = ((kmR k b.val n.val (64 * h.val + d.val) : ℝ) : EReal) := by
  rw [val_main_v6_apply, val_main_v4_apply, val_main_v5_apply]
  simp only [v3_at x1 k h1]
  show Ideal.div (Ideal.ofBits .f32 0x00000000#32 + _) (Ideal.ofBits .f32 1132462080#32) = _
  rw [c_zero, c_256, zero_add, coe_sum, div_coe _ _ (by norm_num)]
  unfold kmR
  rw [Finset.sum_range]

/-- The block scores of head `h`'s row `s`. -/
def sc (b h s n : ℕ) : ℝ := ∑ d ∈ range 64, q b s (64 * h + d) * kmR k b n (64 * h + d)

/-- The scores of head `h`'s row `s`. -/
def lg (b h s t : ℕ) : ℝ := ∑ d ∈ range 64, q b s (64 * h + d) * (1 / 8) * k b t (64 * h + d)

theorem v15_at (h0 : IsReal x0 q) (h1 : IsReal x1 k) (b : Fin 4) (h : Fin 8) (s : Fin 8192) (n : Fin 32) :
    val_main_v15 (F := Ideal) x0 x1 (ix4 b h s n) = ((sc q k b.val h.val s.val n.val : ℝ) : EReal) := by
  rw [val_main_v15_apply]
  unfold sc
  rw [Finset.sum_range, ← coe_sum]
  refine Finset.sum_congr rfl fun d _ => ?_
  rw [EReal.coe_mul]
  refine congrArg₂ (· * ·) ((congrArg (val_main_v0 (F := Ideal) x0) ?_).trans (v0_at x0 q h0 b s h d)) ((congrArg (val_main_v6 (F := Ideal) x1) ?_).trans (v6_at x1 k h1 b n h d))
  · funext a; fin_cases a <;> rfl
  · funext a; fin_cases a <;> rfl

theorem v45_at (h0 : IsReal x0 q) (h1 : IsReal x1 k) (b : Fin 4) (h : Fin 8) (s t : Fin 8192) :
    val_main_v45 (F := Ideal) x0 x1 (ix4 b h s t) = ((lg q k b.val h.val s.val t.val : ℝ) : EReal) := by
  rw [val_main_v45_apply]
  unfold lg
  rw [Finset.sum_range, ← coe_sum]
  refine Finset.sum_congr rfl fun d _ => ?_
  rw [EReal.coe_mul, EReal.coe_mul, val_main_v44_apply, val_main_v43_apply]
  refine congrArg₂ (· * ·) (congrArg₂ (· * ·) ((congrArg (val_main_v0 (F := Ideal) x0) ?_).trans (v0_at x0 q h0 b s h d)) c_eighth) ((congrArg (val_main_v1 (F := Ideal) x1) ?_).trans (v1_at x1 k h1 b t h d))
  · funext a; fin_cases a <;> rfl
  · funext a; fin_cases a <;> rfl

theorem v14_at (s : Fin 8192) (n : Fin 32) : val_main_v14 (F := Ideal) (ix2 s n) = 1#1 ↔ n.val < s.val / 256 := by
  rw [val_main_v14_apply, val_main_v12_apply, val_main_v13_apply, val_main_v10_apply, val_main_v11_apply]
  have e : val_main_v9 (F := Ideal) (idx_main_v11 (idx_main_v13 (ix2 s n))) = BitVec.ofNat 32 (s.val / 256) := by
    refine Eq.trans (congrArg _ ?_) (v9_at s)
    funext a; fin_cases a; rfl
  rw [e]
  exact slt_ofNat n.val _ (by omega) (by omega)

theorem v16_at (h0 : IsReal x0 q) (h1 : IsReal x1 k) (b : Fin 4) (h : Fin 8) (s : Fin 8192) (n : Fin 32) :
    val_main_v16 (F := Ideal) x0 x1 (ix4 b h s n) = if n.val < s.val / 256 then ((sc q k b.val h.val s.val n.val : ℝ) : EReal) else ⊥ := by
  rw [val_main_v16_apply, v15_at x0 x1 q k h0 h1, val_main_call1_v1_apply, val_main_call1_v2_apply]
  have e : val_main_v14 (F := Ideal) (idx_main_call1_v1 (ix4 b h s n)) = val_main_v14 (F := Ideal) (ix2 s n) := by
    refine congrArg _ ?_
    funext a; fin_cases a <;> rfl
  rw [e]
  unfold Scalar.select
  by_cases hn : n.val < s.val / 256
  · rw [if_pos hn, if_pos (show _ = (1 : BitVec 1) from (v14_at s n).mpr hn)]
  · rw [if_neg hn, if_neg (show ¬ _ = (1 : BitVec 1) from fun hh => hn ((v14_at s n).mp hh))]
    exact c_bot

/-! ## The three blocks picked -/

attribute [local irreducible] sortedFrom

theorem indices_at (b : Fin 4) (h : Fin 8) (s : Fin 8192) (j : Fin 3) :
    val_main_indices (F := Ideal) x0 x1 (ix4 b h s j) = BitVec.ofNat 32 (sortedFrom (fun n n' : Fin 32 =>
      Ideal.cmp .ogt (val_main_v16 (F := Ideal) x0 x1 (ix4 b h s n)) (val_main_v16 (F := Ideal) x0 x1 (ix4 b h s n')) == 1#1) ⟨j.val, by omega⟩).val := by
  unfold val_main_indices
  generalize val_main_v16 (F := Ideal) x0 x1 = y
  unfold Host.topK
  dsimp only
  refine (extractStridedSlice_apply _ _ _ _ (ix4 b h s (⟨j.val, by omega⟩ : Fin 32)) (fun a => ?_)).trans ?_
  · fin_cases a <;> exact (Nat.zero_add _).symm
  · unfold Host.sort2
    rw [dif_pos (by decide)]
    have al : ∀ n : Fin 32, Shape.Idx.along (s := S4x8x8192x32) (ix4 b h s (⟨j.val, by omega⟩ : Fin 32)) 3 n = ix4 b h s n := fun n => by
      funext a; fin_cases a <;> rfl
    have e : (fun n n' : Fin 32 => Ideal.cmp .ogt (y (Shape.Idx.along (s := S4x8x8192x32) (ix4 b h s (⟨j.val, by omega⟩ : Fin 32)) 3 n)) (y (Shape.Idx.along (s := S4x8x8192x32) (ix4 b h s (⟨j.val, by omega⟩ : Fin 32)) 3 n')) == 1#1)
        = fun n n' : Fin 32 => Ideal.cmp .ogt (y (ix4 b h s n)) (y (ix4 b h s n')) == 1#1 := by
      funext n n'; rw [al, al]
    rw [← e]
    dsimp only
    rfl

theorem v22_at (i : S4x8x8192x32x3.Idx) : val_main_v22 (F := Ideal) x0 x1 i
    = IntOp.cmpi .eq (val_main_indices (F := Ideal) x0 x1 (ix4 (i 0) (i 1) (i 2) (i 4))) (BitVec.ofNat 32 (i 3).val) := by
  rw [val_main_v22_apply, val_main_v20_apply, val_main_v17_apply, val_main_v21_apply, val_main_v19_apply, val_main_v18_apply, val_main_v7_apply]
  refine congrArg (IntOp.cmpi .eq · _) (congrArg (val_main_indices (F := Ideal) x0 x1) ?_)
  funext a; fin_cases a <;> rfl

theorem v23_at (h0 : IsReal x0 q) (h1 : IsReal x1 k) (b : Fin 4) (h : Fin 8) (s : Fin 8192) (n : Fin 32) :
    val_main_v23 (F := Ideal) x0 x1 (ix4 b h s n) = 1#1 ↔ cntE (fun n : Fin 32 => val_main_v16 (F := Ideal) x0 x1 (ix4 b h s n)) n < 3 := by
  unfold val_main_v23
  have hR : S4x8x8192x32x3.Reduces [(4 : Fin 5)] S4x8x8192x32 := by decide
  rw [Host.reduce_eq_fold_single IntOp.ori _ _ reducesTo_S4x8x8192x32x3_S4x8x8192x32_d4 hR h_S_]
  refine (Finset.fold_op_rel_iff_or (r := fun _ y : BitVec 1 => y = 1#1) (c := 1#1) (fun {x y z} => or_one y z)).trans ?_
  have hl : ∀ j : Fin 3, val_main_v22 (F := Ideal) x0 x1 (hR.lift (ix4 b h s n) j)
      = IntOp.cmpi .eq (val_main_indices (F := Ideal) x0 x1 (ix4 b h s j)) (BitVec.ofNat 32 n.val) := fun j => by
    have e : (ix4 (hR.lift (ix4 b h s n) j 0) (hR.lift (ix4 b h s n) j 1) (hR.lift (ix4 b h s n) j 2) (hR.lift (ix4 b h s n) j 4) : S4x8x8192x3.Idx) = ix4 b h s j := by
      funext a; fin_cases a <;> rfl
    have e' : (hR.lift (ix4 b h s n) j 3).val = n.val := rfl
    rw [v22_at, e, e']
  rw [← top_three (fun n : Fin 32 => val_main_v16 (F := Ideal) x0 x1 (ix4 b h s n)) (fun n n' : Fin 32 =>
      Ideal.cmp .ogt (val_main_v16 (F := Ideal) x0 x1 (ix4 b h s n)) (val_main_v16 (F := Ideal) x0 x1 (ix4 b h s n')) == 1#1) (fun n n' => ?_)]
  · constructor
    · rintro (hc | ⟨⟨j, hj3⟩, -, hj⟩)
      · exact absurd (show (0#1 : BitVec 1) = 1#1 from hc) (by decide)
      · have hj' : j < 3 := hj3
        have hw := (hl ⟨j, hj'⟩).symm.trans hj
        rw [indices_at, eq_ofNat _ _ (by omega) (by omega)] at hw
        exact ⟨⟨j, by omega⟩, hj', Fin.ext hw⟩
    · rintro ⟨j, hj, e⟩
      refine .inr ⟨(⟨j.val, hj⟩ : Fin 3), mem_univ _, (hl ⟨j.val, hj⟩).trans ?_⟩
      rw [indices_at, eq_ofNat _ _ (by omega) (by omega)]
      exact congrArg Fin.val e
  · rw [beq_iff_eq]
    unfold Ideal.cmp
    rw [ofBool_one, decide_eq_true_iff]

/-- Position `t`'s block is picked for row `s` or is its own, `t` no later than `s`. -/
theorem v42_at (h0 : IsReal x0 q) (h1 : IsReal x1 k) (b : Fin 4) (h : Fin 8) (s t : Fin 8192) :
    val_main_v42 (F := Ideal) x0 x1 (ix4 b h s t) = 1#1 ↔ okAt (sc q k b.val h.val s.val) s.val t.val := by
  rw [val_main_v42_apply, or_one, val_main_v39_apply, val_main_v38_apply, val_main_v26_apply, and_one, val_main_v25_apply, val_main_v24_apply, val_main_v41_apply, val_main_v40_apply,
    val_main_v37_apply, and_one, val_main_v31_apply, val_main_v36_apply, val_main_v29_apply, val_main_v30_apply, val_main_v34_apply, val_main_v35_apply, val_main_v27_apply, val_main_v28_apply, val_main_v32_apply, val_main_v33_apply,
    val_main_v8_apply, val_main_v8_apply]
  have e1 : idx_main_v38 (idx_main_v39 (ix4 b h s t)) = ix4 b h s (⟨t.val / 256, by omega⟩ : Fin 32) := by
    funext a
    refine Fin.ext ?_
    fin_cases a
    · show (((b.val * 8 + h.val) * 8192 + s.val) * 8192 + t.val) / 536870912 = b.val; omega
    · show (((b.val * 8 + h.val) * 8192 + s.val) * 8192 + t.val) / 67108864 % 8 = h.val; omega
    · show (((b.val * 8 + h.val) * 8192 + s.val) * 8192 + t.val) / 8192 % 8192 = s.val; omega
    · show (((b.val * 8 + h.val) * 8192 + s.val) * 8192 + t.val) / 256 % 32 = t.val / 256; omega
  rw [e1, v23_at x0 x1 q k h0 h1]
  have e2 : idx_main_v24 (idx_main_v25 (ix4 b h s (⟨t.val / 256, by omega⟩ : Fin 32))) = ix2 s (⟨t.val / 256, by omega⟩ : Fin 32) := by
    funext a; fin_cases a <;> rfl
  rw [e2, v14_at]
  have e3 : idx_main_v27 (idx_main_v29 (idx_main_v40 (idx_main_v41 (ix4 b h s t)))) = ix1 t := by
    funext a; fin_cases a; rfl
  have e4 : idx_main_v28 (idx_main_v30 (idx_main_v40 (idx_main_v41 (ix4 b h s t)))) = ix1 s := by
    funext a; fin_cases a; rfl
  rw [e3, e4, v9_at, v9_at, eq_ofNat _ _ (by omega) (by omega)]
  have e5 : IntOp.cmpi .sle (BitVec.ofNat 32 (idx_main_v32 (idx_main_v34 (idx_main_v40 (idx_main_v41 (ix4 b h s t)))) 0).val) (BitVec.ofNat 32 (idx_main_v33 (idx_main_v35 (idx_main_v40 (idx_main_v41 (ix4 b h s t)))) 0).val) = 1#1 ↔ t.val ≤ s.val :=
    sle_ofNat t.val s.val t.isLt s.isLt
  rw [e5]
  unfold okAt past
  refine or_congr_left ?_
  rw [and_comm]
  refine and_congr_right fun hn => ?_
  have e6 := cntE_eq (fun n : Fin 32 => val_main_v16 (F := Ideal) x0 x1 (ix4 b h s n)) (sc q k b.val h.val s.val) 0 (s.val / 256) (by omega)
    (fun n => by
      rw [v16_at x0 x1 q k h0 h1]
      refine if_congr ?_ rfl rfl
      omega) (t.val / 256) hn
  have e7 : (⟨0 + t.val / 256, by omega⟩ : Fin 32) = ⟨t.val / 256, by omega⟩ := Fin.ext (Nat.zero_add _)
  rw [e7] at e6
  rw [e6]

end Cert.Proof.Reference
-- ==== Proof.Softmax.lean ====
/- The reference's softmax and its result at an index, on real arguments: the same function the kernel writes. -/
module

public import proofs.«01_k».proof.Proof.Reference

@[expose] public section

set_option maxRecDepth 16384

noncomputable section

namespace Cert.Proof.Reference

open Cert.ReferenceIdeal Cert.ReferenceIdeal.Gen Cert.ReferenceIdeal.Read
open Idealize.ShloMosaic Idealize.ShloMosaic.TcCoe Idealize.ShloMosaic.Tactic
open Cert.Proof.Math Finset
open Cert.Proof.KernelIdeal (IsReal kmR outR outAt dotH c_256 c_eighth c_zero c_bot)

variable (x0 x1 x2 : Vec Ideal S4x8192x512 .f32) (q k v : ℕ → ℕ → ℕ → ℝ)

/-- The positions a row of a head may attend. -/
def okF (b h s : ℕ) (t : Fin 8192) : Prop := okAt (sc q k b h s) s t.val

theorem v46_at (h0 : IsReal x0 q) (h1 : IsReal x1 k) (b : Fin 4) (h : Fin 8) (s t : Fin 8192) :
    val_main_v46 (F := Ideal) x0 x1 (ix4 b h s t)
      = masked (okF q k b.val h.val s.val) (fun t : Fin 8192 => lg q k b.val h.val s.val t.val) t := by
  rw [val_main_v46_apply, v45_at x0 x1 q k h0 h1, val_main_call2_v1_apply]
  unfold Scalar.select masked
  by_cases ho : okF q k b.val h.val s.val t
  · rw [if_pos ho, if_pos (show _ = (1 : BitVec 1) from (v42_at x0 x1 q k h0 h1 b h s t).mpr ho)]
  · rw [if_neg ho, if_neg (show ¬ _ = (1 : BitVec 1) from fun hh => ho ((v42_at x0 x1 q k h0 h1 b h s t).mp hh))]
    exact c_bot

theorem row_reduces : S4x8x8192x8192.Reduces [(3 : Fin 4)] S4x8x8192 := by decide

theorem row_lift (b : Fin 4) (h : Fin 8) (s : Fin 8192) (t) :
   row_reduces.lift (ix3 b h s) t = ix4 b h s (⟨t.val, t.isLt⟩ : Fin 8192) := by
  funext a; refine Fin.ext ?_; fin_cases a <;> rfl

theorem row_fold (y : Vec Ideal S4x8x8192x8192 .f32)  (z : Vec Ideal S_ .f32) (b : Fin 4) (h : Fin 8) (s : Fin 8192) :
   Host.reduce (FloatOps.maximumf (F := Ideal) (φ := .f32)) y z reducesTo_S4x8x8192x8192_S4x8x8192_d3 h_S_ (ix3 b h s) = univ.fold (FloatOps.maximumf (F := Ideal) (φ := .f32)) (z (Shape.Idx.first h_S_)) (fun t => y (row_reduces.lift (ix3 b h s) t)) :=
  Host.reduce_eq_fold_single FloatOps.maximumf _ _ reducesTo_S4x8x8192x8192_S4x8x8192_d3 row_reduces h_S_ _

theorem fold_sup {n n' : ℕ} (e : n = n') (g : Fin n → EReal) (f : Fin n' → EReal) (h : ∀ t, g t = f (Fin.cast e t)) :
    univ.fold (FloatOps.maximumf (F := Ideal) (φ := .f32)) (⊥ : EReal) g = univ.sup f := by
  subst e
  rw [show g = f from funext h]; rfl

theorem row_size : S4x8x8192x8192.size 3 = 8192 := rfl

theorem row_sup (y : Vec Ideal S4x8x8192x8192 .f32)  (z : Vec Ideal S_ .f32) (hz : z (Shape.Idx.first h_S_) = (⊥ : EReal)) (b : Fin 4) (h : Fin 8) (s : Fin 8192)
   (f : Fin 8192 → EReal) (hf : ∀ t, y (ix4 b h s t) = f t) :
   Host.reduce (FloatOps.maximumf (F := Ideal) (φ := .f32)) y z reducesTo_S4x8x8192x8192_S4x8x8192_d3 h_S_ (ix3 b h s) = univ.sup f := by
  rw [row_fold, hz]
  refine fold_sup row_size _ _ fun t => ?_
  rw [row_lift]; exact hf _

theorem hostDivf_coe (a b : ℝ) (hb : b ≠ 0) :
    FloatOps.hostDivf (F := Ideal) (φ := .f32) ((a : ℝ) : EReal) ((b : ℝ) : EReal) = ((a / b : ℝ) : EReal) := div_coe a b hb

theorem v47_at (h0 : IsReal x0 q) (h1 : IsReal x1 k) (b : Fin 4) (h : Fin 8) (s : Fin 8192) :
    val_main_v47 (F := Ideal) x0 x1 (ix3 b h s)
      = univ.sup (masked (okF q k b.val h.val s.val) (fun t : Fin 8192 => lg q k b.val h.val s.val t.val)) := by
  unfold val_main_v47
  exact row_sup _ _ c_bot b h s _ (v46_at x0 x1 q k h0 h1 b h s)

theorem row_max (h0 : IsReal x0 q) (h1 : IsReal x1 k) (b : Fin 4) (h : Fin 8) (s : Fin 8192) :
    ∃ M : ℝ, val_main_v49 (F := Ideal) x0 x1 (ix3 b h s) = ((M : ℝ) : EReal) := by
  obtain ⟨M, hM⟩ := sup_real (okF q k b.val h.val s.val) (fun t : Fin 8192 => lg q k b.val h.val s.val t.val) ⟨s, .inr ⟨rfl, le_rfl⟩⟩
  refine ⟨M, ?_⟩
  rw [val_main_v49_apply, v47_at x0 x1 q k h0 h1, hM, val_main_v48_apply]
  have hb : (val_main_cst_6 (F := Ideal)) (idx_main_v48 (ix3 b h s)) = (⊥ : EReal) := c_bot
  rw [hb]
  exact max_eq_right bot_le

open Classical in
theorem v53_at (h0 : IsReal x0 q) (h1 : IsReal x1 k) (b : Fin 4) (h : Fin 8) (s : Fin 8192) (M : ℝ)
    (hM : val_main_v49 (F := Ideal) x0 x1 (ix3 b h s) = ((M : ℝ) : EReal)) (t : Fin 8192) :
    val_main_v53 (F := Ideal) x0 x1 (ix4 b h s t)
      = ((Real.exp (-M) * (if okAt (sc q k b.val h.val s.val) s.val t.val then Real.exp (lg q k b.val h.val s.val t.val) * 1 else 0) : ℝ) : EReal) := by
  rw [val_main_v53_apply, val_main_v52_apply, v46_at x0 x1 q k h0 h1, val_main_v51_apply, val_main_v50_apply]
  have e : idx_main_v50 (idx_main_v51 (ix4 b h s t)) = ix3 b h s := by
    funext a; fin_cases a <;> rfl
  rw [e, hM]
  refine Eq.trans ?_ (exp_term (okF q k b.val h.val s.val) (fun t : Fin 8192 => lg q k b.val h.val s.val t.val) M 1 t)
  rw [EReal.coe_one, mul_one]
  rfl

theorem v54_at (h0 : IsReal x0 q) (h1 : IsReal x1 k) (b : Fin 4) (h : Fin 8) (s : Fin 8192) (M : ℝ)
    (hM : val_main_v49 (F := Ideal) x0 x1 (ix3 b h s) = ((M : ℝ) : EReal)) :
    val_main_v54 (F := Ideal) x0 x1 (ix3 b h s)
      = ((Real.exp (-M) * gather (lg q k b.val h.val s.val) (sc q k b.val h.val s.val) (fun _ => 1) s.val : ℝ) : EReal) := by
  classical
  rw [val_main_v54_apply]
  have hz : (val_main_cst_7 (F := Ideal)) (Shape.Idx.first h_S_) = (0 : EReal) := c_zero
  rw [hz, zero_add]
  unfold gather
  rw [Finset.sum_range, mul_sum, ← coe_sum]
  refine Finset.sum_congr rfl fun t _ => ?_
  have e : idx_main_v54 (ix3 b h s) t = ix4 b h s t := by
    funext a; fin_cases a <;> rfl
  rw [e, v53_at x0 x1 q k h0 h1 b h s M hM]

open Classical in
theorem v57_at (h0 : IsReal x0 q) (h1 : IsReal x1 k) (b : Fin 4) (h : Fin 8) (s t : Fin 8192) :
    val_main_v57 (F := Ideal) x0 x1 (ix4 b h s t)
      = (((if okAt (sc q k b.val h.val s.val) s.val t.val then Real.exp (lg q k b.val h.val s.val t.val) * 1 else 0)
          / gather (lg q k b.val h.val s.val) (sc q k b.val h.val s.val) (fun _ => 1) s.val : ℝ) : EReal) := by
  obtain ⟨M, hM⟩ := row_max x0 x1 q k h0 h1 b h s
  have hpos := gather_pos (lg q k b.val h.val s.val) (sc q k b.val h.val s.val) s.val s.isLt
  have e3 : idx_main_v55 (idx_main_v56 (ix4 b h s t)) = ix3 b h s := by
    funext a; fin_cases a <;> rfl
  rw [val_main_v57_apply, v53_at x0 x1 q k h0 h1 b h s M hM, val_main_v56_apply, val_main_v55_apply, e3, v54_at x0 x1 q k h0 h1 b h s M hM]
  rw [hostDivf_coe _ _ (mul_ne_zero (Real.exp_ne_zero _) hpos.ne')]
  rw [mul_div_mul_left _ _ (Real.exp_ne_zero _)]

theorem v58_at (h0 : IsReal x0 q) (h1 : IsReal x1 k) (h2 : IsReal x2 v) (b : Fin 4) (h : Fin 8) (d : Fin 64) (s : Fin 8192) :
    val_main_v58 (F := Ideal) x0 x1 x2 (ix4 b h d s)
      = ((att (lg q k b.val h.val s.val) (sc q k b.val h.val s.val) (fun t => v b.val t (64 * h.val + d.val)) s.val : ℝ) : EReal) := by
  classical
  rw [val_main_v58_apply]
  have ht : ∀ t : Fin 8192, val_main_v2 (F := Ideal) x2 (lidx_main_v58 (ix4 b h d s) t) * val_main_v57 (F := Ideal) x0 x1 (ridx_main_v58 (ix4 b h d s) t)
      = (((if okAt (sc q k b.val h.val s.val) s.val t.val then Real.exp (lg q k b.val h.val s.val t.val) * v b.val t.val (64 * h.val + d.val) else 0)
          / gather (lg q k b.val h.val s.val) (sc q k b.val h.val s.val) (fun _ => 1) s.val : ℝ) : EReal) := fun t => by
    have e1 : lidx_main_v58 (ix4 b h d s) t = ix4 b t h d := by
      funext a; fin_cases a <;> rfl
    have e2 : ridx_main_v58 (ix4 b h d s) t = ix4 b h s t := by
      funext a; fin_cases a <;> rfl
    rw [e1, e2, v2_at x2 v h2, v57_at x0 x1 q k h0 h1, ← EReal.coe_mul]
    refine congrArg Real.toEReal ?_
    generalize gather (lg q k b.val h.val s.val) (sc q k b.val h.val s.val) (fun _ => 1) s.val = g
    split <;> ring
  rw [Finset.sum_congr rfl fun t _ => ht t, coe_sum, ← Finset.sum_div]
  unfold att
  generalize gather (lg q k b.val h.val s.val) (sc q k b.val h.val s.val) (fun _ => 1) s.val = g
  refine congrArg (fun x : ℝ => ((x / g : ℝ) : EReal)) ?_
  unfold gather
  rw [Finset.sum_range]

/-- Scaling the block scores by a positive number leaves the attention as it was. -/
theorem att_scale (c : ℝ) (hc : 0 < c) (L g g' w : ℕ → ℝ) (hg : ∀ n, g' n = c * g n) (s : ℕ) : att L g' w s = att L g w s := by
  have e : g' = fun n => c * g n := funext hg
  have ho : ∀ t, okAt g' s t ↔ okAt g s t := fun t => by
    unfold okAt past
    rw [e, cnt_scale c hc]
  have hs : ∀ w, gather L g' w s = gather L g w s := fun w => by
    classical
    unfold gather
    exact sum_congr rfl fun t _ => if_congr (ho t) rfl rfl
  unfold att
  rw [hs, hs]

theorem outR_eq (b s e : ℕ) :
    outR q k v b s e = att (lg q k b (e / 64) s) (sc q k b (e / 64) s) (fun t => v b t e) s := by
  unfold outR outAt
  have e1 : ∀ d, 128 * (e / 128) + (64 * (e % 128 / 64) + d) = 64 * (e / 64) + d := fun d => by omega
  have e2 : 128 * (e / 128) + e % 128 = e := by omega
  refine (att_scale (1 / 8) (by norm_num) _ (sc q k b (e / 64) s) _ _ (fun n => ?_) s).trans ?_
  · unfold dotH sc
    rw [mul_sum]
    refine sum_congr rfl fun d _ => ?_
    dsimp only
    rw [e1]; ring
  · dsimp only
    rw [e2]
    congr 1
    funext t
    unfold dotH lg
    refine sum_congr rfl fun d _ => ?_
    dsimp only
    rw [e1]

/-- The reference's result is the function the kernel writes. -/
theorem result (h0 : IsReal x0 q) (h1 : IsReal x1 k) (h2 : IsReal x2 v) :
    val_main_v61 (F := Ideal) x0 x1 x2 = (fun j => ((outR q k v (j 0).val (j 1).val (j 2).val : ℝ) : EReal)) := by
  funext j
  obtain ⟨b, s, e, rfl⟩ : ∃ (b : Fin 4) (s : Fin 8192) (e : Fin 512), j = ix3 b s e := ⟨j 0, j 1, j 2, by funext a; fin_cases a <;> rfl⟩
  rw [val_main_v61_apply, val_main_v60_apply, val_main_v59_apply]
  have ei : idx_main_v59 (idx_main_v60 (ix3 b s e)) = ix4 b (⟨e.val / 64, by omega⟩ : Fin 8) (⟨e.val % 64, by omega⟩ : Fin 64) s := by
    funext a
    refine Fin.ext ?_
    fin_cases a
    · show ((b.val * 8192 + s.val) * 512 + e.val) / 4194304 = b.val; omega
    · show ((b.val * 8192 + s.val) * 512 + e.val) / 64 % 8 = e.val / 64; omega
    · show ((b.val * 8192 + s.val) * 512 + e.val) % 64 = e.val % 64; omega
    · show ((b.val * 8192 + s.val) * 512 + e.val) / 512 % 8192 = s.val; omega
  rw [ei]
  refine (v58_at x0 x1 x2 q k v h0 h1 h2 b _ _ s).trans ?_
  show ((att (lg q k b.val (e.val / 64) s.val) (sc q k b.val (e.val / 64) s.val) (fun t => v b.val t (64 * (e.val / 64) + e.val % 64)) s.val : ℝ) : EReal) = ((outR q k v b.val s.val e.val : ℝ) : EReal)
  rw [outR_eq, show 64 * (e.val / 64) + e.val % 64 = e.val by omega]

end Cert.Proof.Reference
-- ==== Proof.Finite.lean ====
/- What the precondition says of an argument: every element is a real number. -/
module

public import proofs.«01_k».proof.Proof.KernelIdeal.Result
public import proofs.«01_k».proof.Proof.Gen.Pre_finite
public import Idealize.ShloMosaic.Lib.ReduceAll

@[expose] public section

set_option maxRecDepth 16384

noncomputable section

namespace Cert.Proof.Finite

open Idealize.ShloMosaic Idealize.ShloMosaic.TcCoe
open Cert.Pre_finite Cert.Pre_finite.Gen
open Cert.Proof.KernelIdeal (IsReal)

instance : Subsingleton S_.Idx := ⟨fun a b => funext fun i => i.elim0⟩

theorem c_top : Ideal.ofBits .f32 0x7F800000#32 = (⊤ : EReal) := by
  simp [Ideal.ofBits, Ideal.ieee]

/-- The real function an array holds. -/
def re (x : Vec Ideal S4x8192x512 .f32) (b s e : ℕ) : ℝ :=
  if h : b < 4 ∧ s < 8192 ∧ e < 512 then EReal.toReal (x (ix3 ⟨b, h.1⟩ ⟨s, h.2.1⟩ ⟨e, h.2.2⟩)) else 0

theorem below_top (x : EReal) (h : BitVec.ofBool (decide (max x (-x) < ⊤)) = 1#1) : x ≠ ⊤ ∧ x ≠ ⊥ := by
  have h' : max x (-x) < ⊤ := by
    by_contra hn
    rw [decide_eq_false hn] at h
    exact absurd h (by decide)
  obtain ⟨h1, h2⟩ := max_lt_iff.mp h'
  refine ⟨h1.ne, fun e => ?_⟩
  rw [e] at h2
  exact absurd h2 (by simp)

theorem isReal (x : Vec Ideal S4x8192x512 .f32)
    (h : ∀ i, cmpf .olt (Host.absf x) (broadcastInDim S4x8192x512 ![] bcast_S_S4x8192x512 (constant (F := Ideal) S_ .f32 0x7F800000#32)) i = 1#1) :
    IsReal x (re x) := fun b s e => by
  have hx := h (ix3 b s e)
  have hc : broadcastInDim S4x8192x512 ![] bcast_S_S4x8192x512 (constant (F := Ideal) S_ .f32 0x7F800000#32) (ix3 b s e) = (⊤ : EReal) := c_top
  have hb := below_top (x (ix3 b s e)) (by rw [← hx]; show _ = Ideal.cmp .olt _ (broadcastInDim S4x8192x512 ![] bcast_S_S4x8192x512 (constant (F := Ideal) S_ .f32 0x7F800000#32) (ix3 b s e)); rw [hc]; rfl)
  unfold re
  rw [dif_pos ⟨b.isLt, s.isLt, e.isLt⟩]
  exact (EReal.coe_toReal hb.1 hb.2).symm

theorem args (x y z : Vec Ideal S4x8192x512 .f32) (h : ∀ i, Cert.Pre_finite.fn (F := Ideal) x y z i = 1#1) :
    IsReal x (re x) ∧ IsReal y (re y) ∧ IsReal z (re z) := by
  have h0 := h (Shape.Idx.first h_S_)
  obtain ⟨h1, hz⟩ := IntOp.andi_eq_one.1 h0
  obtain ⟨hx, hy⟩ := IntOp.andi_eq_one.1 h1
  exact ⟨isReal x (Host.reduce_andi_all _ _ _ _ _ hx), isReal y (Host.reduce_andi_all _ _ _ _ _ hy), isReal z (Host.reduce_andi_all _ _ _ _ _ hz)⟩

end Cert.Proof.Finite
-- ==== Proof.lean ====
/- The certificate of four calls of one layer: the prompt's attention, the input projections of the prompt and of the
   decoding step, and the experts. Of each the frames of its programs, the named constants, and the equality of the kernel's results with the reference's. -/
module

public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Read
public import proofs.«01_k».proof.Proof.Gen.Pre_routed
public import proofs.«01_k».proof.Proof.Experts.Reference
public import proofs.«01_k».proof.Proof.Experts.Final
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Read
public import proofs.«01_k».proof.Proof.InProj.Reference
public import proofs.«01_k».proof.Proof.InProjSample.Reference
public import proofs.«01_k».proof.Proof.InProjSample.Result
public import proofs.«01_k».proof.Proof.InProj.Result
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Kernel.Run
public import proofs.«01_k».proof.Proof.KernelIdeal.Run
public import proofs.«01_k».proof.Proof.Softmax
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe
open Idealize.SL Idealize.SL.Sem

/-- The reference is host code only: it has no semaphore, and its run leaves the arguments as they were. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run m ρ)

/-- From real arguments the two programs end with the same result, the attention's. -/
theorem results (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal_finite m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  have hreal := fun c : Dev Cert.KernelIdeal.nD => Cert.Proof.Finite.args _ _ _ fun i => congrFun (hpre c) i
  refine ⟨fun c => (Cert.Proof.KernelIdeal.vdats m 0 c).arrAt 4 Cert.KernelIdeal.cfg0.N, ?_, ?_⟩
  · exact (θ_run Cert.KernelIdeal.defs _ _).mono (fun r h c => ⟨h.1.out_eq c 4,
      (h.1.rest_eq c Cert.KernelIdeal.main_arg0 (by decide)).trans (Cert.KernelIdeal.Gen.V_main_arg0 m c),
      (h.1.rest_eq c Cert.KernelIdeal.main_arg1 (by decide)).trans (Cert.KernelIdeal.Gen.V_main_arg1 m c),
      (h.1.rest_eq c Cert.KernelIdeal.main_arg2 (by decide)).trans (Cert.KernelIdeal.Gen.V_main_arg2 m c)⟩) (Cert.Proof.KernelIdeal.run_val m g)
  · refine (θ_run Cert.ReferenceIdeal.defs _ _).mono (fun r h c => ⟨(h c).1.trans ?_, (h c).2⟩) (Cert.ReferenceIdeal.Value.run m' g')
    obtain ⟨h0, h1, h2⟩ := hreal c
    rw [Cert.ReferenceIdeal.Read.val_main_v61_eq, (hag c).1, (hag c).2.1, (hag c).2.2]
    exact (Cert.Proof.Reference.result _ _ _ _ _ _ h0 h1 h2).trans (Cert.Proof.KernelIdeal.final m c _ _ _ h0 h1 h2).symm

/-- The second reference is host code only, too. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono
    (fun r h => ⟨fun c => (h c).2.2.2.2.2.2.2, Idealize.ShloMosaic.sem_eq_zero_of_no_sems (by decide) r.2⟩)
    (Cert.Reference2Ideal.Value.run m ρ)

/-- The input projection and its reference end with the same seven arrays. -/
theorem in_proj : Cert.algebraic_Kernel2Ideal_Reference2Ideal (hKernel2Ideal := Cert.Kernel2Ideal.Gen.facts) (hReference2Ideal := Cert.Reference2Ideal.Gen.facts) := by
  intro m g m' g' _ hag
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h46, h47, h48, h50, h52, h38, h43, hargs⟩ := h c
  rw [(hag c).1, (hag c).2.1, (hag c).2.2.1, (hag c).2.2.2] at h46 h47 h48 h50 h52 h38 h43
  refine ⟨h46.trans ?_, h47.trans ?_, h48.trans ?_, h50.trans ?_, h52.trans ?_, h38.trans ?_, h43.trans ?_, hargs⟩
  · rw [Cert.Reference2Ideal.Read.val_main_v46_eq]
    exact (Cert.Proof.InProj.Reference.q_eq _ _ _ _).trans (Cert.Proof.InProj.final5 m c).symm
  · rw [Cert.Reference2Ideal.Read.val_main_v47_eq]
    exact (Cert.Proof.InProj.Reference.k_eq _ _ _ _).trans (Cert.Proof.InProj.final6 m c).symm
  · rw [Cert.Reference2Ideal.Read.val_main_v48_eq]
    exact (Cert.Proof.InProj.Reference.v_eq _ _ _ _).trans (Cert.Proof.InProj.final7 m c).symm
  · rw [Cert.Reference2Ideal.Read.val_main_v50_eq]
    exact (Cert.Proof.InProj.Reference.kp_eq _ _ _ _).trans (Cert.Proof.InProj.final8 m c).symm
  · rw [Cert.Reference2Ideal.Read.val_main_v52_eq]
    exact (Cert.Proof.InProj.Reference.vp_eq _ _ _ _).trans (Cert.Proof.InProj.final9 m c).symm
  · rw [Cert.Reference2Ideal.Read.val_main_v38_eq]
    exact (Cert.Proof.InProj.Reference.u_eq _ _ _ _).trans (Cert.Proof.InProj.final10 m c).symm
  · rw [Cert.Reference2Ideal.Read.val_main_v43_eq]
    exact (Cert.Proof.InProj.Reference.km_eq _ _ _ _).trans (Cert.Proof.InProj.final11 m c).symm

/-- The third reference is host code only, too. -/
theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run m ρ)

/-- The experts and their exact form are one program: the bodies, and then the whole tables of functions. -/
theorem bodies3 : Cert.Kernel3.defs₀ (F := Bits) = Cert.Kernel3Ideal.defs₀ (F := Bits) :=
  congrArg (Defs.onTc (nD := Cert.Kernel3Ideal.nD) (τ := Cert.Kernel3Ideal.τ) (sig := Cert.Kernel3Ideal.sig) (Val := Elt Bits) (Λ := Cert.Kernel3Ideal.Λ₀))
    (funext fun l => match l with
      | 0 => funext fun (t, s) => rfl
      | ⟨_ + 1, h⟩ => absurd h (Nat.not_lt.2 (Nat.le_add_left _ _)))
theorem defs3 : Cert.Kernel3.defs (F := Bits) = Cert.Kernel3Ideal.defs (F := Bits) := congrArg (Pipeline.defs (Cert.Kernel3Ideal.pcfgs (F := Bits))) bodies3

/-- The experts leave their arguments, at machine numbers: the run of the exact program, which is the same. -/
theorem kernel3_frame : Cert.quiescent_Kernel3 (hKernel3 := Cert.Kernel3.Gen.facts) (hPre_routed := Cert.Pre_routed.Gen.facts) := by
  intro m ρ hpre
  rw [defs3]
  exact (θ_run (Cert.Kernel3Ideal.defs (F := Bits)) _ _).mono (fun r h => ⟨fun c => (h.1 c).2, h.2⟩)
    (Cert.Kernel3Ideal.Own.run_main (F := Bits) m ρ (Cert.Kernel3Ideal.Own.routed_of_pre _ _ _ _ _ _ _ fun i => congrFun (hpre 0) i))

/-- And over the extended reals. -/
theorem kernel3Ideal_frame : Cert.quiescent_Kernel3Ideal (hKernel3Ideal := Cert.Kernel3Ideal.Gen.facts) (hPre_routed := Cert.Pre_routed.Gen.facts) := fun m ρ hpre =>
  (θ_run (Cert.Kernel3Ideal.defs (F := Ideal)) _ _).mono (fun r h => ⟨fun c => (h.1 c).2, h.2⟩)
    (Cert.Kernel3Ideal.Own.run_main (F := Ideal) m ρ (Cert.Kernel3Ideal.Own.routed_of_pre _ _ _ _ _ _ _ fun i => congrFun (hpre 0) i))

/-- The experts and their reference end with the same array. -/
theorem experts : Cert.algebraic_Kernel3Ideal_Reference3Ideal (hKernel3Ideal := Cert.Kernel3Ideal.Gen.facts) (hReference3Ideal := Cert.Reference3Ideal.Gen.facts)
    (hPre_routed := Cert.Pre_routed.Gen.facts) := by
  intro m g m' g' hpre hag
  have hr := Cert.Kernel3Ideal.Own.routed_of_pre (F := Ideal) _ _ _ _ _ _ _ fun i => congrFun (hpre 0) i
  refine ⟨fun c => (Cert.Kernel3Ideal.Own.dats (Cert.Kernel3Ideal.Own.tabs m hr) m g 0 c).arrAt (5 : Fin 6) (Cert.Kernel3Ideal.Own.cfgA (Cert.Kernel3Ideal.Own.tabs m hr)).N,
    (θ_run (Cert.Kernel3Ideal.defs (F := Ideal)) _ _).mono (fun r h => h.1) (Cert.Kernel3Ideal.Own.run_main m g hr), ?_⟩
  refine (θ_run Cert.Reference3Ideal.defs _ _).mono (fun r h c => ⟨(h c).1.trans ?_, (h c).2⟩) (Cert.Reference3Ideal.Value.run m' g')
  obtain rfl : c = 0 := Subsingleton.elim _ _
  obtain ⟨h0, h1, h2, h3, h4, h5, h6⟩ := hag 0
  rw [Cert.Reference3Ideal.Read.val_main_v33_eq, h0, h1, h2, h3, h4, h5, h6]
  exact (Cert.Proof.Experts.Reference.result_eq _ _ _ _ _ _ _).trans (Cert.Kernel3Ideal.Own.arr_eq (Cert.Kernel3Ideal.Own.tabs m hr) m g hr 0).symm

/-- The fourth reference is host code only, too. -/
theorem reference4_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run Cert.Reference4Ideal.defs _ _).mono
    (fun r h => ⟨fun c => (h c).2.2.2.2, Idealize.ShloMosaic.sem_eq_zero_of_no_sems (by decide) r.2⟩)
    (Cert.Reference4Ideal.Value.run m ρ)

/-- The decoding step's input projection and its reference end with the same four arrays. -/
theorem in_proj_sample : Cert.algebraic_Kernel4Ideal_Reference4Ideal (hKernel4Ideal := Cert.Kernel4Ideal.Gen.facts) (hReference4Ideal := Cert.Reference4Ideal.Gen.facts) := by
  intro m g m' g' _ hag
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 7 Cert.Kernel4Ideal.cfg0.N, fun c => (Cert.Kernel4Ideal.Gen.dats m 0 c).arrAt 8 Cert.Kernel4Ideal.cfg0.N,
    Cert.Proof.InProjSample.run m g, ?_⟩
  refine (θ_run Cert.Reference4Ideal.defs _ _).mono (fun r h c => ?_) (Cert.Reference4Ideal.Value.run m' g')
  obtain ⟨h42, h44, h46, h47, hargs⟩ := h c
  rw [(hag c).1, (hag c).2.1, (hag c).2.2.1, (hag c).2.2.2] at h42 h44 h46 h47
  refine ⟨h42.trans ?_, h44.trans ?_, h46.trans ?_, h47.trans ?_, hargs⟩
  · rw [Cert.Reference4Ideal.Read.val_main_v42_eq]
    exact (Cert.Proof.InProjSample.Reference.q_eq _ _ _ _).trans (Cert.Proof.InProjSample.final5 m c).symm
  · rw [Cert.Reference4Ideal.Read.val_main_v44_eq]
    exact (Cert.Proof.InProjSample.Reference.k_eq _ _ _ _).trans (Cert.Proof.InProjSample.final6 m c).symm
  · rw [Cert.Reference4Ideal.Read.val_main_v46_eq]
    exact (Cert.Proof.InProjSample.Reference.v_eq _ _ _ _).trans (Cert.Proof.InProjSample.final7 m c).symm
  · rw [Cert.Reference4Ideal.Read.val_main_v47_eq]
    exact (Cert.Proof.InProjSample.Reference.u_eq _ _ _ _).trans (Cert.Proof.InProjSample.final8 m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Pre_finite.Gen.facts, Cert.Pre_routed.Gen.facts,
    fun m ρ _ => Cert.Proof.Kernel.frame m ρ,
    fun m ρ _ => Cert.Proof.KernelIdeal.frame m ρ,
    fun m ρ _ => Cert.Proof.KernelIdeal.frame m ρ,
    fun m ρ _ => reference_frame m ρ,
    fun m ρ _ => reference_frame m ρ,
    fun m ρ _ => Cert.Kernel2.Gen.frame m ρ,
    fun m ρ _ => Cert.Kernel2Ideal.Gen.frame m ρ,
    fun m ρ _ => reference2_frame m ρ,
    kernel3_frame,
    kernel3Ideal_frame,
    fun m ρ _ => reference3_frame m ρ,
    fun m ρ _ => reference3_frame m ρ,
    fun m ρ _ => Cert.Kernel4.Gen.frame m ρ,
    fun m ρ _ => Cert.Kernel4Ideal.Gen.frame m ρ,
    fun m ρ _ => reference4_frame m ρ,
    ⟨IdealRules.named_const.statement Cert.KernelIdeal.κ "mask" .f32 0xF149F2CA#32 ⊥ rfl,
      IdealRules.named_const.statement Cert.KernelIdeal.κ "removed" .f32 0xFF61B1E6#32 ⊥ rfl⟩,
    results,
    trivial,
    in_proj,
    trivial,
    experts,
    trivial,
    in_proj_sample⟩

end Cert.Proof

end
